-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_values) = v0 c
          ∧ r.2.mem ((c.tc : Thread Cert.Reference.nD Cert.Reference.τ).loc Cert.Reference.main_indices) = v1 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S128x32768 : Shape := ⟨2, ![128, 32768]⟩
abbrev S128x256 : Shape := ⟨2, ![128, 256]⟩
abbrev S32768 : Shape := ⟨1, ![32768]⟩
abbrev S4384 : Shape := ⟨1, ![4384]⟩
abbrev S256 : Shape := ⟨1, ![256]⟩
abbrev S_ : Shape := ⟨0, ![]⟩
abbrev S16 : Shape := ⟨1, ![16]⟩
abbrev S1x32768 : Shape := ⟨2, ![1, 32768]⟩
abbrev S1 : Shape := ⟨1, ![1]⟩
abbrev S15 : Shape := ⟨1, ![15]⟩
abbrev S2 : Shape := ⟨1, ![2]⟩
abbrev S14 : Shape := ⟨1, ![14]⟩
abbrev S4 : Shape := ⟨1, ![4]⟩
abbrev S12 : Shape := ⟨1, ![12]⟩
abbrev S8 : Shape := ⟨1, ![8]⟩
abbrev S1x256 : Shape := ⟨2, ![1, 256]⟩

abbrev nBuf : Table → Nat
  | .hbm => 3
  | .local .scVector .vmem => 8
  | _ => 0

abbrev bufTy : (tb : Table) → Fin (nBuf tb) → BufTy
  | .hbm, ⟨0, _⟩ => ⟨S128x32768, .f32⟩
  | .hbm, ⟨1, _⟩ => ⟨S128x256, .f32⟩
  | .hbm, ⟨2, _⟩ => ⟨S128x256, .i32⟩
  | .local .scVector .vmem, ⟨0, _⟩ => ⟨S32768, .f32⟩
  | .local .scVector .vmem, ⟨1, _⟩ => ⟨S32768, .i32⟩
  | .local .scVector .vmem, ⟨2, _⟩ => ⟨S32768, .i32⟩
  | .local .scVector .vmem, ⟨3, _⟩ => ⟨S4384, .i32⟩
  | .local .scVector .vmem, ⟨4, _⟩ => ⟨S256, .i32⟩
  | .local .scVector .vmem, ⟨5, _⟩ => ⟨S256, .i32⟩
  | .local .scVector .vmem, ⟨6, _⟩ => ⟨S256, .f32⟩
  | .local .scVector .vmem, ⟨7, _⟩ => ⟨S256, .i32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v11 : BitVec 32 := Scalar.muli v1 c4_i32
  let c0_i32_6_r0 : BitVec 32 := 0#32
  ![v11.toNat, 0]
@[reducible] def k0_t1_loop : Scf.Loop 32 :=
  let c0_i32_2 : BitVec 32 := 0#32
  let c4_i32_3 : BitVec 32 := 4#32
  let v12 : BitVec 32 := Scalar.addi c0_i32_2 c4_i32_3
  let c1_i32_4 : BitVec 32 := 1#32
  ⟨c0_i32_2, v12, c1_i32_4⟩
@[reducible] def k0_t2_loop : Scf.Loop 32 :=
  let c0_i32_7 : BitVec 32 := 0#32
  let c18_i32 : BitVec 32 := 18#32
  let v16 : BitVec 32 := Scalar.addi c0_i32_7 c18_i32
  let c1_i32_8 : BitVec 32 := 1#32
  ⟨c0_i32_7, v16, c1_i32_8⟩
def k0_off2 (k0_t2 : Fin k0_t2_loop.trips) (c0_i32_2170 : BitVec 32) : Fin 1 → Nat :=
  let c16_i32_2169 : BitVec 32 := 16#32
  let c0_i32_2168 : BitVec 32 := 0#32
  let c0_i32_7 : BitVec 32 := 0#32
  let c1_i32_8 : BitVec 32 := 1#32
  let arg16 : BitVec 32 := Scf.iv c0_i32_7 c1_i32_8 k0_t2
  let c1_i32_2167 : BitVec 32 := 1#32
  let v14898 : BitVec 32 := Scalar.muli arg16 c1_i32_2167
  let v14899 : BitVec 32 := Scalar.addi c0_i32_2168 v14898
  let v14900 : BitVec 32 := Scalar.muli c16_i32_2169 v14899
  let v14901 : BitVec 32 := Scalar.addi c0_i32_2170 v14900
  let v14902 : Index := Scalar.indexCast v14901
  ![v14902.toNat]
@[reducible] def k0_t3_loop : Scf.Loop 32 :=
  let c0_i32_10 : BitVec 32 := 0#32
  let c2048_i32 : BitVec 32 := 2048#32
  let v17 : BitVec 32 := Scalar.addi c0_i32_10 c2048_i32
  let c1_i32_11 : BitVec 32 := 1#32
  ⟨c0_i32_10, v17, c1_i32_11⟩
def k0_off3 (k0_t3 : Fin k0_t3_loop.trips) : Fin 1 → Nat :=
  let c16_i32_2169 : BitVec 32 := 16#32
  let c0_i32_2168 : BitVec 32 := 0#32
  let c0_i32_10 : BitVec 32 := 0#32
  let c1_i32_11 : BitVec 32 := 1#32
  let arg16 : BitVec 32 := Scf.iv c0_i32_10 c1_i32_11 k0_t3
  let c1_i32_2167 : BitVec 32 := 1#32
  let v14898 : BitVec 32 := Scalar.muli arg16 c1_i32_2167
  let v14899 : BitVec 32 := Scalar.addi c0_i32_2168 v14898
  let v14900 : BitVec 32 := Scalar.muli c16_i32_2169 v14899
  let v14901 : Index := Scalar.indexCast v14900
  ![v14901.toNat]

def k0_chk1 (v14911 : IVec S16 32) : Prop :=
  (∀ a x, ((![v14911] : Fin 1 → IVec S16 32) a x).toNat < S4384.size a)
theorem k0_idx1_inb : ∀ (v14911 : IVec S16 32) (k0_hw1 : k0_chk1 v14911), ∀ a x, ((![v14911] : Fin 1 → IVec S16 32) a x).toNat < S4384.size a := fun v14911 k0_hw1 => k0_hw1
@[reducible] def k0_t4_loop : Scf.Loop 32 :=
  let c0_i32_274 : BitVec 32 := 0#32
  let c2048_i32_275 : BitVec 32 := 2048#32
  let v1334 : BitVec 32 := Scalar.addi c0_i32_274 c2048_i32_275
  let c1_i32_276 : BitVec 32 := 1#32
  ⟨c0_i32_274, v1334, c1_i32_276⟩
def k0_off4 (k0_t4 : Fin k0_t4_loop.trips) : Fin 1 → Nat :=
  let c16_i32_2169 : BitVec 32 := 16#32
  let c0_i32_2168 : BitVec 32 := 0#32
  let c0_i32_274 : BitVec 32 := 0#32
  let c1_i32_276 : BitVec 32 := 1#32
  let arg16 : BitVec 32 := Scf.iv c0_i32_274 c1_i32_276 k0_t4
  let c1_i32_2167 : BitVec 32 := 1#32
  let v14898 : BitVec 32 := Scalar.muli arg16 c1_i32_2167
  let v14899 : BitVec 32 := Scalar.addi c0_i32_2168 v14898
  let v14900 : BitVec 32 := Scalar.muli c16_i32_2169 v14899
  let v14901 : Index := Scalar.indexCast v14900
  ![v14901.toNat]

def k0_chk2 (v14917 : IVec S16 32) : Prop :=
  (∀ a x, ((![v14917] : Fin 1 → IVec S16 32) a x).toNat < S32768.size a) ∧
  (∀ a x, ((![v14917] : Fin 1 → IVec S16 32) a x).toNat < S32768.size a)
theorem k0_idx2_inb : ∀ (v14917 : IVec S16 32) (k0_hw2 : k0_chk2 v14917), ∀ a x, ((![v14917] : Fin 1 → IVec S16 32) a x).toNat < S32768.size a := fun v14917 k0_hw2 => k0_hw2.1
theorem k0_idx3_inb : ∀ (v14917 : IVec S16 32) (k0_hw2 : k0_chk2 v14917), ∀ a x, ((![v14917] : Fin 1 → IVec S16 32) a x).toNat < S32768.size a := fun v14917 k0_hw2 => k0_hw2.2
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_279 : BitVec 32 := 4#32
  let v1340 : BitVec 32 := Scalar.muli v1 c4_i32_279
  let c0_i32_2 : BitVec 32 := 0#32
  let c1_i32_4 : BitVec 32 := 1#32
  let arg14 : BitVec 32 := Scf.iv c0_i32_2 c1_i32_4 k0_t1
  let c1_i32_278 : BitVec 32 := 1#32
  let v1338 : BitVec 32 := Scalar.addi arg14 c1_i32_278
  let c3_i32 : BitVec 32 := 3#32
  let v1339 : BitVec 32 := Scalar.minsi v1338 c3_i32
  let v1341 : BitVec 32 := Scalar.addi v1340 v1339
  let c0_i32_280 : BitVec 32 := 0#32
  ![v1341.toNat, 0]
@[reducible] def k0_t5_loop : Scf.Loop 32 :=
  let c0_i32_284 : BitVec 32 := 0#32
  let c3_i32_285 : BitVec 32 := 3#32
  let v1347 : BitVec 32 := Scalar.addi c0_i32_284 c3_i32_285
  let c1_i32_286 : BitVec 32 := 1#32
  ⟨c0_i32_284, v1347, c1_i32_286⟩
@[reducible] def k0_t6_loop : Scf.Loop 32 :=
  let c0_i32_2169 : BitVec 32 := 0#32
  let c18_i32_2170 : BitVec 32 := 18#32
  let v14900 : BitVec 32 := Scalar.addi c0_i32_2169 c18_i32_2170
  let c1_i32_2171 : BitVec 32 := 1#32
  ⟨c0_i32_2169, v14900, c1_i32_2171⟩
def k0_off6 (k0_t6 : Fin k0_t6_loop.trips) (c0_i32_2733 : BitVec 32) : Fin 1 → Nat :=
  let c16_i32_2732 : BitVec 32 := 16#32
  let c0_i32_2731 : BitVec 32 := 0#32
  let c0_i32_2169 : BitVec 32 := 0#32
  let c1_i32_2171 : BitVec 32 := 1#32
  let arg21 : BitVec 32 := Scf.iv c0_i32_2169 c1_i32_2171 k0_t6
  let c1_i32_2730 : BitVec 32 := 1#32
  let v16255 : BitVec 32 := Scalar.muli arg21 c1_i32_2730
  let v16256 : BitVec 32 := Scalar.addi c0_i32_2731 v16255
  let v16257 : BitVec 32 := Scalar.muli c16_i32_2732 v16256
  let v16258 : BitVec 32 := Scalar.addi c0_i32_2733 v16257
  let v16259 : Index := Scalar.indexCast v16258
  ![v16259.toNat]
@[reducible] def k0_t7_loop (arg17 : BitVec 32) : Scf.Loop 32 :=
  let c0_i32_2187 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let c0_i32_2181 : BitVec 32 := 0#32
  let v14919 : BitVec 32 := Scalar.subi v14918 c0_i32_2181
  let c1_i32_2182 : BitVec 32 := 1#32
  let c1_i32_2183 : BitVec 32 := 1#32
  let v14920 : BitVec 32 := Scalar.subi c1_i32_2182 c1_i32_2183
  let v14921 : BitVec 32 := Scalar.addi v14919 v14920
  let c1_i32_2184 : BitVec 32 := 1#32
  let v14922 : BitVec 32 := Scalar.divsi v14921 c1_i32_2184
  let v14923 : BitVec 32 := Scalar.subi v14922 c0_i32_2187
  let c1_i32_2188 : BitVec 32 := 1#32
  let v14925 : BitVec 32 := Scalar.divsi v14923 c1_i32_2188
  let v14926 : BitVec 32 := Scalar.muli v14925 c1_i32_2188
  let v14927 : BitVec 32 := Scalar.addi c0_i32_2187 v14926
  let c1_i32_2189 : BitVec 32 := 1#32
  ⟨c0_i32_2187, v14927, c1_i32_2189⟩

def k0_off7 (arg17 : BitVec 32) (k0_t7 : Fin (k0_t7_loop arg17).trips) : Fin 1 → Nat :=
  let c16_i32_2730 : BitVec 32 := 16#32
  let c0_i32_2186 : BitVec 32 := 0#32
  let c0_i32_2187 : BitVec 32 := 0#32
  let c1_i32_2189 : BitVec 32 := 1#32
  let arg21 : BitVec 32 := Scf.iv c0_i32_2187 c1_i32_2189 k0_t7
  let c1_i32_2185 : BitVec 32 := 1#32
  let v16255 : BitVec 32 := Scalar.muli arg21 c1_i32_2185
  let v16256 : BitVec 32 := Scalar.addi c0_i32_2186 v16255
  let v16257 : BitVec 32 := Scalar.muli c16_i32_2730 v16256
  let v16258 : Index := Scalar.indexCast v16257
  ![v16258.toNat]

def k0_chk4 (v16276 : IVec S16 32) : Prop :=
  (∀ a x, ((![v16276] : Fin 1 → IVec S16 32) a x).toNat < S4384.size a)
theorem k0_idx4_inb : ∀ (v16276 : IVec S16 32) (k0_hw4 : k0_chk4 v16276), ∀ a x, ((![v16276] : Fin 1 → IVec S16 32) a x).toNat < S4384.size a := fun v16276 k0_hw4 => k0_hw4
@[reducible] def k0_t8_loop (arg17 : BitVec 32) : Scf.Loop 32 :=
  let c0_i32_2187 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let c0_i32_2181 : BitVec 32 := 0#32
  let v14919 : BitVec 32 := Scalar.subi v14918 c0_i32_2181
  let c1_i32_2182 : BitVec 32 := 1#32
  let c1_i32_2183 : BitVec 32 := 1#32
  let v14920 : BitVec 32 := Scalar.subi c1_i32_2182 c1_i32_2183
  let v14921 : BitVec 32 := Scalar.addi v14919 v14920
  let c1_i32_2184 : BitVec 32 := 1#32
  let v14922 : BitVec 32 := Scalar.divsi v14921 c1_i32_2184
  let v14923 : BitVec 32 := Scalar.subi v14922 c0_i32_2187
  let c1_i32_2188 : BitVec 32 := 1#32
  let v14925 : BitVec 32 := Scalar.divsi v14923 c1_i32_2188
  let v14926 : BitVec 32 := Scalar.muli v14925 c1_i32_2188
  let v14927 : BitVec 32 := Scalar.addi c0_i32_2187 v14926
  let v14924 : BitVec 32 := Scalar.addi c0_i32_2187 v14923
  let c1_i32_2190 : BitVec 32 := 1#32
  ⟨v14927, v14924, c1_i32_2190⟩
def k0_off8 (arg17 : BitVec 32) (k0_t8 : Fin (k0_t8_loop arg17).trips) : Fin 1 → Nat :=
  let c16_i32_2730 : BitVec 32 := 16#32
  let c0_i32_2186 : BitVec 32 := 0#32
  let c0_i32_2187 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let c0_i32_2181 : BitVec 32 := 0#32
  let v14919 : BitVec 32 := Scalar.subi v14918 c0_i32_2181
  let c1_i32_2182 : BitVec 32 := 1#32
  let c1_i32_2183 : BitVec 32 := 1#32
  let v14920 : BitVec 32 := Scalar.subi c1_i32_2182 c1_i32_2183
  let v14921 : BitVec 32 := Scalar.addi v14919 v14920
  let c1_i32_2184 : BitVec 32 := 1#32
  let v14922 : BitVec 32 := Scalar.divsi v14921 c1_i32_2184
  let v14923 : BitVec 32 := Scalar.subi v14922 c0_i32_2187
  let c1_i32_2188 : BitVec 32 := 1#32
  let v14925 : BitVec 32 := Scalar.divsi v14923 c1_i32_2188
  let v14926 : BitVec 32 := Scalar.muli v14925 c1_i32_2188
  let v14927 : BitVec 32 := Scalar.addi c0_i32_2187 v14926
  let c1_i32_2190 : BitVec 32 := 1#32
  let arg21 : BitVec 32 := Scf.iv v14927 c1_i32_2190 k0_t8
  let c1_i32_2185 : BitVec 32 := 1#32
  let v16255 : BitVec 32 := Scalar.muli arg21 c1_i32_2185
  let v16256 : BitVec 32 := Scalar.addi c0_i32_2186 v16255
  let v16257 : BitVec 32 := Scalar.muli c16_i32_2730 v16256
  let v16258 : Index := Scalar.indexCast v16257
  ![v16258.toNat]

def k0_chk5 (v16276 : IVec S16 32) : Prop :=
  (∀ a x, ((![v16276] : Fin 1 → IVec S16 32) a x).toNat < S4384.size a)
theorem k0_idx5_inb : ∀ (v16276 : IVec S16 32) (k0_hw5 : k0_chk5 v16276), ∀ a x, ((![v16276] : Fin 1 → IVec S16 32) a x).toNat < S4384.size a := fun v16276 k0_hw5 => k0_hw5
@[reducible] def k0_t9_loop (arg17 : BitVec 32) : Scf.Loop 32 :=
  let c0_i32_2725 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let v16243 : BitVec 32 := Scalar.subi v14918 c0_i32_2725
  let c1_i32_2726 : BitVec 32 := 1#32
  let v16245 : BitVec 32 := Scalar.divsi v16243 c1_i32_2726
  let v16246 : BitVec 32 := Scalar.muli v16245 c1_i32_2726
  let v16247 : BitVec 32 := Scalar.addi c0_i32_2725 v16246
  let c1_i32_2727 : BitVec 32 := 1#32
  ⟨c0_i32_2725, v16247, c1_i32_2727⟩
def k0_off9 (arg17 : BitVec 32) (k0_t9 : Fin (k0_t9_loop arg17).trips) : Fin 1 → Nat :=
  let c16_i32_2730 : BitVec 32 := 16#32
  let c0_i32_2725 : BitVec 32 := 0#32
  let c1_i32_2727 : BitVec 32 := 1#32
  let arg21 : BitVec 32 := Scf.iv c0_i32_2725 c1_i32_2727 k0_t9
  let v16255 : BitVec 32 := Scalar.muli c16_i32_2730 arg21
  let v16256 : Index := Scalar.indexCast v16255
  ![v16256.toNat]

def k0_chk6 (v16288 : IVec S16 32) : Prop :=
  (∀ a x, ((![v16288] : Fin 1 → IVec S16 32) a x).toNat < S256.size a) ∧
  (∀ a x, ((![v16288] : Fin 1 → IVec S16 32) a x).toNat < S256.size a)
theorem k0_idx6_inb : ∀ (v16288 : IVec S16 32) (k0_hw6 : k0_chk6 v16288), ∀ a x, ((![v16288] : Fin 1 → IVec S16 32) a x).toNat < S256.size a := fun v16288 k0_hw6 => k0_hw6.1
theorem k0_idx7_inb : ∀ (v16288 : IVec S16 32) (k0_hw6 : k0_chk6 v16288), ∀ a x, ((![v16288] : Fin 1 → IVec S16 32) a x).toNat < S256.size a := fun v16288 k0_hw6 => k0_hw6.2

def k0_chk7 (v16292 : IVec S16 32) : Prop :=
  (∀ a x, ((![v16292] : Fin 1 → IVec S16 32) a x).toNat < S32768.size a) ∧
  (∀ a x, ((![v16292] : Fin 1 → IVec S16 32) a x).toNat < S32768.size a)
theorem k0_idx8_inb : ∀ (v16292 : IVec S16 32) (k0_hw7 : k0_chk7 v16292), ∀ a x, ((![v16292] : Fin 1 → IVec S16 32) a x).toNat < S32768.size a := fun v16292 k0_hw7 => k0_hw7.1
theorem k0_idx9_inb : ∀ (v16292 : IVec S16 32) (k0_hw7 : k0_chk7 v16292), ∀ a x, ((![v16292] : Fin 1 → IVec S16 32) a x).toNat < S32768.size a := fun v16292 k0_hw7 => k0_hw7.2
@[reducible] def k0_t10_loop (arg17 : BitVec 32) : Scf.Loop 32 :=
  let c0_i32_2725 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let v16243 : BitVec 32 := Scalar.subi v14918 c0_i32_2725
  let c1_i32_2726 : BitVec 32 := 1#32
  let v16245 : BitVec 32 := Scalar.divsi v16243 c1_i32_2726
  let v16246 : BitVec 32 := Scalar.muli v16245 c1_i32_2726
  let v16247 : BitVec 32 := Scalar.addi c0_i32_2725 v16246
  let v16244 : BitVec 32 := Scalar.addi c0_i32_2725 v16243
  let c1_i32_2728 : BitVec 32 := 1#32
  ⟨v16247, v16244, c1_i32_2728⟩
def k0_off10 (arg17 : BitVec 32) (k0_t10 : Fin (k0_t10_loop arg17).trips) : Fin 1 → Nat :=
  let c16_i32_2730 : BitVec 32 := 16#32
  let c0_i32_2725 : BitVec 32 := 0#32
  let c15_i32_2173 : BitVec 32 := 15#32
  let v14901 : BitVec 32 := Scalar.addi arg17 c15_i32_2173
  let c0_i32_2175 : BitVec 32 := 0#32
  let v14903 : BitVec 1 := Scalar.cmpi .sgt v14901 c0_i32_2175
  let v14904 : BitVec 32 := Scalar.extui v14903
  let c0_i32_2176 : BitVec 32 := 0#32
  let v14905 : BitVec 1 := Scalar.cmpi .slt v14901 c0_i32_2176
  let v14906 : BitVec 32 := Scalar.extui v14905
  let v14907 : BitVec 32 := Scalar.subi v14904 v14906
  let c16_i32_2174 : BitVec 32 := 16#32
  let c0_i32_2177 : BitVec 32 := 0#32
  let v14908 : BitVec 1 := Scalar.cmpi .sgt c16_i32_2174 c0_i32_2177
  let v14909 : BitVec 32 := Scalar.extui v14908
  let c0_i32_2178 : BitVec 32 := 0#32
  let v14910 : BitVec 1 := Scalar.cmpi .slt c16_i32_2174 c0_i32_2178
  let v14911 : BitVec 32 := Scalar.extui v14910
  let v14912 : BitVec 32 := Scalar.subi v14909 v14911
  let v14913 : BitVec 1 := Scalar.cmpi .ne v14907 v14912
  let v14914 : BitVec 32 := Scalar.remsi v14901 c16_i32_2174
  let c0_i32_2179 : BitVec 32 := 0#32
  let v14915 : BitVec 1 := Scalar.cmpi .ne v14914 c0_i32_2179
  let v14916 : BitVec 1 := Scalar.andi v14913 v14915
  let v14902 : BitVec 32 := Scalar.divsi v14901 c16_i32_2174
  let c1_i32_2180 : BitVec 32 := 1#32
  let v14917 : BitVec 32 := Scalar.subi v14902 c1_i32_2180
  let v14918 : BitVec 32 := Scalar.select v14916 v14917 v14902
  let v16243 : BitVec 32 := Scalar.subi v14918 c0_i32_2725
  let c1_i32_2726 : BitVec 32 := 1#32
  let v16245 : BitVec 32 := Scalar.divsi v16243 c1_i32_2726
  let v16246 : BitVec 32 := Scalar.muli v16245 c1_i32_2726
  let v16247 : BitVec 32 := Scalar.addi c0_i32_2725 v16246
  let c1_i32_2728 : BitVec 32 := 1#32
  let arg21 : BitVec 32 := Scf.iv v16247 c1_i32_2728 k0_t10
  let v16255 : BitVec 32 := Scalar.muli c16_i32_2730 arg21
  let v16256 : Index := Scalar.indexCast v16255
  ![v16256.toNat]

def k0_chk3 (arg17 : BitVec 32) : Prop :=
  ((k0_t7_loop arg17).OK) ∧
  (∀ k0_t7 : Fin (k0_t7_loop arg17).trips, ∀ a, (k0_off7 arg17 k0_t7) a + S16.size a ≤ S32768.size a) ∧
  ((k0_t8_loop arg17).OK) ∧
  (∀ k0_t8 : Fin (k0_t8_loop arg17).trips, ∀ a, (k0_off8 arg17 k0_t8) a + S16.size a ≤ S32768.size a) ∧
  ((k0_t9_loop arg17).OK) ∧
  (∀ k0_t9 : Fin (k0_t9_loop arg17).trips, ∀ a, (k0_off9 arg17 k0_t9) a + S16.size a ≤ S32768.size a) ∧
  ((k0_t10_loop arg17).OK) ∧
  (∀ k0_t10 : Fin (k0_t10_loop arg17).trips, ∀ a, (k0_off10 arg17 k0_t10) a + S16.size a ≤ S32768.size a)
theorem k0_t7_ok : ∀ (arg17 : BitVec 32) (k0_hw3 : k0_chk3 arg17), (k0_t7_loop arg17).OK := fun arg17 k0_hw3 => k0_hw3.1
theorem k0_off7_inb : ∀ (arg17 : BitVec 32) (k0_hw3 : k0_chk3 arg17) (k0_t7 : Fin (k0_t7_loop arg17).trips), ∀ a, (k0_off7 arg17 k0_t7) a + S16.size a ≤ S32768.size a := fun arg17 k0_hw3 k0_t7 => k0_hw3.2.1 k0_t7
theorem k0_t8_ok : ∀ (arg17 : BitVec 32) (k0_hw3 : k0_chk3 arg17), (k0_t8_loop arg17).OK := fun arg17 k0_hw3 => k0_hw3.2.2.1
theorem k0_off8_inb : ∀ (arg17 : BitVec 32) (k0_hw3 : k0_chk3 arg17) (k0_t8 : Fin (k0_t8_loop arg17).trips), ∀ a, (k0_off8 arg17 k0_t8) a + S16.size a ≤ S32768.size a := fun arg17 k0_hw3 k0_t8 => k0_hw3.2.2.2.1 k0_t8
theorem k0_t9_ok : ∀ (arg17 : BitVec 32) (k0_hw3 : k0_chk3 arg17), (k0_t9_loop arg17).OK := fun arg17 k0_hw3 => k0_hw3.2.2.2.2.1
theorem k0_off9_inb : ∀ (arg17 : BitVec 32) (k0_hw3 : k0_chk3 arg17) (k0_t9 : Fin (k0_t9_loop arg17).trips), ∀ a, (k0_off9 arg17 k0_t9) a + S16.size a ≤ S32768.size a := fun arg17 k0_hw3 k0_t9 => k0_hw3.2.2.2.2.2.1 k0_t9
theorem k0_t10_ok : ∀ (arg17 : BitVec 32) (k0_hw3 : k0_chk3 arg17), (k0_t10_loop arg17).OK := fun arg17 k0_hw3 => k0_hw3.2.2.2.2.2.2.1
theorem k0_off10_inb : ∀ (arg17 : BitVec 32) (k0_hw3 : k0_chk3 arg17) (k0_t10 : Fin (k0_t10_loop arg17).trips), ∀ a, (k0_off10 arg17 k0_t10) a + S16.size a ≤ S32768.size a := fun arg17 k0_hw3 k0_t10 => k0_hw3.2.2.2.2.2.2.2 k0_t10

def k0_chk8 (v16288 : IVec S16 32) : Prop :=
  (∀ a x, ((![v16288] : Fin 1 → IVec S16 32) a x).toNat < S256.size a) ∧
  (∀ a x, ((![v16288] : Fin 1 → IVec S16 32) a x).toNat < S256.size a)
theorem k0_idx10_inb : ∀ (v16288 : IVec S16 32) (k0_hw8 : k0_chk8 v16288), ∀ a x, ((![v16288] : Fin 1 → IVec S16 32) a x).toNat < S256.size a := fun v16288 k0_hw8 => k0_hw8.1
theorem k0_idx11_inb : ∀ (v16288 : IVec S16 32) (k0_hw8 : k0_chk8 v16288), ∀ a x, ((![v16288] : Fin 1 → IVec S16 32) a x).toNat < S256.size a := fun v16288 k0_hw8 => k0_hw8.2

def k0_chk9 (v16292 : IVec S16 32) : Prop :=
  (∀ a x, ((![v16292] : Fin 1 → IVec S16 32) a x).toNat < S32768.size a) ∧
  (∀ a x, ((![v16292] : Fin 1 → IVec S16 32) a x).toNat < S32768.size a)
theorem k0_idx12_inb : ∀ (v16292 : IVec S16 32) (k0_hw9 : k0_chk9 v16292), ∀ a x, ((![v16292] : Fin 1 → IVec S16 32) a x).toNat < S32768.size a := fun v16292 k0_hw9 => k0_hw9.1
theorem k0_idx13_inb : ∀ (v16292 : IVec S16 32) (k0_hw9 : k0_chk9 v16292), ∀ a x, ((![v16292] : Fin 1 → IVec S16 32) a x).toNat < S32768.size a := fun v16292 k0_hw9 => k0_hw9.2
@[reducible] def k0_t11_loop (v1348_1 : BitVec 32) : Scf.Loop 32 :=
  let c0_i32_295 : BitVec 32 := 0#32
  let c15_i32 : BitVec 32 := 15#32
  let v1349 : BitVec 32 := Scalar.addi v1348_1 c15_i32
  let c0_i32_289 : BitVec 32 := 0#32
  let v1351 : BitVec 1 := Scalar.cmpi .sgt v1349 c0_i32_289
  let v1352 : BitVec 32 := Scalar.extui v1351
  let c0_i32_290 : BitVec 32 := 0#32
  let v1353 : BitVec 1 := Scalar.cmpi .slt v1349 c0_i32_290
  let v1354 : BitVec 32 := Scalar.extui v1353
  let v1355 : BitVec 32 := Scalar.subi v1352 v1354
  let c16_i32_288 : BitVec 32 := 16#32
  let c0_i32_291 : BitVec 32 := 0#32
  let v1356 : BitVec 1 := Scalar.cmpi .sgt c16_i32_288 c0_i32_291
  let v1357 : BitVec 32 := Scalar.extui v1356
  let c0_i32_292 : BitVec 32 := 0#32
  let v1358 : BitVec 1 := Scalar.cmpi .slt c16_i32_288 c0_i32_292
  let v1359 : BitVec 32 := Scalar.extui v1358
  let v1360 : BitVec 32 := Scalar.subi v1357 v1359
  let v1361 : BitVec 1 := Scalar.cmpi .ne v1355 v1360
  let v1362 : BitVec 32 := Scalar.remsi v1349 c16_i32_288
  let c0_i32_293 : BitVec 32 := 0#32
  let v1363 : BitVec 1 := Scalar.cmpi .ne v1362 c0_i32_293
  let v1364 : BitVec 1 := Scalar.andi v1361 v1363
  let v1350 : BitVec 32 := Scalar.divsi v1349 c16_i32_288
  let c1_i32_294 : BitVec 32 := 1#32
  let v1365 : BitVec 32 := Scalar.subi v1350 c1_i32_294
  let v1366 : BitVec 32 := Scalar.select v1364 v1365 v1350
  let v1367 : BitVec 32 := Scalar.subi v1366 c0_i32_295
  let c1_i32_297 : BitVec 32 := 1#32
  let v1369 : BitVec 32 := Scalar.divsi v1367 c1_i32_297
  let v1370 : BitVec 32 := Scalar.muli v1369 c1_i32_297
  let v1371 : BitVec 32 := Scalar.addi c0_i32_295 v1370
  let c1_i32_298 : BitVec 32 := 1#32
  ⟨c0_i32_295, v1371, c1_i32_298⟩

def k0_off11 (v1348_1 : BitVec 32) (k0_t11 : Fin (k0_t11_loop v1348_1).trips) : Fin 1 → Nat :=
  let c16_i32_2167 : BitVec 32 := 16#32
  let c0_i32_295 : BitVec 32 := 0#32
  let c1_i32_298 : BitVec 32 := 1#32
  let arg16 : BitVec 32 := Scf.iv c0_i32_295 c1_i32_298 k0_t11
  let v14898 : BitVec 32 := Scalar.muli c16_i32_2167 arg16
  let v14899 : Index := Scalar.indexCast v14898
  ![v14899.toNat]

def k0_chk11 (v14911 : IVec S16 32) : Prop :=
  (∀ a x, ((![v14911] : Fin 1 → IVec S16 32) a x).toNat < S256.size a)
theorem k0_idx14_inb : ∀ (v14911 : IVec S16 32) (k0_hw11 : k0_chk11 v14911), ∀ a x, ((![v14911] : Fin 1 → IVec S16 32) a x).toNat < S256.size a := fun v14911 k0_hw11 => k0_hw11

def k0_chk12 (v14914 : IVec S16 32) : Prop :=
  (∀ a x, ((![v14914] : Fin 1 → IVec S16 32) a x).toNat < S256.size a)
theorem k0_idx15_inb : ∀ (v14914 : IVec S16 32) (k0_hw12 : k0_chk12 v14914), ∀ a x, ((![v14914] : Fin 1 → IVec S16 32) a x).toNat < S256.size a := fun v14914 k0_hw12 => k0_hw12
@[reducible] def k0_t12_loop (v1348_1 : BitVec 32) : Scf.Loop 32 :=
  let c0_i32_295 : BitVec 32 := 0#32
  let c15_i32 : BitVec 32 := 15#32
  let v1349 : BitVec 32 := Scalar.addi v1348_1 c15_i32
  let c0_i32_289 : BitVec 32 := 0#32
  let v1351 : BitVec 1 := Scalar.cmpi .sgt v1349 c0_i32_289
  let v1352 : BitVec 32 := Scalar.extui v1351
  let c0_i32_290 : BitVec 32 := 0#32
  let v1353 : BitVec 1 := Scalar.cmpi .slt v1349 c0_i32_290
  let v1354 : BitVec 32 := Scalar.extui v1353
  let v1355 : BitVec 32 := Scalar.subi v1352 v1354
  let c16_i32_288 : BitVec 32 := 16#32
  let c0_i32_291 : BitVec 32 := 0#32
  let v1356 : BitVec 1 := Scalar.cmpi .sgt c16_i32_288 c0_i32_291
  let v1357 : BitVec 32 := Scalar.extui v1356
  let c0_i32_292 : BitVec 32 := 0#32
  let v1358 : BitVec 1 := Scalar.cmpi .slt c16_i32_288 c0_i32_292
  let v1359 : BitVec 32 := Scalar.extui v1358
  let v1360 : BitVec 32 := Scalar.subi v1357 v1359
  let v1361 : BitVec 1 := Scalar.cmpi .ne v1355 v1360
  let v1362 : BitVec 32 := Scalar.remsi v1349 c16_i32_288
  let c0_i32_293 : BitVec 32 := 0#32
  let v1363 : BitVec 1 := Scalar.cmpi .ne v1362 c0_i32_293
  let v1364 : BitVec 1 := Scalar.andi v1361 v1363
  let v1350 : BitVec 32 := Scalar.divsi v1349 c16_i32_288
  let c1_i32_294 : BitVec 32 := 1#32
  let v1365 : BitVec 32 := Scalar.subi v1350 c1_i32_294
  let v1366 : BitVec 32 := Scalar.select v1364 v1365 v1350
  let v1367 : BitVec 32 := Scalar.subi v1366 c0_i32_295
  let c1_i32_297 : BitVec 32 := 1#32
  let v1369 : BitVec 32 := Scalar.divsi v1367 c1_i32_297
  let v1370 : BitVec 32 := Scalar.muli v1369 c1_i32_297
  let v1371 : BitVec 32 := Scalar.addi c0_i32_295 v1370
  let v1368 : BitVec 32 := Scalar.addi c0_i32_295 v1367
  let c1_i32_299 : BitVec 32 := 1#32
  ⟨v1371, v1368, c1_i32_299⟩
def k0_off12 (v1348_1 : BitVec 32) (k0_t12 : Fin (k0_t12_loop v1348_1).trips) : Fin 1 → Nat :=
  let c16_i32_2167 : BitVec 32 := 16#32
  let c0_i32_295 : BitVec 32 := 0#32
  let c15_i32 : BitVec 32 := 15#32
  let v1349 : BitVec 32 := Scalar.addi v1348_1 c15_i32
  let c0_i32_289 : BitVec 32 := 0#32
  let v1351 : BitVec 1 := Scalar.cmpi .sgt v1349 c0_i32_289
  let v1352 : BitVec 32 := Scalar.extui v1351
  let c0_i32_290 : BitVec 32 := 0#32
  let v1353 : BitVec 1 := Scalar.cmpi .slt v1349 c0_i32_290
  let v1354 : BitVec 32 := Scalar.extui v1353
  let v1355 : BitVec 32 := Scalar.subi v1352 v1354
  let c16_i32_288 : BitVec 32 := 16#32
  let c0_i32_291 : BitVec 32 := 0#32
  let v1356 : BitVec 1 := Scalar.cmpi .sgt c16_i32_288 c0_i32_291
  let v1357 : BitVec 32 := Scalar.extui v1356
  let c0_i32_292 : BitVec 32 := 0#32
  let v1358 : BitVec 1 := Scalar.cmpi .slt c16_i32_288 c0_i32_292
  let v1359 : BitVec 32 := Scalar.extui v1358
  let v1360 : BitVec 32 := Scalar.subi v1357 v1359
  let v1361 : BitVec 1 := Scalar.cmpi .ne v1355 v1360
  let v1362 : BitVec 32 := Scalar.remsi v1349 c16_i32_288
  let c0_i32_293 : BitVec 32 := 0#32
  let v1363 : BitVec 1 := Scalar.cmpi .ne v1362 c0_i32_293
  let v1364 : BitVec 1 := Scalar.andi v1361 v1363
  let v1350 : BitVec 32 := Scalar.divsi v1349 c16_i32_288
  let c1_i32_294 : BitVec 32 := 1#32
  let v1365 : BitVec 32 := Scalar.subi v1350 c1_i32_294
  let v1366 : BitVec 32 := Scalar.select v1364 v1365 v1350
  let v1367 : BitVec 32 := Scalar.subi v1366 c0_i32_295
  let c1_i32_297 : BitVec 32 := 1#32
  let v1369 : BitVec 32 := Scalar.divsi v1367 c1_i32_297
  let v1370 : BitVec 32 := Scalar.muli v1369 c1_i32_297
  let v1371 : BitVec 32 := Scalar.addi c0_i32_295 v1370
  let c1_i32_299 : BitVec 32 := 1#32
  let arg16 : BitVec 32 := Scf.iv v1371 c1_i32_299 k0_t12
  let v14898 : BitVec 32 := Scalar.muli c16_i32_2167 arg16
  let v14899 : Index := Scalar.indexCast v14898
  ![v14899.toNat]

def k0_chk10 (v1348_1 : BitVec 32) : Prop :=
  ((k0_t11_loop v1348_1).OK) ∧
  (∀ k0_t11 : Fin (k0_t11_loop v1348_1).trips, ∀ a, (k0_off11 v1348_1 k0_t11) a + S16.size a ≤ S32768.size a) ∧
  ((k0_t12_loop v1348_1).OK) ∧
  (∀ k0_t12 : Fin (k0_t12_loop v1348_1).trips, ∀ a, (k0_off12 v1348_1 k0_t12) a + S16.size a ≤ S32768.size a)
theorem k0_t11_ok : ∀ (v1348_1 : BitVec 32) (k0_hw10 : k0_chk10 v1348_1), (k0_t11_loop v1348_1).OK := fun v1348_1 k0_hw10 => k0_hw10.1
theorem k0_off11_inb : ∀ (v1348_1 : BitVec 32) (k0_hw10 : k0_chk10 v1348_1) (k0_t11 : Fin (k0_t11_loop v1348_1).trips), ∀ a, (k0_off11 v1348_1 k0_t11) a + S16.size a ≤ S32768.size a := fun v1348_1 k0_hw10 k0_t11 => k0_hw10.2.1 k0_t11
theorem k0_t12_ok : ∀ (v1348_1 : BitVec 32) (k0_hw10 : k0_chk10 v1348_1), (k0_t12_loop v1348_1).OK := fun v1348_1 k0_hw10 => k0_hw10.2.2.1
theorem k0_off12_inb : ∀ (v1348_1 : BitVec 32) (k0_hw10 : k0_chk10 v1348_1) (k0_t12 : Fin (k0_t12_loop v1348_1).trips), ∀ a, (k0_off12 v1348_1 k0_t12) a + S16.size a ≤ S32768.size a := fun v1348_1 k0_hw10 k0_t12 => k0_hw10.2.2.2 k0_t12

def k0_chk13 (v14911 : IVec S16 32) : Prop :=
  (∀ a x, ((![v14911] : Fin 1 → IVec S16 32) a x).toNat < S256.size a)
theorem k0_idx16_inb : ∀ (v14911 : IVec S16 32) (k0_hw13 : k0_chk13 v14911), ∀ a x, ((![v14911] : Fin 1 → IVec S16 32) a x).toNat < S256.size a := fun v14911 k0_hw13 => k0_hw13

def k0_chk14 (v14914 : IVec S16 32) : Prop :=
  (∀ a x, ((![v14914] : Fin 1 → IVec S16 32) a x).toNat < S256.size a)
theorem k0_idx17_inb : ∀ (v14914 : IVec S16 32) (k0_hw14 : k0_chk14 v14914), ∀ a x, ((![v14914] : Fin 1 → IVec S16 32) a x).toNat < S256.size a := fun v14914 k0_hw14 => k0_hw14
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_6 : BitVec 32 := 4#32
  let v14 : BitVec 32 := Scalar.muli v1 c4_i32_6
  let c0_i32_2 : BitVec 32 := 0#32
  let c1_i32_4 : BitVec 32 := 1#32
  let arg14 : BitVec 32 := Scf.iv c0_i32_2 c1_i32_4 k0_t1
  let v15 : BitVec 32 := Scalar.addi v14 arg14
  let c0_i32_2167_r1 : BitVec 32 := 0#32
  ![v15.toNat, 0]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_279 : BitVec 32 := 4#32
  let v1340 : BitVec 32 := Scalar.muli v1 c4_i32_279
  let c0_i32_2 : BitVec 32 := 0#32
  let c1_i32_4 : BitVec 32 := 1#32
  let arg14 : BitVec 32 := Scf.iv c0_i32_2 c1_i32_4 k0_t1
  let c1_i32_278 : BitVec 32 := 1#32
  let v1338 : BitVec 32 := Scalar.addi arg14 c1_i32_278
  let c3_i32 : BitVec 32 := 3#32
  let v1339 : BitVec 32 := Scalar.minsi v1338 c3_i32
  let v1341 : BitVec 32 := Scalar.addi v1340 v1339
  let c0_i32_2164 : BitVec 32 := 0#32
  ![v1341.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S128x32768 : Shape := ⟨2, ![128, 32768]⟩
abbrev S128x256 : Shape := ⟨2, ![128, 256]⟩

abbrev nBuf : Space → Nat
  | .hbm => 3
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x256, .f32⟩
  | .hbm, ⟨2, _⟩ => ⟨S128x256, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Base.lean ====
/-
  The kernel's program as the launch theorem sees it, the resource algebra, and the names of its arrays and scratch buffers:
  what every later module of this proof shares.
-/
module

public import proofs.«01_k».proof.Defs
public import proofs.«01_k».proof.Proof.Gen.Kernel
public import proofs.«01_k».proof.Proof.Gen.Kernel.Skeleton
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.SortKey
public import Idealize.ShloMosaic.Lib.SortPrefix
public import Idealize.ShloMosaic.Lib.SortNet.Bitonic
public import Idealize.ShloMosaic.Lib.WordArith.Masks
public import Idealize.ShloMosaic.Lib.Writes

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [BitOps F] : Labels := Pipeline.Sig Λ₀ (Fin 0) fun p => (pcfgs (F := F) p).Adm
abbrev K [BitOps F] : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds library and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the device -/

/-- The logits (the argument), the values and the indices (the two results), as locations of device `d`. -/
abbrev xLoc (d : Dev nD) : Loc nD τ sig := (SparseCore.T d).loc main_arg0
abbrev vLoc (d : Dev nD) : Loc nD τ sig := (SparseCore.T d).loc main_v0_0
abbrev iLoc (d : Dev nD) : Loc nD τ sig := (SparseCore.T d).loc main_v0_1

abbrev cV (L : grid0.Coords) : Fin τ.nSC := (L 0).castLE hcore0
abbrev jV (L : grid0.Coords) : Fin τ.nSub := (L 1).castLE hsub0
/-- The vector subcore that runs the task at grid coordinates `L`. -/
abbrev thr (d : Dev nD) (L : grid0.Coords) : Thread nD τ := V d (cV L) (jV L)

/-! ## What a vector subcore holds: its scratch buffers, and pieces of the arrays of the device -/

section
variable (d : Dev nD) (L : grid0.Coords)

/-- The contents of the buffer that `M` looks into, on the subcore at grid coordinates `L`. -/
abbrev Bf {sp : Space} {S : Shape} {e : EltTy} (M : Memref sig .scVector sp S e) : Type := Buf (Elt F) (M.view.loc (thr d L))
/-- The subcore holds the whole buffer that `M` looks into, with contents `f`. -/
abbrev pt {sp : Space} {S : Shape} {e : EltTy} (M : Memref sig .scVector sp S e) (f : Bf (F := F) d L M) : sProp 𝕄 :=
  M.view.loc (thr d L) ↦{fullShare} f
/-- The subcore holds the elements `M` shows of its buffer. -/
abbrev pts {sp : Space} {S : Shape} {e : EltTy} (M : Memref sig .scVector sp S e) (f : Bf (F := F) d L M) : sProp 𝕄 :=
  M.view.loc (thr d L) ↦[M.view.set]{fullShare} f
abbrev cell (s : DmaSems sig S_) : GSem nD τ sig := (thr d L, .dma s.sem)
end

end Cert.Proof.TopRow

end
-- ==== Proof.Vec.lean ====
module

public import proofs.«01_k».proof.Proof.Base

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # Lanes of a 16-lane register, and what the kernel's vector operations do to them -/

/-- Lane `k` of a register. -/
abbrev ix (k : Fin 16) : S16.Idx := Shape.ofLane (d := ![16]) k

/-- Every index of a register is a lane. -/
theorem ix_surj (i : S16.Idx) : i = ix (i 0) := by
  funext a; obtain rfl : a = 0 := Subsingleton.elim _ _; rfl

theorem forall_lane {p : S16.Idx → Prop} : (∀ i, p i) ↔ ∀ k, p (ix k) :=
  ⟨fun h k => h _, fun h i => by rw [ix_surj i]; exact h _⟩

/-- The sum of the first `k + 1` of sixteen numbers. -/
def upto (a : Fin 16 → ℕ) (k : Fin 16) : ℕ := a 0 + (((List.finRange 16).filter fun j => decide (0 < j.val ∧ j.val ≤ k.val)).map a).sum

theorem upto_eq (a : Fin 16 → ℕ) (k : Fin 16) : upto a k = ∑ j, if j ≤ k then a j else 0 := by
  unfold upto
  fin_cases k <;> simp [Fin.sum_univ_succ, List.finRange_succ, List.filter_cons, Fin.le_def] <;> try omega

theorem upto_last (a : Fin 16 → ℕ) : upto a 15 = ∑ j, a j := by
  rw [upto_eq]; refine Finset.sum_congr rfl fun j _ => if_pos ?_
  exact Fin.le_def.mpr (by have := j.isLt; simp; omega)

theorem upto_le (a : Fin 16 → ℕ) (k : Fin 16) : upto a k ≤ ∑ j, a j := by
  rw [upto_eq]; exact Finset.sum_le_sum fun j _ => by split <;> omega

theorem toNat_foldl_add (v : IVec S16 32) (l : List (Fin 16)) (r : BitVec 32) :
    (l.foldl (fun r j => ScanKind.step .sum r (v (ix j))) r).toNat = (r.toNat + (l.map fun j => (v (ix j)).toNat).sum) % 2 ^ 32 := by
  induction l generalizing r with
  | nil => simp [Nat.mod_eq_of_lt r.isLt]
  | cons j l ih =>
    rw [List.foldl_cons, ih]
    simp only [ScanKind.step, IntOp.addi, BitVec.toNat_add, List.map_cons, List.sum_cons]
    omega

/-- The running sum, read as natural numbers, where nothing wraps. -/
theorem scan_sum (v : IVec S16 32) (a : Fin 16 → ℕ) (h : ∀ j, (v (ix j)).toNat = a j) (hb : ∑ j, a j < 2 ^ 32) (k : Fin 16) :
    (scan .sum v (ix k)).toNat = upto a k := by
  have := toNat_foldl_add v ((List.finRange 16).filter fun j => decide (0 < j.val ∧ j.val ≤ k.val)) (v (ix 0))
  rw [h 0, List.map_congr_left (g := a) (fun j _ => h j)] at this
  have h2 := upto_le a k
  rw [Nat.mod_eq_of_lt (by unfold upto at h2; omega)] at this
  exact this

theorem foldl_min_spec (v : IVec S16 32) (l : List (Fin 16)) (r : BitVec 32) :
    let m := l.foldl (fun r j => ScanKind.step .min r (v (ix j))) r
    (m = r ∨ ∃ j ∈ l, m = v (ix j)) ∧ m.toNat ≤ r.toNat ∧ ∀ j ∈ l, m.toNat ≤ (v (ix j)).toNat := by
  induction l generalizing r with
  | nil => simp
  | cons j l ih =>
    obtain ⟨h1, h2, h3⟩ := ih (ScanKind.step .min r (v (ix j)))
    have hs : (ScanKind.step .min r (v (ix j)) = r ∨ ScanKind.step .min r (v (ix j)) = v (ix j))
        ∧ (ScanKind.step .min r (v (ix j))).toNat ≤ r.toNat ∧ (ScanKind.step .min r (v (ix j))).toNat ≤ (v (ix j)).toNat := by
      simp only [ScanKind.step, IntOp.minui, BitVec.ult]
      split <;> simp_all <;> omega
    refine ⟨?_, le_trans h2 hs.2.1, ?_⟩
    · rcases h1 with h1 | ⟨i, hi, h1⟩
      · rcases hs.1 with h | h
        · left; exact h1.trans h
        · right; exact ⟨j, by simp, h1.trans h⟩
      · right; exact ⟨i, by simp [hi], h1⟩
    · intro i hi
      rcases List.mem_cons.mp hi with rfl | hi
      · exact le_trans h2 hs.2.2
      · exact h3 i hi

theorem foldl_max_spec (v : IVec S16 32) (l : List (Fin 16)) (r : BitVec 32) :
    let m := l.foldl (fun r j => ScanKind.step .max r (v (ix j))) r
    (m = r ∨ ∃ j ∈ l, m = v (ix j)) ∧ r.toNat ≤ m.toNat ∧ ∀ j ∈ l, (v (ix j)).toNat ≤ m.toNat := by
  induction l generalizing r with
  | nil => simp
  | cons j l ih =>
    obtain ⟨h1, h2, h3⟩ := ih (ScanKind.step .max r (v (ix j)))
    have hs : (ScanKind.step .max r (v (ix j)) = r ∨ ScanKind.step .max r (v (ix j)) = v (ix j))
        ∧ r.toNat ≤ (ScanKind.step .max r (v (ix j))).toNat ∧ (v (ix j)).toNat ≤ (ScanKind.step .max r (v (ix j))).toNat := by
      simp only [ScanKind.step, IntOp.maxui, BitVec.ult]
      split <;> simp_all <;> omega
    refine ⟨?_, le_trans hs.2.1 h2, ?_⟩
    · rcases h1 with h1 | ⟨i, hi, h1⟩
      · rcases hs.1 with h | h
        · left; exact h1.trans h
        · right; exact ⟨j, by simp, h1.trans h⟩
      · right; exact ⟨i, by simp [hi], h1⟩
    · intro i hi
      rcases List.mem_cons.mp hi with rfl | hi
      · exact le_trans hs.2.2 h2
      · exact h3 i hi

theorem mem_scan_last (j : Fin 16) : j = 0 ∨ j ∈ (List.finRange 16).filter fun j => decide (0 < j.val ∧ j.val ≤ (15 : Fin 16).val) := by
  revert j; decide

/-- The last lane of a running minimum is one of the lanes and at most every lane. -/
theorem scan_min_last (v : IVec S16 32) :
    (∃ j, scan .min v (ix 15) = v (ix j)) ∧ ∀ j, (scan .min v (ix 15)).toNat ≤ (v (ix j)).toNat := by
  obtain ⟨h1, h2, h3⟩ := foldl_min_spec v ((List.finRange 16).filter fun j => decide (0 < j.val ∧ j.val ≤ (15 : Fin 16).val)) (v (ix 0))
  refine ⟨?_, fun j => ?_⟩
  · rcases h1 with h | ⟨j, _, h⟩
    · exact ⟨0, h⟩
    · exact ⟨j, h⟩
  · rcases mem_scan_last j with rfl | hj
    · exact h2
    · exact h3 j hj

/-- The last lane of a running maximum is one of the lanes and at least every lane. -/
theorem scan_max_last (v : IVec S16 32) :
    (∃ j, scan .max v (ix 15) = v (ix j)) ∧ ∀ j, (v (ix j)).toNat ≤ (scan .max v (ix 15)).toNat := by
  obtain ⟨h1, h2, h3⟩ := foldl_max_spec v ((List.finRange 16).filter fun j => decide (0 < j.val ∧ j.val ≤ (15 : Fin 16).val)) (v (ix 0))
  refine ⟨?_, fun j => ?_⟩
  · rcases h1 with h | ⟨j, _, h⟩
    · exact ⟨0, h⟩
    · exact ⟨j, h⟩
  · rcases mem_scan_last j with rfl | hj
    · exact h2
    · exact h3 j hj

/-! ## Indexed stores into an array of rank one -/

/-- Element `n` of an array of `N` words, and `0` past its end. -/
def rd {N : ℕ} (f : (⟨1, ![N]⟩ : Shape).Idx → BitVec 32) (n : ℕ) : BitVec 32 :=
  if h : n < N then f (Shape.ofLane (d := ![N]) ⟨n, h⟩) else 0#32

section
variable {N : ℕ} {d : Fin 1 → ℕ} (p : Fin (d 0) → (⟨1, ![N]⟩ : Shape).Idx) (v : Vec F ⟨1, d⟩ .i32) (mask : IVec ⟨1, d⟩ 1) (add : Bool)

/-- One lane's step of an indexed store. -/
def stepIdx (g : Vec F ⟨1, ![N]⟩ .i32) (k : Fin (d 0)) : Vec F ⟨1, ![N]⟩ .i32 :=
  if mask (Shape.ofLane k) = 1 then
    fun j => if (∀ a, (j a).val = (p k a).val) then (if add then Elt.idxAdd .i32 (g (p k)) (v (Shape.ofLane k)) else v (Shape.ofLane k)) else g j
  else g

theorem foldl_stepIdx (l : List (Fin (d 0))) (f : Vec F ⟨1, ![N]⟩ .i32)
    (hinj : ∀ i ∈ l, ∀ j ∈ l, mask (Shape.ofLane i) = 1 → mask (Shape.ofLane j) = 1 → p i = p j → i = j) (hnd : l.Nodup) (y : (⟨1, ![N]⟩ : Shape).Idx) :
    (∀ k ∈ l, mask (Shape.ofLane k) = 1 → p k = y →
        l.foldl (stepIdx p v mask add) f y = if add then Elt.idxAdd .i32 (f y) (v (Shape.ofLane k)) else v (Shape.ofLane k))
      ∧ ((∀ k ∈ l, mask (Shape.ofLane k) = 1 → p k ≠ y) → l.foldl (stepIdx p v mask add) f y = f y) := by
  induction l generalizing f with
  | nil => simp
  | cons k l ih =>
    have hnd' := List.nodup_cons.mp hnd
    obtain ⟨h1, h2⟩ := ih (stepIdx p v mask add f k) (fun i hi j hj => hinj i (by simp [hi]) j (by simp [hj])) hnd'.2
    have hne : p k ≠ y → stepIdx p v mask add f k y = f y := by
      intro hk
      unfold stepIdx
      by_cases hm : mask (Shape.ofLane k) = 1
      · rw [if_pos hm, if_neg]; intro h; exact hk (funext fun a => (Fin.ext (h a)).symm)
      · rw [if_neg hm]
    refine ⟨?_, ?_⟩
    · intro i hi hm hp
      rw [List.foldl_cons]
      rcases List.mem_cons.mp hi with rfl | hi
      · have : ∀ j ∈ l, mask (Shape.ofLane j) = 1 → p j ≠ y := by
          intro j hj hmj hpj
          have := hinj i (by simp) j (by simp [hj]) hm hmj (hp.trans hpj.symm)
          subst this; exact hnd'.1 hj
        rw [h2 this]; unfold stepIdx; rw [if_pos hm, if_pos (fun a => by rw [hp]), hp]
      · rw [h1 i hi hm hp]
        by_cases hk : mask (Shape.ofLane k) = 1
        · rw [hne]; intro hpk
          have := hinj k (by simp) i (by simp [hi]) hk hm (hpk.trans hp.symm)
          subst this; exact hnd'.1 hi
        · unfold stepIdx; rw [if_neg hk]
    · intro h
      rw [List.foldl_cons, h2 fun j hj => h j (by simp [hj])]
      by_cases hk : mask (Shape.ofLane k) = 1
      · exact hne (h k (by simp) hk)
      · unfold stepIdx; rw [if_neg hk]

theorem storeIdx_eq (f : Vec F ⟨1, ![N]⟩ .i32) (idxs : Fin (⟨1, ![N]⟩ : Shape).rank → IVec ⟨1, d⟩ 32)
    (h : ∀ a x, (idxs a x).toNat < (⟨1, ![N]⟩ : Shape).size a) :
    storeIdx (F := F) (s := ⟨1, ![N]⟩) (e := .i32) (d := d) f idxs v mask add h
      = (List.finRange (d 0)).foldl (stepIdx (fun k => idxAt idxs h (Shape.ofLane k)) v mask add) f := by
  unfold storeIdx
  congr 1
  funext g k
  unfold stepIdx
  by_cases hm : mask (Shape.ofLane k) = 1
  · rw [if_pos hm, if_pos hm]
    funext j
    by_cases hj : ∀ a, (j a).val = (idxAt idxs h (Shape.ofLane k) a).val
    · rw [if_pos hj, if_pos hj]
    · rw [if_neg hj, if_neg hj]
  · rw [if_neg hm, if_neg hm]
end

section
variable {N : ℕ} (f : Vec F ⟨1, ![N]⟩ .i32) (w : IVec S16 32) (v : Vec F S16 .i32) (mask : IVec S16 1) (add : Bool)
  (h : ∀ a x, ((![w] : Fin 1 → IVec S16 32) a x).toNat < (⟨1, ![N]⟩ : Shape).size a)

theorem storeIdx_spec (hinj : ∀ i j, mask (ix i) = 1 → mask (ix j) = 1 → (w (ix i)).toNat = (w (ix j)).toNat → i = j)
    (n : ℕ) (hn : n < N) :
    (∀ k, mask (ix k) = 1 → (w (ix k)).toNat = n →
      storeIdx (F := F) (s := ⟨1, ![N]⟩) (e := .i32) (d := ![16]) f ![w] v mask add h (Shape.ofLane (d := ![N]) ⟨n, hn⟩)
        = if add then Elt.idxAdd .i32 (f (Shape.ofLane (d := ![N]) ⟨n, hn⟩)) (v (ix k)) else v (ix k))
    ∧ ((∀ k, mask (ix k) = 1 → (w (ix k)).toNat ≠ n) →
      storeIdx (F := F) (s := ⟨1, ![N]⟩) (e := .i32) (d := ![16]) f ![w] v mask add h (Shape.ofLane (d := ![N]) ⟨n, hn⟩)
        = f (Shape.ofLane (d := ![N]) ⟨n, hn⟩)) := by
  rw [storeIdx_eq]
  obtain ⟨h1, h2⟩ := foldl_stepIdx (F := F) (N := N) (d := ![16]) (fun k => idxAt (s := ⟨1, ![N]⟩) ![w] h (Shape.ofLane k)) v mask add (List.finRange (![16] 0)) f
    (fun i _ j _ hi hj he => hinj i j hi hj (congrArg (fun (q : (⟨1, ![N]⟩ : Shape).Idx) => (q 0).val) he)) (List.nodup_finRange _)
    (Shape.ofLane (d := ![N]) ⟨n, hn⟩)
  refine ⟨fun k hm hk => h1 k (List.mem_finRange k) hm ?_, fun hk => h2 fun k _ hm he => hk k hm ?_⟩
  · funext a; obtain rfl : a = 0 := Subsingleton.elim _ _; exact Fin.ext hk
  · exact congrArg (fun (q : (⟨1, ![N]⟩ : Shape).Idx) => (q 0).val) he

/-- An indexed store whose set lanes name different words: a word a set lane names. -/
theorem rd_storeIdx_hit (hinj : ∀ i j, mask (ix i) = 1 → mask (ix j) = 1 → (w (ix i)).toNat = (w (ix j)).toNat → i = j)
    (k : Fin 16) (hm : mask (ix k) = 1) (n : ℕ) (hn : (w (ix k)).toNat = n) :
    rd (storeIdx (F := F) (s := ⟨1, ![N]⟩) (e := .i32) (d := ![16]) f ![w] v mask add h) n = if add then rd f n + v (ix k) else v (ix k) := by
  have hlt : n < N := hn ▸ h 0 (ix k)
  unfold rd; rw [dif_pos hlt, dif_pos hlt]
  exact (storeIdx_spec f w v mask add h hinj n hlt).1 k hm hn

/-- An indexed store whose set lanes name different words: a word no set lane names. -/
theorem rd_storeIdx_miss (hinj : ∀ i j, mask (ix i) = 1 → mask (ix j) = 1 → (w (ix i)).toNat = (w (ix j)).toNat → i = j)
    (n : ℕ) (hn : ∀ k, mask (ix k) = 1 → (w (ix k)).toNat ≠ n) :
    rd (storeIdx (F := F) (s := ⟨1, ![N]⟩) (e := .i32) (d := ![16]) f ![w] v mask add h) n = rd f n := by
  unfold rd
  by_cases hlt : n < N
  · rw [dif_pos hlt, dif_pos hlt]; exact (storeIdx_spec f w v mask add h hinj n hlt).2 hn
  · rw [dif_neg hlt, dif_neg hlt]
end

end Cert.Proof.TopRow

end
-- ==== Proof.Mem.lean ====
module

public import proofs.«01_k».proof.Proof.Base
public import proofs.«01_k».proof.Proof.Vec

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # Loads, stores and indexed stores of the scratch buffers -/

section
variable {sg : RefSig} {κ : Kind} {sp : Space} {N : ℕ}

/-- A word of a buffer after a list of writes, the newest sixteen words at offset `o`. -/
theorem rd_writes_cons (v : View sg κ sp ⟨1, ![N]⟩ .i32) (f : v.ty.Contents (Elt F)) (off : Fin 1 → ℕ)
    (h : ∀ a, off a + S16.size a ≤ (⟨1, ![N]⟩ : Shape).size a) (w : IVec S16 32) (l : List (View.Piece (Elt F) ⟨1, ![N]⟩ .i32)) (n : ℕ) :
    rd (v.read (Elt F) (v.writes (Elt F) f (⟨Rect.unit (s := ⟨1, ![N]⟩) off S16.size h, w⟩ :: l))) n
      = if hn : off 0 ≤ n ∧ n < off 0 + 16 then w (ix ⟨n - off 0, by omega⟩) else rd (v.read (Elt F) (v.writes (Elt F) f l)) n := by
  have h0 : off 0 + 16 ≤ N := h 0
  unfold rd
  by_cases hN : n < N
  · rw [dif_pos hN, dif_pos hN]
    by_cases hn : off 0 ≤ n ∧ n < off 0 + 16
    · rw [dif_pos hn]
      refine View.read_writes_cons_hit_of_coords v f (Rect.unit (s := ⟨1, ![N]⟩) off S16.size h) w l (ix ⟨n - off 0, by omega⟩) _ fun a => ?_
      obtain rfl : a = 0 := Subsingleton.elim _ _
      show n = off 0 + 1 * (n - off 0)
      omega
    · rw [dif_neg hn]
      exact View.read_writes_cons_miss_of_axis v f _ l _ 0 (off 0) 16 rfl rfl rfl (by show n < _ ∨ _ ≤ n; omega)
  · rw [dif_neg hN, dif_neg hN, dif_neg (by omega)]

/-- A load of sixteen words at offset `off`, lane by lane. -/
theorem readAt_ix (v : View sg κ sp ⟨1, ![N]⟩ .i32) (f : v.ty.Contents (Elt F)) (off : Fin 1 → ℕ)
    (h : ∀ a, off a + S16.size a ≤ (⟨1, ![N]⟩ : Shape).size a) (k : Fin 16) :
    v.readAt (Elt F) (Rect.unit (s := ⟨1, ![N]⟩) off S16.size h).toLoadRect f (ix k) = rd (v.read (Elt F) f) (off 0 + k) := by
  have h0 : off 0 + 16 ≤ N := h 0
  unfold rd
  rw [dif_pos (by omega), View.readAt_apply]
  congr 1
  funext a; obtain rfl : a = 0 := Subsingleton.elim _ _
  exact Fin.ext (by show off 0 + 1 * k.val = _; simp [Shape.ofLane])
end

/-- An indexed store into a whole scratch buffer: the buffer is held, and continues with the store's contents. -/
theorem wp_scatter {Λ : Labels} {defs : Defs nD τ sig (Elt F) Λ} {vv : Variants} {c : Thread nD τ} {bd : Option vv.V}
    {E : Set ℕ} {α : Type} {Q : α → sProp 𝕄} {s : Shape} {e : EltTy} {dd : Fin 1 → Nat}
    {base : Memref sig c.2.kind .vmem s e} {idxs : Fin s.rank → IVec ⟨1, dd⟩ 32} {v : Vec F ⟨1, dd⟩ e} {mask : IVec ⟨1, dd⟩ 1} {add : Bool}
    {h : ∀ a x, (idxs a x).toNat < s.size a} {hs : (base.access (.whole s)).Stores Finset.univ}
    {k : PUnit → Prog (TpuEff nD τ sig (Elt F) Λ c.2) α} (f g : Buf (Elt F) (base.view.loc c)) (hset : (base.access (.whole s)).set = Finset.univ)
    (hg : (base.access (.whole s)).write (Elt F) f (storeIdx ((base.access (.whole s)).read (Elt F) f) idxs v mask add h) Finset.univ = g) :
    (base.view.loc c ↦{fullShare} f)
      ⊢ iprop(((base.view.loc c ↦{fullShare} g) -∗ wp frame (wpE defs vv c bd) E (k ⟨⟩) Q)
        -∗ wp frame (wpE defs vv c bd) E (SparseCore.vectorStoreIdx base idxs v mask add h hs >>= k) Q) := by
  subst hg
  have := SparseCore.wp_vectorStoreIdx (defs := defs) vv c bd E (Q := Q) (base := base) (idxs := idxs) (v := v) (mask := mask) (add := add)
    (h := h) (hs := hs) (k := k) (f := f)
  rw [hset] at this
  exact this

end Cert.Proof.TopRow

end
-- ==== Proof.Comp.lean ====
module

public import proofs.«01_k».proof.Proof.Base
public import proofs.«01_k».proof.Proof.Mem

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # Appending the chosen lanes of a register to a list of words, and counting lanes into a histogram -/

/-- The buffer's first words are the list. -/
def Pre {N : ℕ} (f : (⟨1, ![N]⟩ : Shape).Idx → BitVec 32) (ws : List (BitVec 32)) : Prop := ∀ j (h : j < ws.length), rd f j = ws[j]

theorem Pre.take {N : ℕ} {f : (⟨1, ![N]⟩ : Shape).Idx → BitVec 32} {ws : List (BitVec 32)} (h : Pre f ws) (n : ℕ) : Pre f (ws.take n) := by
  intro j hj; rw [List.getElem_take]; exact h j _

theorem length_filter_eq_sum {α : Type} (l : List α) (q : α → Bool) : (l.filter q).length = (l.map fun j => if q j then 1 else 0).sum := by
  induction l with
  | nil => rfl
  | cons a l ih => by_cases h : q a <;> simp [h, ih] <;> omega

theorem length_filter_finRange (q : Fin 16 → Bool) : ((List.finRange 16).filter q).length = ∑ j, if q j then 1 else 0 := by
  rw [length_filter_eq_sum, Fin.sum_univ_def]

/-- How many chosen lanes stand before lane `k`. -/
def rank (q : Fin 16 → Bool) (k : Fin 16) : ℕ := ((List.finRange 16).filter fun j => decide (j < k) && q j).length

theorem finRange_split (k : Fin 16) : List.finRange 16 = (List.finRange 16).filter (fun j => decide (j < k)) ++ k :: (List.finRange 16).filter (fun j => decide (k < j)) := by
  revert k; decide

theorem getElem?_rank (q : Fin 16 → Bool) (k : Fin 16) (hk : q k = true) : ((List.finRange 16).filter q)[rank q k]? = some k := by
  have h : (List.finRange 16).filter q = ((List.finRange 16).filter fun j => decide (j < k) && q j) ++ k :: ((List.finRange 16).filter fun j => decide (k < j)).filter q := by
    conv_lhs => rw [finRange_split k]
    rw [List.filter_append, List.filter_cons_of_pos hk, List.filter_filter]
    congr 2; funext j; rw [Bool.and_comm]
  rw [h, rank, List.getElem?_append_right (le_refl _)]
  simp

theorem rank_lt (q : Fin 16 → Bool) (k : Fin 16) (hk : q k = true) : rank q k < ((List.finRange 16).filter q).length := by
  by_contra h
  have := getElem?_rank q k hk
  rw [List.getElem?_eq_none (by omega)] at this
  exact absurd this (by simp)

theorem rank_le (q : Fin 16 → Bool) (k : Fin 16) : rank q k ≤ ((List.finRange 16).filter q).length := by
  rw [rank, length_filter_finRange, length_filter_finRange]
  refine Finset.sum_le_sum fun j _ => ?_
  by_cases h : q j <;> simp [h]; split <;> omega

theorem rank_le_self (q : Fin 16 → Bool) (k : Fin 16) : rank q k ≤ k := by
  have : rank q k ≤ rank (fun _ => true) k := by
    rw [rank, rank, length_filter_finRange, length_filter_finRange]
    refine Finset.sum_le_sum fun j _ => ?_
    by_cases h : q j <;> simp [h]
  refine this.trans ?_
  clear this; revert k; decide

theorem rank_inj (q : Fin 16 → Bool) (i j : Fin 16) (hi : q i = true) (hj : q j = true) (h : rank q i = rank q j) : i = j := by
  have h1 := getElem?_rank q i hi
  have h2 := getElem?_rank q j hj
  rw [h, h2] at h1; exact (Option.some.inj h1).symm

theorem exists_rank (q : Fin 16 → Bool) (n : ℕ) (hn : n < ((List.finRange 16).filter q).length) :
    ∃ k, q k = true ∧ rank q k = n ∧ ((List.finRange 16).filter q)[n] = k := by
  refine ⟨((List.finRange 16).filter q)[n], ?_, ?_, rfl⟩
  · exact (List.mem_filter.mp (List.getElem_mem hn)).2
  · have hk := (List.mem_filter.mp (List.getElem_mem hn)).2
    have h1 := getElem?_rank q _ hk
    have hlt := rank_lt q _ hk
    rw [List.getElem?_eq_getElem hlt] at h1
    exact (List.Nodup.getElem_inj_iff ((List.nodup_finRange 16).filter _)).mp (Option.some.inj h1)

/-- The running count of chosen lanes at lane `k`, less the lane's own, is the number of chosen lanes before it. -/
theorem upto_rank (q : Fin 16 → Bool) (k : Fin 16) : upto (fun j => if q j then 1 else 0) k = rank q k + if q k then 1 else 0 := by
  rw [upto_eq, rank, length_filter_finRange]
  have : (if q k then 1 else 0) = ∑ j, if j = k then (if q j then 1 else 0) else 0 := by simp
  rw [this, ← Finset.sum_add_distrib]
  refine Finset.sum_congr rfl fun j _ => ?_
  rcases lt_trichotomy j k with h | h | h
  · by_cases hq : q j <;> simp [h, h.le, h.ne, hq]
  · subst h; simp
  · simp [h.not_gt, h.not_ge, h.ne']

/-- The lanes a mask chooses. -/
abbrev chosen (mask : IVec S16 1) (k : Fin 16) : Bool := decide (mask (ix k) = 1)
/-- The chosen lanes' words, lowest lane first. -/
def pick (mask : IVec S16 1) (v : IVec S16 32) : List (BitVec 32) := ((List.finRange 16).filter (chosen mask)).map fun k => v (ix k)

theorem length_pick (mask : IVec S16 1) (v : IVec S16 32) : (pick mask v).length = ((List.finRange 16).filter (chosen mask)).length := by simp [pick]

theorem length_pick_le (mask : IVec S16 1) (v : IVec S16 32) : (pick mask v).length ≤ 16 := by
  rw [length_pick]; exact (List.length_filter_le _ _).trans (by simp)

section
variable {N : ℕ} {f : Vec F ⟨1, ![N]⟩ .i32} {w : IVec S16 32} {v : Vec F S16 .i32} {mask : IVec S16 1}
  {h : ∀ a x, ((![w] : Fin 1 → IVec S16 32) a x).toNat < (⟨1, ![N]⟩ : Shape).size a}

/-- A store of the chosen lanes at consecutive places after the list appends them to it. -/
theorem Pre.append {ws : List (BitVec 32)} (hf : Pre f ws)
    (hw : ∀ k, mask (ix k) = 1 → (w (ix k)).toNat = ws.length + rank (chosen mask) k) :
    Pre (storeIdx (F := F) (s := ⟨1, ![N]⟩) (e := .i32) (d := ![16]) f ![w] v mask false h) (ws ++ pick mask v) := by
  have hinj : ∀ i j, mask (ix i) = 1 → mask (ix j) = 1 → (w (ix i)).toNat = (w (ix j)).toNat → i = j := by
    intro i j hi hj he
    rw [hw i hi, hw j hj] at he
    exact rank_inj (chosen mask) i j (by simpa using hi) (by simpa using hj) (by omega)
  intro n hn
  by_cases hlt : n < ws.length
  · rw [rd_storeIdx_miss (F := F) f w v mask false h hinj n (fun k hk => by rw [hw k hk]; omega), List.getElem_append_left hlt]
    exact hf n hlt
  · have hn' : n - ws.length < ((List.finRange 16).filter (chosen mask)).length := by
      rw [List.length_append, length_pick] at hn; omega
    obtain ⟨k, hk, hr, hg⟩ := exists_rank _ _ hn'
    have hm : mask (ix k) = 1 := by simpa using hk
    rw [rd_storeIdx_hit (F := F) f w v mask false h hinj k hm n (by rw [hw k hm]; omega), List.getElem_append_right (by omega)]
    simp only [pick, List.getElem_map, hg]
    rfl

/-- Such a store leaves the words past the appended list as they were. -/
theorem rd_append_of_ge {m : ℕ} (hw : ∀ k, mask (ix k) = 1 → (w (ix k)).toNat = m + rank (chosen mask) k) (n : ℕ)
    (hn : m + (pick mask v).length ≤ n) :
    rd (storeIdx (F := F) (s := ⟨1, ![N]⟩) (e := .i32) (d := ![16]) f ![w] v mask false h) n = rd f n := by
  have hinj : ∀ i j, mask (ix i) = 1 → mask (ix j) = 1 → (w (ix i)).toNat = (w (ix j)).toNat → i = j := by
    intro i j hi hj he
    rw [hw i hi, hw j hj] at he
    exact rank_inj (chosen mask) i j (by simpa using hi) (by simpa using hj) (by omega)
  refine rd_storeIdx_miss (F := F) f w v mask false h hinj n fun k hk => ?_
  rw [hw k hk]
  have := rank_lt (chosen mask) k (by simpa using hk)
  rw [length_pick] at hn; omega
end

/-! ## The histogram: one row of 273 counters per lane -/

/-- After `m` registers of sixteen places: counter `c` of lane `l` counts the places of that lane whose bin is `c`. -/
def HistIs (h : Vec F S4384 .i32) (B : ℕ → ℕ) (m : ℕ) : Prop :=
  ∀ l < 16, ∀ c < 273, (rd (N := 4384) h (l * 273 + c)).toNat = (List.range m).countP fun t => decide (B (16 * t + l) = c)

theorem HistIs.step {h : Vec F S4384 .i32} {B : ℕ → ℕ} {m : ℕ} (hh : HistIs h B m) (hm : m < 2 ^ 20) {w : IVec S16 32} {v : Vec F S16 .i32}
    {mask : IVec S16 1} {hi : ∀ a x, ((![w] : Fin 1 → IVec S16 32) a x).toNat < S4384.size a} (hv : ∀ k, v (ix k) = 1#32)
    (hmask : ∀ k : Fin 16, mask (ix k) = 1 ↔ B (16 * m + k) < 273)
    (hw : ∀ k : Fin 16, mask (ix k) = 1 → (w (ix k)).toNat = k * 273 + B (16 * m + k)) :
    HistIs (storeIdx (F := F) (s := S4384) (e := .i32) (d := ![16]) h ![w] v mask true hi) B (m + 1) := by
  have hinj : ∀ i j, mask (ix i) = 1 → mask (ix j) = 1 → (w (ix i)).toNat = (w (ix j)).toNat → i = j := by
    intro i j hi hj he
    rw [hw i hi, hw j hj] at he
    have h1 := (hmask i).mp hi; have h2 := (hmask j).mp hj
    exact Fin.ext (by omega)
  intro l hl c hc
  rw [List.range_succ, List.countP_append, ← hh l hl c hc]
  have hle : (rd (N := 4384) h (l * 273 + c)).toNat ≤ m := by
    rw [hh l hl c hc]; exact List.countP_le_length.trans (by simp)
  by_cases hb : B (16 * m + l) = c
  · have hml : mask (ix ⟨l, hl⟩) = 1 := (hmask ⟨l, hl⟩).mpr (by show B (16 * m + l) < 273; omega)
    rw [rd_storeIdx_hit (F := F) (N := 4384) h w v mask true hi hinj ⟨l, hl⟩ hml _ (by rw [hw _ hml]; show l * 273 + B (16 * m + l) = _; rw [hb])]
    rw [if_pos rfl, hv, BitVec.toNat_add]
    simp [hb]; omega
  · rw [rd_storeIdx_miss (F := F) (N := 4384) h w v mask true hi hinj]
    · simp [hb]
    · intro k hk he
      rw [hw k hk] at he
      have h1 := (hmask k).mp hk
      have : k.val = l := by omega
      subst this; exact hb (by omega)

end Cert.Proof.TopRow

end
-- ==== Proof.Keys.lean ====
module

public import proofs.«01_k».proof.Proof.Base
public import proofs.«01_k».proof.Proof.Comp

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # The integer keys of a row's words, their high parts, and lists of places taken sixteen at a time -/

/-- The bits of word `n` of a row. -/
def xb (x : Vec F S32768 .f32) (n : ℕ) : BitVec 32 := if h : n < 32768 then BitOps.toBits (x (Shape.ofLane (d := ![32768]) ⟨n, h⟩)) else 0#32
/-- The key of word `n`: a signed integer in the order of the floats. -/
def kw (x : Vec F S32768 .f32) (n : ℕ) : BitVec 32 := sortableKey (xb x n)
/-- The key of word `n` without its low `u` bits. -/
def H (x : Vec F S32768 .f32) (u n : ℕ) : ℤ := (kw x n).toInt / 2 ^ u

theorem toInt_sshiftRight_div (w : BitVec 32) (u : ℕ) : (w.sshiftRight u).toInt = w.toInt / 2 ^ u := by
  rw [BitVec.toInt_sshiftRight, Int.shiftRight_eq_div_pow]; norm_cast

theorem shrsi_ofNat (u : ArithUnit) (w : BitVec 32) (s : ℕ) (hs : s < 32) : IntOp.shrsi u w (BitVec.ofNat 32 s) = w.sshiftRight s := by
  unfold IntOp.shrsi
  have h : (BitVec.ofNat 32 s).toNat = s := by rw [BitVec.toNat_ofNat]; omega
  rw [if_pos (by omega), BitVec.sshiftRight', h]

theorem toInt_bounds (w : BitVec 32) : -2 ^ 31 ≤ w.toInt ∧ w.toInt < 2 ^ 31 := by
  have := w.isLt
  rw [BitVec.toInt_eq_toNat_cond]; split <;> omega

theorem H_bounds24 (x : Vec F S32768 .f32) (n : ℕ) : -128 ≤ H x 24 n ∧ H x 24 n < 128 := by
  have := toInt_bounds (kw x n); unfold H; omega

theorem toNat_add_toInt (a b : BitVec 32) (m : ℕ) (h : (a.toNat : ℤ) + b.toInt = m) (hm : m < 2 ^ 32) : (a + b).toNat = m := by
  have ha := a.isLt; have hb := b.isLt
  rw [BitVec.toNat_add]
  rw [BitVec.toInt_eq_toNat_cond] at h
  split at h <;> omega

/-- The signed top byte of the key, as the first histogram computes it. -/
theorem top_byte (w : BitVec 32) : w.sshiftRight 24 ^^^ ((w.sshiftRight 24).sshiftRight 8 &&& 127#32) = (sortableKey w).sshiftRight 24 := by
  unfold sortableKey
  apply BitVec.eq_of_getLsbD_eq
  intro i hi
  have key : ∀ i < 32, (127#32).getLsbD i = decide (i < 7) := by decide
  have key2 : ∀ i < 32, (0x7FFFFFFF#32).getLsbD i = decide (i < 31) := by decide
  simp only [BitVec.getLsbD_xor, BitVec.getLsbD_and, BitVec.getLsbD_sshiftRight, BitVec.msb_sshiftRight, key i hi]
  have e1 : decide (32 ≤ i) = false := by simp; omega
  rw [e1]
  by_cases h8 : 24 + i < 32
  · have e : ¬(24 + (8 + i) < 32) := by omega
    by_cases h7 : i < 7
    · have h31 : 24 + i < 31 := by omega
      have e2 : ¬ 31 + (24 + i) < 32 := by omega
      have e3 : ¬ 32 ≤ 24 + i := by omega
      have e4 : 8 + i < 32 := by omega
      have e5 : ¬ 32 ≤ 8 + i := by omega
      have e6 : (2147483647#32)[24 + i] = true := by rw [← BitVec.getLsbD_eq_getElem, key2 _ h8]; simp [h31]
      simp [h8, h7, e, e2, e3, e4, e5, e6, BitVec.getLsbD_sshiftRight, BitVec.msb_eq_getLsbD_last]
    · have : i = 7 := by omega
      subst this
      simp [key2, BitVec.getLsbD_sshiftRight, BitVec.msb_eq_getLsbD_last]
  · have h7 : ¬ i < 7 := by omega
    simp [h8, h7, BitVec.msb_xor, BitVec.msb_and, BitVec.msb_eq_getLsbD_last]

theorem ofBool_eq_one_iff (b : Bool) : BitVec.ofBool b = 1 ↔ b = true := by cases b <;> decide

theorem cmpi_sge_iff (a b : BitVec 32) : IntOp.cmpi .sge a b = 1 ↔ b.toInt ≤ a.toInt := by
  unfold IntOp.cmpi; rw [ofBool_eq_one_iff]; simp [BitVec.sle]
theorem cmpi_sgt_iff (a b : BitVec 32) : IntOp.cmpi .sgt a b = 1 ↔ b.toInt < a.toInt := by
  unfold IntOp.cmpi; rw [ofBool_eq_one_iff]; simp [BitVec.slt]
theorem cmpi_slt_iff (a b : BitVec 32) : IntOp.cmpi .slt a b = 1 ↔ a.toInt < b.toInt := by
  unfold IntOp.cmpi; rw [ofBool_eq_one_iff]; simp [BitVec.slt]
theorem cmpi_eq_iff (a b : BitVec 32) : IntOp.cmpi .eq a b = 1 ↔ a = b := by
  unfold IntOp.cmpi; rw [ofBool_eq_one_iff]; simp

theorem toInt_eq_toNat_of_lt (a : BitVec 32) (h : a.toNat < 2 ^ 31) : a.toInt = a.toNat := by
  rw [BitVec.toInt_eq_toNat_cond, if_pos (by omega)]

theorem toNat_ofNat_lt (n : ℕ) (h : n < 2 ^ 32) : (BitVec.ofNat 32 n).toNat = n := by
  rw [BitVec.toNat_ofNat]; omega

/-! ## Sixteen places at a time -/

theorem filter_take_finRange (q : ℕ → Bool) (n : ℕ) : ∀ D : List ℕ, (D.take n).filter q
    = ((List.finRange n).filter fun k : Fin n => decide (k.val < D.length) && q (D.getD k 0)).map fun k : Fin n => D.getD k 0 := by
  induction n with
  | zero => intro D; simp
  | succ n ih =>
    intro D
    cases D with
    | nil => simp
    | cons a D =>
      rw [List.take_succ_cons, List.finRange_succ, List.filter_cons, List.filter_cons]
      have h2 : ((List.finRange n).map Fin.succ).filter (fun k : Fin (n + 1) => decide (k.val < (a :: D).length) && q ((a :: D).getD k 0))
          = ((List.finRange n).filter fun k : Fin n => decide (k.val < D.length) && q (D.getD k 0)).map Fin.succ := by
        rw [List.filter_map]; congr 1
        apply List.filter_congr; intro k _; simp
      rw [h2, ih D]
      by_cases h : q a <;> simp [h, Function.comp_def]

/-- The chosen places among the first `16 (i + 1)` are those among the first `16 i`, then the chosen lanes of register `i`. -/
theorem filter_take_chunk (C : List ℕ) (q : ℕ → Bool) (i : ℕ) : (C.take (16 * (i + 1))).filter q
    = (C.take (16 * i)).filter q ++ ((List.finRange 16).filter fun k : Fin 16 => decide (16 * i + k.val < C.length) && q (C.getD (16 * i + k) 0)).map fun k : Fin 16 => C.getD (16 * i + k) 0 := by
  rw [show 16 * (i + 1) = 16 * i + 16 from rfl, List.take_add, List.filter_append]
  congr 1
  have hd : ∀ k : Fin 16, (C.drop (16 * i)).getD k 0 = C.getD (16 * i + k) 0 := by intro k; simp [List.getD]
  have hl : ∀ k : Fin 16, decide (k.val < (C.drop (16 * i)).length) = decide (16 * i + k.val < C.length) := by
    intro k; rw [List.length_drop]; congr 1; apply propext; omega
  rw [filter_take_finRange]
  simp only [hd, hl]

/-! ## A selection's lanes, as the kernel places them -/

theorem pick_eq (mask : IVec S16 1) (v : IVec S16 32) (p : Fin 16 → Bool) (g : Fin 16 → BitVec 32) (hm : ∀ k, mask (ix k) = 1 ↔ p k = true)
    (hv : ∀ k, p k = true → v (ix k) = g k) : pick mask v = ((List.finRange 16).filter p).map g := by
  have hp : chosen mask = p := by funext k; rw [Bool.eq_iff_iff]; simpa using hm k
  unfold pick; rw [hp]
  exact List.map_congr_left fun k hk => hv k (List.mem_filter.mp hk).2

theorem extui_toNat (mask : IVec S16 1) (h : 1 < 32) (k : Fin 16) : (extui 32 mask h (ix k)).toNat = if chosen mask k then 1 else 0 := by
  show ((mask (ix k)).setWidth 32).toNat = _
  have : ∀ b : BitVec 1, (b.setWidth 32).toNat = if decide (b = 1) then 1 else 0 := by decide
  exact this _

theorem scan_mask (mask : IVec S16 1) (h : 1 < 32) (k : Fin 16) :
    (scan .sum (extui 32 mask h) (ix k)).toNat = rank (chosen mask) k + if chosen mask k then 1 else 0 := by
  rw [scan_sum _ (fun j => if chosen mask j then 1 else 0) (extui_toNat mask h), upto_rank]
  refine lt_of_le_of_lt (Finset.sum_le_sum (g := fun _ => 1) fun j _ => by split <;> omega) (by simp)

theorem scan_mask_last (mask : IVec S16 1) (h : 1 < 32) :
    (scan .sum (extui 32 mask h) (ix 15)).toNat = ((List.finRange 16).filter (chosen mask)).length := by
  rw [scan_sum _ (fun j => if chosen mask j then 1 else 0) (extui_toNat mask h), upto_last, length_filter_finRange]
  refine lt_of_le_of_lt (Finset.sum_le_sum (g := fun _ => 1) fun j _ => by split <;> omega) (by simp)

/-- The place the kernel gives lane `k`: the places used before this register, then the chosen lanes before it. -/
theorem place_toNat (off : IVec S16 32) (mask : IVec S16 1) (h : 1 < 32) (m : ℕ) (hoff : ∀ k, off (ix k) = BitVec.ofNat 32 m) (hm : m < 2 ^ 31) (k : Fin 16) :
    (subi (addi off (scan .sum (extui 32 mask h))) (extui 32 mask h) (ix k)).toNat = m + rank (chosen mask) k := by
  show (off (ix k) + scan .sum (extui 32 mask h) (ix k) - extui 32 mask h (ix k)).toNat = _
  have h1 := scan_mask mask h k
  have h2 := extui_toNat mask h k
  have h3 := rank_le_self (chosen mask) k
  have h4 := k.isLt
  rw [BitVec.toNat_sub, BitVec.toNat_add, h1, h2, hoff, toNat_ofNat_lt _ (by omega)]
  split <;> omega

theorem last_lane (v : IVec S16 32) (hs : S16.Slices ![15] S1) (hi : ∀ a, (![0] : Fin 1 → ℕ) a < S1.size a) :
    extractAt ![0] (extractStridedSlice S1 ![15] v hs) hi = v (ix 15) := by
  have h : ∀ i : S16.Idx, i 0 = (15 : Fin 16) → v i = v (ix 15) := by
    intro i hi; rw [ix_surj i, hi]
  exact h _ rfl

/-- The number of places used after this register. -/
theorem used_eq (off : IVec S16 32) (mask : IVec S16 1) (v : IVec S16 32) (h : 1 < 32) (m : ℕ) (hoff : ∀ k, off (ix k) = BitVec.ofNat 32 m) (k : Fin 16)
    (hs : S16.Slices ![15] S1) (hi : ∀ a, (![0] : Fin 1 → ℕ) a < S1.size a) :
    addi off (broadcast S16 (extractAt ![0] (extractStridedSlice S1 ![15] (scan .sum (extui 32 mask h)) hs) hi)) (ix k)
      = BitVec.ofNat 32 (m + (pick mask v).length) := by
  have hl := scan_mask_last mask h
  rw [last_lane, length_pick, ← hl]
  generalize scan .sum (extui 32 mask h) (ix 15) = S
  refine Eq.trans (b := BitVec.ofNat 32 m + S) (congrArg (· + S) (hoff k)) ?_
  rw [BitVec.ofNat_add, BitVec.ofNat_toNat, BitVec.setWidth_eq]

end Cert.Proof.TopRow

end
-- ==== Proof.Counts.lean ====
module

public import proofs.«01_k».proof.Proof.Base
public import proofs.«01_k».proof.Proof.Keys

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

theorem addr16' (t : ℕ) (ht : t < 2 ^ 20) : BitVec.toNat (16#32 * (0#32 + (Scf.iv 0#32 1#32 t) * 1#32)) = 16 * t := by
  rw [BitVec.mul_one, BitVec.zero_add, BitVec.toNat_mul, WordArith.toNat_iv_zero_one _ (by omega)]
  show 16 * t % _ = _
  omega

theorem addr16'' (t : ℕ) (ht : t < 2 ^ 20) : BitVec.toNat (16#32 * (Scf.iv 0#32 1#32 t)) = 16 * t := by
  rw [BitVec.toNat_mul, WordArith.toNat_iv_zero_one _ (by omega)]
  show 16 * t % _ = _
  omega

/-! ## How many registers a count of words fills -/

/-- The rounded-up quotient by sixteen, as the kernel computes it. -/
def ceil16 (n : BitVec 32) : BitVec 32 :=
  let m := Scalar.addi n 15#32
  Scalar.select (Scalar.andi
      (Scalar.cmpi .ne (Scalar.subi (Scalar.extui (Scalar.cmpi .sgt m 0#32)) (Scalar.extui (Scalar.cmpi .slt m 0#32)))
        (Scalar.subi (Scalar.extui (Scalar.cmpi .sgt 16#32 0#32)) (Scalar.extui (Scalar.cmpi .slt 16#32 0#32))))
      (Scalar.cmpi .ne (Scalar.remsi m 16#32) 0#32))
    (Scalar.subi (Scalar.divsi m 16#32) 1#32) (Scalar.divsi m 16#32)

theorem toInt_ofNat_lt (n : ℕ) (h : n < 2 ^ 31) : (BitVec.ofNat 32 n).toInt = n := by
  rw [toInt_eq_toNat_of_lt _ (by rw [toNat_ofNat_lt _ (by omega)]; exact h), toNat_ofNat_lt _ (by omega)]

theorem ceil16_eq (n : ℕ) (h : n ≤ 32768) : ceil16 (BitVec.ofNat 32 n) = BitVec.ofNat 32 ((n + 15) / 16) := by
  have hm : Scalar.addi (BitVec.ofNat 32 n) 15#32 = BitVec.ofNat 32 (n + 15) := (BitVec.ofNat_add n 15).symm
  have hi := toInt_ofNat_lt (n + 15) (by omega)
  have h1 : Scalar.cmpi .sgt (BitVec.ofNat 32 (n + 15)) 0#32 = 1#1 := (cmpi_sgt_iff _ _).mpr (by rw [hi]; show (0 : ℤ) < _; omega)
  have h2 : Scalar.cmpi .slt (BitVec.ofNat 32 (n + 15)) 0#32 = 0#1 := by
    have : ∀ b : BitVec 1, b ≠ 1 → b = 0 := by decide
    refine this _ fun hc => ?_
    have := (cmpi_slt_iff _ _).mp hc
    rw [hi] at this
    have h0 : (0#32).toInt = 0 := rfl
    omega
  have h3 : Scalar.divsi (BitVec.ofNat 32 (n + 15)) 16#32 = BitVec.ofNat 32 ((n + 15) / 16) := by
    apply BitVec.eq_of_toInt_eq
    rw [toInt_ofNat_lt _ (by omega)]
    have := Idealize.ShloMosaic.Affine.divsi (a := BitVec.ofNat 32 (n + 15)) (b := 16#32) (ea := ((n + 15 : ℕ) : ℤ)) (eb := 16) (e := (((n + 15) / 16 : ℕ) : ℤ))
      (by unfold Idealize.ShloMosaic.Affine.IsInt; exact hi) (by unfold Idealize.ShloMosaic.Affine.IsInt; rfl) ⟨by push_cast; rfl, by omega, by omega⟩
    unfold Idealize.ShloMosaic.Affine.IsInt at this
    exact this
  have h4 : ∀ b : BitVec 1, Scalar.andi (Scalar.cmpi .ne (Scalar.subi (Scalar.extui 1#1) (Scalar.extui 0#1))
      (Scalar.subi (Scalar.extui (Scalar.cmpi .sgt 16#32 0#32)) (Scalar.extui (Scalar.cmpi .slt 16#32 0#32) : BitVec 32))) b = 0#1 := by decide
  simp only [ceil16]
  rw [hm, h1, h2, h3, h4]
  rfl

theorem lines_lt (n q : ℕ) (hq : q = (n + 15) / 16) (hn : n ≤ 32768) : q ≤ 2048 ∧ 16 * q < n + 16 ∧ n ≤ 16 * q := by omega

theorem trips_up (q : ℕ) (h : q < 2 ^ 31) : (⟨0#32, BitVec.ofNat 32 q, 1#32⟩ : Scf.Loop 32).trips = q ∧ (⟨0#32, BitVec.ofNat 32 q, 1#32⟩ : Scf.Loop 32).OK := by
  have hi := toInt_ofNat_lt q h
  have h0 : (0#32).toInt = 0 := rfl
  have h1 : (1#32).toInt = 1 := rfl
  have ht : Scf.trips 0#32 (BitVec.ofNat 32 q) 1#32 = q := by rw [Scf.trips, hi, h0, h1]; omega
  refine ⟨ht, ?_, ?_⟩
  · exact (by decide : 0 < (1#32).toInt)
  · show (0#32).toInt + (Scf.trips 0#32 (BitVec.ofNat 32 q) 1#32 : ℤ) * (1#32).toInt < _
    rw [ht, h0, h1]; omega

theorem trips_none (q : ℕ) (h : q < 2 ^ 31) : (⟨BitVec.ofNat 32 q, BitVec.ofNat 32 q, 1#32⟩ : Scf.Loop 32).trips = 0 ∧ (⟨BitVec.ofNat 32 q, BitVec.ofNat 32 q, 1#32⟩ : Scf.Loop 32).OK := by
  have hi := toInt_ofNat_lt q h
  have h1 : (1#32).toInt = 1 := rfl
  have ht : Scf.trips (BitVec.ofNat 32 q) (BitVec.ofNat 32 q) 1#32 = 0 := by rw [Scf.trips, hi, h1]; omega
  refine ⟨ht, ?_, ?_⟩
  · exact (by decide : 0 < (1#32).toInt)
  · show (BitVec.ofNat 32 q).toInt + (Scf.trips (BitVec.ofNat 32 q) (BitVec.ofNat 32 q) 1#32 : ℤ) * (1#32).toInt < _
    rw [ht, h1, hi]; omega

section
variable (n : ℕ) (h : n ≤ 32768)

theorem t7_form (w : BitVec 32) : k0_t7_loop w = ⟨0#32, Scalar.addi 0#32 (Scalar.muli (Scalar.divsi (Scalar.subi (Scalar.divsi (Scalar.addi (Scalar.subi (ceil16 w) 0#32) (Scalar.subi 1#32 1#32)) 1#32) 0#32) 1#32) 1#32), 1#32⟩ := by sl_kernel_rfl
include h in
theorem t7_eq : k0_t7_loop (BitVec.ofNat 32 n) = ⟨0#32, BitVec.ofNat 32 ((n + 15) / 16), 1#32⟩ := by
  rw [t7_form, ceil16_eq n h]
  simp [Scalar.addi, Scalar.muli, Scalar.divsi, Scalar.subi, IntOp.addi, IntOp.muli, IntOp.subi, WordArith.divsi_one]

theorem t8_form (w : BitVec 32) : k0_t8_loop w = ⟨Scalar.addi 0#32 (Scalar.muli (Scalar.divsi (Scalar.subi (Scalar.divsi (Scalar.addi (Scalar.subi (ceil16 w) 0#32) (Scalar.subi 1#32 1#32)) 1#32) 0#32) 1#32) 1#32), Scalar.addi 0#32 (Scalar.subi (Scalar.divsi (Scalar.addi (Scalar.subi (ceil16 w) 0#32) (Scalar.subi 1#32 1#32)) 1#32) 0#32), 1#32⟩ := by sl_kernel_rfl
include h in
theorem t8_eq : k0_t8_loop (BitVec.ofNat 32 n) = ⟨BitVec.ofNat 32 ((n + 15) / 16), BitVec.ofNat 32 ((n + 15) / 16), 1#32⟩ := by
  rw [t8_form, ceil16_eq n h]
  simp [Scalar.addi, Scalar.muli, Scalar.divsi, Scalar.subi, IntOp.addi, IntOp.muli, IntOp.subi, WordArith.divsi_one]

theorem t9_form (w : BitVec 32) : k0_t9_loop w = ⟨0#32, Scalar.addi 0#32 (Scalar.muli (Scalar.divsi (Scalar.subi (ceil16 w) 0#32) 1#32) 1#32), 1#32⟩ := by sl_kernel_rfl
include h in
theorem t9_eq : k0_t9_loop (BitVec.ofNat 32 n) = ⟨0#32, BitVec.ofNat 32 ((n + 15) / 16), 1#32⟩ := by
  rw [t9_form, ceil16_eq n h]
  simp [Scalar.addi, Scalar.muli, Scalar.divsi, Scalar.subi, IntOp.addi, IntOp.muli, IntOp.subi, WordArith.divsi_one]

theorem t10_form (w : BitVec 32) : k0_t10_loop w = ⟨Scalar.addi 0#32 (Scalar.muli (Scalar.divsi (Scalar.subi (ceil16 w) 0#32) 1#32) 1#32), Scalar.addi 0#32 (Scalar.subi (ceil16 w) 0#32), 1#32⟩ := by sl_kernel_rfl
include h in
theorem t10_eq : k0_t10_loop (BitVec.ofNat 32 n) = ⟨BitVec.ofNat 32 ((n + 15) / 16), BitVec.ofNat 32 ((n + 15) / 16), 1#32⟩ := by
  rw [t10_form, ceil16_eq n h]
  simp [Scalar.addi, Scalar.muli, Scalar.divsi, Scalar.subi, IntOp.addi, IntOp.muli, IntOp.subi, WordArith.divsi_one]

theorem t11_form (w : BitVec 32) : k0_t11_loop w = ⟨0#32, Scalar.addi 0#32 (Scalar.muli (Scalar.divsi (Scalar.subi (ceil16 w) 0#32) 1#32) 1#32), 1#32⟩ := by sl_kernel_rfl
include h in
theorem t11_eq : k0_t11_loop (BitVec.ofNat 32 n) = ⟨0#32, BitVec.ofNat 32 ((n + 15) / 16), 1#32⟩ := by
  rw [t11_form, ceil16_eq n h]
  simp [Scalar.addi, Scalar.muli, Scalar.divsi, Scalar.subi, IntOp.addi, IntOp.muli, IntOp.subi, WordArith.divsi_one]

theorem t12_form (w : BitVec 32) : k0_t12_loop w = ⟨Scalar.addi 0#32 (Scalar.muli (Scalar.divsi (Scalar.subi (ceil16 w) 0#32) 1#32) 1#32), Scalar.addi 0#32 (Scalar.subi (ceil16 w) 0#32), 1#32⟩ := by sl_kernel_rfl
include h in
theorem t12_eq : k0_t12_loop (BitVec.ofNat 32 n) = ⟨BitVec.ofNat 32 ((n + 15) / 16), BitVec.ofNat 32 ((n + 15) / 16), 1#32⟩ := by
  rw [t12_form, ceil16_eq n h]
  simp [Scalar.addi, Scalar.muli, Scalar.divsi, Scalar.subi, IntOp.addi, IntOp.muli, IntOp.subi, WordArith.divsi_one]
end

/-! ## The addresses of the registers of a counted list -/

section
variable (w : BitVec 32)

theorem off7_eq (t : Fin (k0_t7_loop w).trips) (ht : t.val < 2 ^ 20) : k0_off7 w t 0 = 16 * t.val := by
  have : k0_off7 w t 0 = BitVec.toNat (16#32 * (0#32 + (Scf.iv 0#32 1#32 t.val) * 1#32)) := rfl
  rw [this, addr16' _ ht]

theorem off9_eq (t : Fin (k0_t9_loop w).trips) (ht : t.val < 2 ^ 20) : k0_off9 w t 0 = 16 * t.val := by
  have : k0_off9 w t 0 = BitVec.toNat (16#32 * (Scf.iv 0#32 1#32 t.val)) := rfl
  rw [this, addr16'' _ ht]

theorem off11_eq (t : Fin (k0_t11_loop w).trips) (ht : t.val < 2 ^ 20) : k0_off11 w t 0 = 16 * t.val := by
  have : k0_off11 w t 0 = BitVec.toNat (16#32 * (Scf.iv 0#32 1#32 t.val)) := rfl
  rw [this, addr16'' _ ht]
end

theorem chk3_of (n : ℕ) (h : n ≤ 32768) : k0_chk3 (BitVec.ofNat 32 n) := by
  have hq : (n + 15) / 16 ≤ 2048 := by omega
  have h7 := t7_eq n h; have h8 := t8_eq n h; have h9 := t9_eq n h; have h10 := t10_eq n h
  have hu := trips_up ((n + 15) / 16) (by omega)
  have hn := trips_none ((n + 15) / 16) (by omega)
  have e8 : (k0_t8_loop (BitVec.ofNat 32 n)).trips = 0 := h8 ▸ hn.1
  have e10 : (k0_t10_loop (BitVec.ofNat 32 n)).trips = 0 := h10 ▸ hn.1
  refine ⟨h7 ▸ hu.2, fun t a => ?_, h8 ▸ hn.2, fun t => ?_, h9 ▸ hu.2, fun t a => ?_, h10 ▸ hn.2, fun t => ?_⟩
  · obtain rfl : a = 0 := Subsingleton.elim _ _
    have ht : t.val < 2048 := lt_of_lt_of_le t.isLt (by rw [h7, hu.1]; exact hq)
    show _ + 16 ≤ 32768
    rw [off7_eq _ t (by omega)]; omega
  · exact (Fin.cast e8 t).elim0
  · obtain rfl : a = 0 := Subsingleton.elim _ _
    have ht : t.val < 2048 := lt_of_lt_of_le t.isLt (by rw [h9, hu.1]; exact hq)
    show _ + 16 ≤ 32768
    rw [off9_eq _ t (by omega)]; omega
  · exact (Fin.cast e10 t).elim0

theorem chk10_of (n : ℕ) (h : n ≤ 32768) : k0_chk10 (BitVec.ofNat 32 n) := by
  have hq : (n + 15) / 16 ≤ 2048 := by omega
  have h7 := t11_eq n h; have h8 := t12_eq n h
  have hu := trips_up ((n + 15) / 16) (by omega)
  have hn := trips_none ((n + 15) / 16) (by omega)
  have e8 : (k0_t12_loop (BitVec.ofNat 32 n)).trips = 0 := h8 ▸ hn.1
  refine ⟨h7 ▸ hu.2, fun t a => ?_, h8 ▸ hn.2, fun t => ?_⟩
  · obtain rfl : a = 0 := Subsingleton.elim _ _
    have ht : t.val < 2048 := lt_of_lt_of_le t.isLt (by rw [h7, hu.1]; exact hq)
    show _ + 16 ≤ 32768
    rw [off11_eq _ t (by omega)]; omega
  · exact (Fin.cast e8 t).elim0

section
variable (n : ℕ) (h : n ≤ 32768)
include h
theorem t7_trips : (k0_t7_loop (BitVec.ofNat 32 n)).trips = (n + 15) / 16 :=
  (congrArg Scf.Loop.trips (t7_eq n h)).trans (trips_up _ (by omega)).1
theorem t9_trips : (k0_t9_loop (BitVec.ofNat 32 n)).trips = (n + 15) / 16 :=
  (congrArg Scf.Loop.trips (t9_eq n h)).trans (trips_up _ (by omega)).1
theorem t11_trips : (k0_t11_loop (BitVec.ofNat 32 n)).trips = (n + 15) / 16 :=
  (congrArg Scf.Loop.trips (t11_eq n h)).trans (trips_up _ (by omega)).1
theorem t8_trips : (k0_t8_loop (BitVec.ofNat 32 n)).trips = 0 :=
  (congrArg Scf.Loop.trips (t8_eq n h)).trans (trips_none _ (by omega)).1
theorem t10_trips : (k0_t10_loop (BitVec.ofNat 32 n)).trips = 0 :=
  (congrArg Scf.Loop.trips (t10_eq n h)).trans (trips_none _ (by omega)).1
theorem t12_trips : (k0_t12_loop (BitVec.ofNat 32 n)).trips = 0 :=
  (congrArg Scf.Loop.trips (t12_eq n h)).trans (trips_none _ (by omega)).1
end

end Cert.Proof.TopRow

end
-- ==== Proof.Trip2.lean ====
module

public import proofs.«01_k».proof.Proof.Base
public import proofs.«01_k».proof.Proof.Counts

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! ## The byte of a key that a round looks at -/

/-- The bin of a key word in the round over the eight bits from `s`: its byte if the bits above are `p`, and 256 if not. -/
def binw (w : BitVec 32) (s : ℕ) (p : ℤ) : ℕ := if w.toInt / 2 ^ (s + 8) = p then ((w.toInt / 2 ^ s) % 256).toNat else 256

theorem binw_le (w : BitVec 32) (s : ℕ) (p : ℤ) : binw w s p ≤ 256 := by
  unfold binw; split
  · have := Int.emod_lt_of_pos (w.toInt / 2 ^ s) (by decide : (0 : ℤ) < 256); omega
  · exact le_refl _

theorem and_255 (w : BitVec 32) : (w &&& 255#32).toNat = (w.toInt % 256).toNat := by
  rw [BitVec.toNat_and]
  show w.toNat &&& (2 ^ 8 - 1) = _
  rw [Nat.and_two_pow_sub_one_eq_mod, BitVec.toInt_eq_toNat_cond]
  have := w.isLt
  split <;> omega

/-- The kernel's own form of that bin. -/
theorem bin_eq (w ph : BitVec 32) (s : ℕ) (hs : s ≤ 16) :
    Scalar.select (IntOp.cmpi .eq (IntOp.shrsi .vector w (IntOp.addi (BitVec.ofNat 32 s) 8#32)) ph)
      (IntOp.andi (IntOp.shrsi .vector w (BitVec.ofNat 32 s)) 255#32) 256#32 = BitVec.ofNat 32 (binw w s ph.toInt) := by
  have h8 : IntOp.addi (BitVec.ofNat 32 s) 8#32 = BitVec.ofNat 32 (s + 8) := (BitVec.ofNat_add s 8).symm
  have hiff : IntOp.cmpi .eq (w.sshiftRight (s + 8)) ph = 1 ↔ w.toInt / 2 ^ (s + 8) = ph.toInt := by
    rw [cmpi_eq_iff, ← toInt_sshiftRight_div]
    exact ⟨fun h => by rw [h], fun h => BitVec.eq_of_toInt_eq h⟩
  rw [h8, shrsi_ofNat _ _ _ (by omega), shrsi_ofNat _ _ _ (by omega)]
  unfold Scalar.select binw
  by_cases h : w.toInt / 2 ^ (s + 8) = ph.toInt
  · rw [if_pos (hiff.mpr h), if_pos h]
    apply BitVec.eq_of_toNat_eq
    have hlt := Int.emod_lt_of_pos (w.toInt / 2 ^ s) (by decide : (0 : ℤ) < 256)
    rw [toNat_ofNat_lt _ (by omega), ← toInt_sshiftRight_div]
    exact and_255 _
  · rw [if_neg (fun hc => h (hiff.mp hc)), if_neg h]

theorem lane_place (m : ℕ) (a : BitVec 32) (v2 : IVec S16 32) (hv2 : ∀ k : Fin 16, v2 (ix k) = BitVec.ofNat 32 k) (ha : a.toNat = 16 * m) (hm : m < 2 ^ 20)
    (k : Fin 16) : a + v2 (ix k) = BitVec.ofNat 32 (16 * m + k) := by
  apply BitVec.eq_of_toNat_eq
  rw [hv2, BitVec.toNat_add, ha, toNat_ofNat_lt _ (by omega), toNat_ofNat_lt _ (by omega)]; omega

theorem slt_ofNat (a b : ℕ) (ha : a < 2 ^ 31) (hb : b < 2 ^ 31) : IntOp.cmpi .slt (BitVec.ofNat 32 a) (BitVec.ofNat 32 b) = 1 ↔ a < b := by
  rw [cmpi_slt_iff, toInt_ofNat_lt _ ha, toInt_ofNat_lt _ hb]; omega

/-- A word of a buffer that starts with a list. -/
theorem Pre.getD {N : ℕ} {f : (⟨1, ![N]⟩ : Shape).Idx → BitVec 32} {C : List ℕ} {g : ℕ → BitVec 32} (h : Pre f (C.map g)) (j : ℕ) (hj : j < C.length) :
    rd f j = g (C.getD j 0) := by
  rw [h j (by rw [List.length_map]; exact hj), List.getElem_map]
  rw [List.getD_eq_getElem?_getD, List.getElem?_eq_getElem hj]; rfl

section
variable (d : Dev nD) (L : grid0.Coords) (C : List ℕ) (hC : C.length ≤ 32768) (g : ℕ → BitVec 32) (s : ℕ) (hs : s ≤ 16) (ph : BitVec 32)
  (v2 : IVec S16 32) (hv2 : ∀ k : Fin 16, v2 (ix k) = BitVec.ofNat 32 k)

/-- The bin of place `n` of the list, and no bin past its end. -/
def binAt (n : ℕ) : ℕ := if n < C.length then binw (g (C.getD n 0)) s ph.toInt else 1000

/-! ## A round's histogram -/

abbrev ld7 (ck : Bf (F := F) d L bCk) (w : BitVec 32) (hw3 : k0_chk3 w) (t : Fin (k0_t7_loop w).trips) : Vec F S16 .i32 :=
  (bCk).view.readAt (Elt F) (Rect.unit (s := S32768) (k0_off7 w t) S16.size (k0_off7_inb w hw3 t)).toLoadRect ck

include hC in
theorem t7_lt (t : Fin (k0_t7_loop (BitVec.ofNat 32 C.length)).trips) : t.val < (C.length + 15) / 16 := lt_of_lt_of_eq t.isLt (t7_trips _ hC)
include hC in
theorem t9_lt (t : Fin (k0_t9_loop (BitVec.ofNat 32 C.length)).trips) : t.val < (C.length + 15) / 16 := lt_of_lt_of_eq t.isLt (t9_trips _ hC)

include hs in
theorem pay28_toNat (v6 : IVec S16 32) (hv6 : ∀ k : Fin 16, (v6 (ix k)).toNat = k * 273) (c0 c1 : BitVec 32) (k5 : Fin k0_t5_loop.trips)
    (h5 : Scalar.subi 16#32 (Scalar.muli 8#32 (Scf.iv c0 c1 k5)) = BitVec.ofNat 32 s) (w : Vec F S16 .i32) (k : Fin 16) :
    (k0_pay28 v6 c0 c1 k5 ph w (ix k)).toNat = k * 273 + binw (w (ix k)) s ph.toInt := by
  have h : k0_pay28 v6 c0 c1 k5 ph w (ix k) = v6 (ix k) + Scalar.select (IntOp.cmpi .eq (IntOp.shrsi .vector (w (ix k)) (IntOp.addi (Scalar.subi 16#32 (Scalar.muli 8#32 (Scf.iv c0 c1 k5))) 8#32)) ph)
      (IntOp.andi (IntOp.shrsi .vector (w (ix k)) (Scalar.subi 16#32 (Scalar.muli 8#32 (Scf.iv c0 c1 k5)))) 255#32) 256#32 := rfl
  have hb := binw_le (w (ix k)) s ph.toInt
  rw [h, h5, bin_eq _ _ _ hs, BitVec.toNat_add, hv6, toNat_ofNat_lt _ (by omega)]
  omega

include hs in
theorem chk4_pay28 (v6 : IVec S16 32) (hv6 : ∀ k : Fin 16, (v6 (ix k)).toNat = k * 273) (c0 c1 : BitVec 32) (k5 : Fin k0_t5_loop.trips)
    (h5 : Scalar.subi 16#32 (Scalar.muli 8#32 (Scf.iv c0 c1 k5)) = BitVec.ofNat 32 s) (w : Vec F S16 .i32) : k0_chk4 (k0_pay28 v6 c0 c1 k5 ph w) := by
  intro a i
  obtain rfl : a = 0 := Subsingleton.elim _ _
  rw [ix_surj i]
  have := pay28_toNat s hs ph v6 hv6 c0 c1 k5 h5 w (i 0)
  have hb := binw_le (w (ix (i 0))) s ph.toInt
  have h3 : (i 0).val < 16 := (i 0).isLt
  show BitVec.toNat _ < 4384
  exact lt_of_eq_of_lt this (by omega)

include hC hs hv2 in
theorem trip_hb (ck : Bf (F := F) d L bCk) (h : Bf (F := F) d L bH) (hw3 : k0_chk3 (BitVec.ofNat 32 C.length)) (v3 v4 v6 : IVec S16 32) (c0 c1 : BitVec 32)
    (k5 : Fin k0_t5_loop.trips) (t : Fin (k0_t7_loop (BitVec.ofNat 32 C.length)).trips) (hv3 : ∀ k, v3 (ix k) = 1#32) (hv6 : ∀ k : Fin 16, (v6 (ix k)).toNat = k * 273)
    (h5 : Scalar.subi 16#32 (Scalar.muli 8#32 (Scf.iv c0 c1 k5)) = BitVec.ofNat 32 s)
    (hck : Pre (N := 32768) ck (C.map g)) (hh : HistIs (F := F) h (binAt C g s ph) t) :
    iprop(pt d L bCk ck ∗ pt d L bH h) ⊢ wp frame (wpE (defs₀ (F := F)) 𝒱₀ (thr d L) none) Set.univ
      (k0_t7_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v2 v3 v4 v6 c0 c1 k5 (BitVec.ofNat 32 C.length) ph hw3 t ())
      (fun _ => iprop(∃ h', ⌜HistIs (F := F) h' (binAt C g s ph) (t + 1)⌝ ∗ pt d L bCk ck ∗ pt d L bH h')) := by
  have ht := t7_lt C hC t
  have hoff : k0_off7 (BitVec.ofNat 32 C.length) t 0 = 16 * t.val := off7_eq _ t (by omega)
  have hmask : ∀ k : Fin 16, k0_pay27 v2 (BitVec.ofNat 32 C.length) t (ix k) = 1 ↔ 16 * t.val + k.val < C.length := by
    intro k
    have e : k0_pay27 v2 (BitVec.ofNat 32 C.length) t (ix k) = IntOp.cmpi .slt (16#32 * (0#32 + (Scf.iv 0#32 1#32 t.val) * 1#32) + v2 (ix k)) (BitVec.ofNat 32 C.length) := rfl
    rw [e, lane_place t.val _ v2 hv2 (addr16' _ (by omega)) (by omega), slt_ofNat _ _ (by omega) (by omega)]
  have hld : ∀ k : Fin 16, 16 * t.val + k.val < C.length → ld7 d L ck _ hw3 t (ix k) = g (C.getD (16 * t.val + k.val) 0) := by
    intro k hk
    have := readAt_ix (F := F) (bCk).view ck (k0_off7 (BitVec.ofNat 32 C.length) t) (k0_off7_inb _ hw3 t) k
    rw [hoff] at this
    rw [← hck.getD _ hk]
    exact this
  have hbin : ∀ k : Fin 16, binAt C g s ph (16 * t.val + k.val) < 273 ↔ 16 * t.val + k.val < C.length := by
    intro k; unfold binAt; split
    · have := binw_le (g (C.getD (16 * t.val + k.val) 0)) s ph.toInt; omega
    · omega
  have hst := hh.step (v := v3) (mask := k0_pay27 v2 (BitVec.ofNat 32 C.length) t)
    (hi := chk4_pay28 s hs ph v6 hv6 c0 c1 k5 h5 (ld7 d L ck _ hw3 t)) (by omega) hv3
    (fun k => by rw [hmask, hbin])
    (fun k hk => by
      have hk' := (hmask k).mp hk
      rw [pay28_toNat s hs ph v6 hv6 c0 c1 k5 h5, hld k hk']
      unfold binAt; rw [if_pos hk'])
  iintro ⟨Hx, Hh⟩
  unfold k0_t7_body
  sl_exec (disch := exact chk4_pay28 s hs ph v6 hv6 c0 c1 k5 h5 _)
  iapply (wp_scatter (c := thr d L) (base := bH) (E := Set.univ) h (storeIdx (F := F) (s := S4384) (e := .i32) (d := ![16]) h
    ![k0_pay28 v6 c0 c1 k5 ph (ld7 d L ck _ hw3 t)] v3 (k0_pay27 v2 (BitVec.ofNat 32 C.length) t) true
    (chk4_pay28 s hs ph v6 hv6 c0 c1 k5 h5 (ld7 d L ck _ hw3 t))) (Memref.set_access_whole _) ?_) $$ Hh
  · rw [Memref.write_access_whole_univ, Memref.read_access_whole]; rfl
  iintro Hh
  sl_exec
  rw [wp_ret]; imodintro
  iexists _
  isplitr [Hx Hh]
  · ipureintro
    exact hst
  · isplitl [Hx]
    · iexact Hx
    · iexact Hh
end

/-! ## Splitting the candidates at the threshold -/

section
variable (d : Dev nD) (L : grid0.Coords) (C : List ℕ) (hC : C.length ≤ 32768) (g : ℕ → BitVec 32) (s : ℕ) (hs : s ≤ 16) (ph : BitVec 32)
  (v2 : IVec S16 32) (hv2 : ∀ k : Fin 16, v2 (ix k) = BitVec.ofNat 32 k) (dd : ℕ) (hdd : dd ≤ 255)

/-- The candidates among the first `16 m` whose bin is past the threshold. -/
def above (m : ℕ) : List ℕ := (C.take (16 * m)).filter fun n => decide (dd < binw (g n) s ph.toInt)
/-- The candidates among the first `16 m` whose bin is the threshold. -/
def level (m : ℕ) : List ℕ := (C.take (16 * m)).filter fun n => decide (binw (g n) s ph.toInt = dd)

theorem above_length_le (m : ℕ) : (above C g s ph dd m).length ≤ (C.filter fun n => decide (dd < binw (g n) s ph.toInt)).length :=
  ((List.take_sublist _ _).filter _).length_le
theorem level_length_le (m : ℕ) : (level C g s ph dd m).length ≤ 16 * m := (List.length_filter_le _ _).trans (by rw [List.length_take]; omega)

abbrev ldk (ck : Bf (F := F) d L bCk) (w : BitVec 32) (hw3 : k0_chk3 w) (t : Fin (k0_t9_loop w).trips) : Vec F S16 .i32 :=
  (bCk).view.readAt (Elt F) (Rect.unit (s := S32768) (k0_off9 w t) S16.size (k0_off9_inb w hw3 t)).toLoadRect ck
abbrev ldi9 (ci : Bf (F := F) d L bCi) (w : BitVec 32) (hw3 : k0_chk3 w) (t : Fin (k0_t9_loop w).trips) : Vec F S16 .i32 :=
  (bCi).view.readAt (Elt F) (Rect.unit (s := S32768) (k0_off9 w t) S16.size (k0_off9_inb w hw3 t)).toLoadRect ci

variable (t : Fin (k0_t9_loop (BitVec.ofNat 32 C.length)).trips)

include hC hs hv2 in
theorem pay5_eq (w : Vec F S16 .i32) (k : Fin 16) : k0_pay5 v2 (BitVec.ofNat 32 C.length) ph (BitVec.ofNat 32 s) 0#32 1#32 t w (ix k)
    = if 16 * t.val + k.val < C.length then BitVec.ofNat 32 (binw (w (ix k)) s ph.toInt) else 4294967295#32 := by
  have ht := t9_lt C hC t
  have h : k0_pay5 v2 (BitVec.ofNat 32 C.length) ph (BitVec.ofNat 32 s) 0#32 1#32 t w (ix k)
      = Scalar.select (IntOp.cmpi .slt (16#32 * (Scf.iv 0#32 1#32 t.val) + v2 (ix k)) (BitVec.ofNat 32 C.length))
        (Scalar.select (IntOp.cmpi .eq (IntOp.shrsi .vector (w (ix k)) (IntOp.addi (BitVec.ofNat 32 s) 8#32)) ph)
          (IntOp.andi (IntOp.shrsi .vector (w (ix k)) (BitVec.ofNat 32 s)) 255#32) 256#32) 4294967295#32 := rfl
  rw [h, bin_eq _ _ _ hs, lane_place t.val _ v2 hv2 (addr16'' _ (by omega)) (by omega)]
  unfold Scalar.select
  by_cases hk : 16 * t.val + k.val < C.length
  · rw [if_pos ((slt_ofNat _ _ (by omega) (by omega)).mpr hk), if_pos hk]
  · rw [if_neg (fun hc => hk ((slt_ofNat _ _ (by omega) (by omega)).mp hc)), if_neg hk]

variable (w : Vec F S16 .i32) (hw : ∀ k : Fin 16, 16 * t.val + k.val < C.length → w (ix k) = g (C.getD (16 * t.val + k.val) 0))

include hC hs hv2 hdd hw in
theorem pay6_iff (k : Fin 16) : k0_pay6 v2 (BitVec.ofNat 32 C.length) ph (BitVec.ofNat 32 s) (BitVec.ofNat 32 dd) 0#32 1#32 t w (ix k) = 1
    ↔ (decide (16 * t.val + k.val < C.length) && decide (dd < binw (g (C.getD (16 * t.val + k.val) 0)) s ph.toInt)) = true := by
  have h : k0_pay6 v2 (BitVec.ofNat 32 C.length) ph (BitVec.ofNat 32 s) (BitVec.ofNat 32 dd) 0#32 1#32 t w (ix k)
      = IntOp.cmpi .sgt (k0_pay5 v2 (BitVec.ofNat 32 C.length) ph (BitVec.ofNat 32 s) 0#32 1#32 t w (ix k)) (BitVec.ofNat 32 dd) := rfl
  rw [h, cmpi_sgt_iff, pay5_eq C hC s hs ph v2 hv2 t w k, toInt_ofNat_lt _ (by omega)]
  by_cases hk : 16 * t.val + k.val < C.length
  · have hb := binw_le (g (C.getD (16 * t.val + k.val) 0)) s ph.toInt
    rw [if_pos hk, hw k hk, toInt_ofNat_lt _ (by omega)]; simp [hk]
  · have : (4294967295#32).toInt = -1 := by decide
    rw [if_neg hk, this]; simp [hk]

include hC hs hv2 hdd hw in
theorem pay7_iff (k : Fin 16) : k0_pay7 v2 (BitVec.ofNat 32 C.length) ph (BitVec.ofNat 32 s) (BitVec.ofNat 32 dd) 0#32 1#32 t w (ix k) = 1
    ↔ (decide (16 * t.val + k.val < C.length) && decide (binw (g (C.getD (16 * t.val + k.val) 0)) s ph.toInt = dd)) = true := by
  have h : k0_pay7 v2 (BitVec.ofNat 32 C.length) ph (BitVec.ofNat 32 s) (BitVec.ofNat 32 dd) 0#32 1#32 t w (ix k)
      = IntOp.cmpi .eq (k0_pay5 v2 (BitVec.ofNat 32 C.length) ph (BitVec.ofNat 32 s) 0#32 1#32 t w (ix k)) (BitVec.ofNat 32 dd) := rfl
  rw [h, cmpi_eq_iff, pay5_eq C hC s hs ph v2 hv2 t w k]
  by_cases hk : 16 * t.val + k.val < C.length
  · have hb := binw_le (g (C.getD (16 * t.val + k.val) 0)) s ph.toInt
    rw [if_pos hk, hw k hk, Bool.and_eq_true, decide_eq_true_eq, decide_eq_true_eq]
    constructor
    · intro he
      have := congrArg BitVec.toNat he
      rw [toNat_ofNat_lt _ (by omega), toNat_ofNat_lt _ (by omega)] at this
      exact ⟨hk, this⟩
    · rintro ⟨_, he⟩; rw [he]
  · rw [if_neg hk]
    constructor
    · intro he
      have := congrArg BitVec.toNat he
      rw [toNat_ofNat_lt dd (by omega)] at this
      have h0 : (4294967295#32).toNat = 4294967295 := rfl
      omega
    · intro he; simp [hk] at he

variable (W : List ℕ) (hW : W.length + (C.filter fun n => decide (dd < binw (g n) s ph.toInt)).length < 256)
  (coff woff : IVec S16 32) (hcoff : ∀ k, coff (ix k) = BitVec.ofNat 32 (level C g s ph dd t).length)
  (hwoff : ∀ k, woff (ix k) = BitVec.ofNat 32 (W.length + (above C g s ph dd t).length))

/-- The chosen lanes of a register, as places of the list. -/
theorem chunk_eq (mask : IVec S16 1) (v : IVec S16 32) (q : ℕ → Bool) (f : ℕ → BitVec 32) (i : ℕ)
    (hm : ∀ k : Fin 16, mask (ix k) = 1 ↔ (decide (16 * i + k.val < C.length) && q (C.getD (16 * i + k.val) 0)) = true)
    (hv : ∀ k : Fin 16, 16 * i + k.val < C.length → v (ix k) = f (C.getD (16 * i + k.val) 0)) :
    ((C.take (16 * (i + 1))).filter q).map f = ((C.take (16 * i)).filter q).map f ++ pick mask v := by
  rw [filter_take_chunk, List.map_append, List.map_map]
  congr 1
  exact (pick_eq mask v _ _ hm fun k hk => by simp at hk; exact hv k hk.1).symm

include hC hs hv2 hdd hw hcoff in
theorem pay13_toNat (k : Fin 16) : (k0_pay13 v2 (BitVec.ofNat 32 C.length) ph (BitVec.ofNat 32 s) (BitVec.ofNat 32 dd) 0#32 1#32 t coff w (ix k)).toNat
    = (level C g s ph dd t).length + rank (chosen (k0_pay7 v2 (BitVec.ofNat 32 C.length) ph (BitVec.ofNat 32 s) (BitVec.ofNat 32 dd) 0#32 1#32 t w)) k := by
  have ht := t9_lt C hC t
  have h1 := level_length_le C g s ph dd t
  exact place_toNat coff (k0_pay7 v2 (BitVec.ofNat 32 C.length) ph (BitVec.ofNat 32 s) (BitVec.ofNat 32 dd) 0#32 1#32 t w) natLt_1_32 _ hcoff (by omega) k

include hW hwoff in
theorem pay11_toNat (k : Fin 16) : (k0_pay11 v2 (BitVec.ofNat 32 C.length) ph (BitVec.ofNat 32 s) (BitVec.ofNat 32 dd) 0#32 1#32 t woff w (ix k)).toNat
    = W.length + (above C g s ph dd t).length + rank (chosen (k0_pay6 v2 (BitVec.ofNat 32 C.length) ph (BitVec.ofNat 32 s) (BitVec.ofNat 32 dd) 0#32 1#32 t w)) k := by
  have h1 := above_length_le C g s ph dd t
  exact place_toNat woff (k0_pay6 v2 (BitVec.ofNat 32 C.length) ph (BitVec.ofNat 32 s) (BitVec.ofNat 32 dd) 0#32 1#32 t w) natLt_1_32 _ hwoff (by omega) k

include hC hs hv2 hdd hw hcoff in
theorem chk7_pay13 : k0_chk7 (k0_pay13 v2 (BitVec.ofNat 32 C.length) ph (BitVec.ofNat 32 s) (BitVec.ofNat 32 dd) 0#32 1#32 t coff w) := by
  have ht := t9_lt C hC t
  have h1 := level_length_le C g s ph dd t
  have h : ∀ a i, ((![k0_pay13 v2 (BitVec.ofNat 32 C.length) ph (BitVec.ofNat 32 s) (BitVec.ofNat 32 dd) 0#32 1#32 t coff w] : Fin 1 → IVec S16 32) a i).toNat < S32768.size a := by
    intro a i
    obtain rfl : a = 0 := Subsingleton.elim _ _
    rw [ix_surj i]
    have := pay13_toNat C hC g s hs ph v2 hv2 dd hdd t w hw coff hcoff (i 0)
    have h2 := rank_le_self (chosen (k0_pay7 v2 (BitVec.ofNat 32 C.length) ph (BitVec.ofNat 32 s) (BitVec.ofNat 32 dd) 0#32 1#32 t w)) (i 0)
    have h3 : (i 0).val < 16 := (i 0).isLt
    show BitVec.toNat _ < 32768
    exact lt_of_eq_of_lt this (by omega)
  exact ⟨h, h⟩

include hC hs hv2 hdd hw hW hwoff in
theorem chk6_pay11 : k0_chk6 (k0_pay11 v2 (BitVec.ofNat 32 C.length) ph (BitVec.ofNat 32 s) (BitVec.ofNat 32 dd) 0#32 1#32 t woff w) := by
  have h : ∀ a i, ((![k0_pay11 v2 (BitVec.ofNat 32 C.length) ph (BitVec.ofNat 32 s) (BitVec.ofNat 32 dd) 0#32 1#32 t woff w] : Fin 1 → IVec S16 32) a i).toNat < S256.size a := by
    intro a i
    obtain rfl : a = 0 := Subsingleton.elim _ _
    rw [ix_surj i]
    have := pay11_toNat C g s ph v2 dd t w W hW woff hwoff (i 0)
    have h2 := rank_le (chosen (k0_pay6 v2 (BitVec.ofNat 32 C.length) ph (BitVec.ofNat 32 s) (BitVec.ofNat 32 dd) 0#32 1#32 t w)) (i 0)
    have h3 := chunk_eq C _ w (fun n => decide (dd < binw (g n) s ph.toInt)) g t (pay6_iff C hC g s hs ph v2 hv2 dd hdd t w hw) hw
    have h4 := congrArg List.length h3
    rw [List.length_append, List.length_map, List.length_map, length_pick] at h4
    have h5 := above_length_le C g s ph dd (t + 1)
    show BitVec.toNat _ < 256
    unfold above at *
    exact lt_of_eq_of_lt this (by omega)
  exact ⟨h, h⟩
end

end Cert.Proof.TopRow

end
-- ==== Proof.Tail.lean ====
module

public import proofs.«01_k».proof.Proof.Base
public import proofs.«01_k».proof.Proof.Trip2

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! ## Filling the winners from the candidates that are left -/

theorem rank_prefix (q : Fin 16 → Bool) (k : Fin 16) (h : ∀ j < k, q j = true) : rank q k = k := by
  have h1 : rank q k = rank (fun _ => true) k := by
    unfold rank
    refine congrArg List.length (List.filter_congr fun j _ => ?_)
    by_cases hj : j < k
    · simp [hj, h j hj]
    · simp [hj]
  rw [h1]; clear h1 h; revert k; decide

section
variable (d : Dev nD) (L : grid0.Coords) (C W : List ℕ) (q : ℕ) (hq : q ≤ C.length) (hC : C.length ≤ 32768) (hW : W.length + q = 256)
  (v2 off : IVec S16 32) (hv2 : ∀ k : Fin 16, v2 (ix k) = BitVec.ofNat 32 k) (hoff : ∀ k, off (ix k) = BitVec.ofNat 32 W.length)

abbrev ldk11 (ck : Bf (F := F) d L bCk) (w : BitVec 32) (hw : k0_chk10 w) (t : Fin (k0_t11_loop w).trips) : Vec F S16 .i32 :=
  (bCk).view.readAt (Elt F) (Rect.unit (s := S32768) (k0_off11 w t) S16.size (k0_off11_inb w hw t)).toLoadRect ck
abbrev ldi11 (ci : Bf (F := F) d L bCi) (w : BitVec 32) (hw : k0_chk10 w) (t : Fin (k0_t11_loop w).trips) : Vec F S16 .i32 :=
  (bCi).view.readAt (Elt F) (Rect.unit (s := S32768) (k0_off11 w t) S16.size (k0_off11_inb w hw t)).toLoadRect ci

variable (t : Fin (k0_t11_loop (BitVec.ofNat 32 q)).trips)

include hv2 hW in
theorem pay318_iff (k : Fin 16) : k0_pay318 v2 (BitVec.ofNat 32 q) t (ix k) = 1 ↔ 16 * t.val + k.val < q := by
  have ht : t.val < (q + 15) / 16 := lt_of_lt_of_eq t.isLt (t11_trips _ (by omega))
  have e : k0_pay318 v2 (BitVec.ofNat 32 q) t (ix k) = IntOp.cmpi .slt (16#32 * (Scf.iv 0#32 1#32 t.val) + v2 (ix k)) (BitVec.ofNat 32 q) := rfl
  rw [e, lane_place t.val _ v2 hv2 (addr16'' _ (by omega)) (by omega), slt_ofNat _ _ (by omega) (by omega)]

include hv2 hW hoff in
theorem pay319_toNat (k : Fin 16) : (k0_pay319 v2 (BitVec.ofNat 32 q) off t (ix k)).toNat = if 16 * t.val + k.val < q then W.length + (16 * t.val + k.val) else 0 := by
  have ht : t.val < (q + 15) / 16 := lt_of_lt_of_eq t.isLt (t11_trips _ (by omega))
  have e : k0_pay319 v2 (BitVec.ofNat 32 q) off t (ix k)
      = Scalar.select (k0_pay318 v2 (BitVec.ofNat 32 q) t (ix k)) (off (ix k) + (16#32 * (Scf.iv 0#32 1#32 t.val) + v2 (ix k))) 0#32 := rfl
  rw [e, lane_place t.val _ v2 hv2 (addr16'' _ (by omega)) (by omega), hoff]
  have h := pay318_iff W q hW v2 hv2 t k
  unfold Scalar.select
  by_cases hk : 16 * t.val + k.val < q
  · rw [if_pos (h.mpr hk), if_pos hk, BitVec.toNat_add, toNat_ofNat_lt _ (by omega), toNat_ofNat_lt _ (by omega)]; omega
  · rw [if_neg (fun hc => hk (h.mp hc)), if_neg hk]; rfl

include hv2 hW hoff in
theorem chk11_pay319 : k0_chk11 (k0_pay319 v2 (BitVec.ofNat 32 q) off t) := by
  intro a i
  obtain rfl : a = 0 := Subsingleton.elim _ _
  rw [ix_surj i]
  have := pay319_toNat W q hW v2 off hv2 hoff t (i 0)
  show BitVec.toNat _ < 256
  refine lt_of_eq_of_lt this ?_
  split <;> omega

include hq hC hW hv2 hoff in
theorem trip_tail (g : ℕ → BitVec 32) (ck : Bf (F := F) d L bCk) (ci : Bf (F := F) d L bCi) (wk : Bf (F := F) d L bWk) (wi : Bf (F := F) d L bWi)
    (hw : k0_chk10 (BitVec.ofNat 32 q)) (v1349 c16 v1350 c0 arg17 : BitVec 32)
    (hck : Pre (N := 32768) ck (C.map g)) (hci : Pre (N := 32768) ci (C.map (BitVec.ofNat 32)))
    (hwk : Pre (N := 256) wk ((W ++ (C.take q).take (16 * t)).map g)) (hwi : Pre (N := 256) wi ((W ++ (C.take q).take (16 * t)).map (BitVec.ofNat 32))) :
    iprop(pt d L bCk ck ∗ pt d L bCi ci ∗ pt d L bWk wk ∗ pt d L bWi wi) ⊢ wp frame (wpE (defs₀ (F := F)) 𝒱₀ (thr d L) none) Set.univ
      (k0_t11_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v2 (BitVec.ofNat 32 q) off hw v1349 c16 v1350 c0 t arg17)
      (fun _ => iprop(∃ wk' wi', ⌜Pre (N := 256) wk' ((W ++ (C.take q).take (16 * (t + 1))).map g) ∧ Pre (N := 256) wi' ((W ++ (C.take q).take (16 * (t + 1))).map (BitVec.ofNat 32))⌝
        ∗ pt d L bCk ck ∗ pt d L bCi ci ∗ pt d L bWk wk' ∗ pt d L bWi wi')) := by
  have ht : t.val < (q + 15) / 16 := lt_of_lt_of_eq t.isLt (t11_trips _ (by omega))
  have ho : k0_off11 (BitVec.ofNat 32 q) t 0 = 16 * t.val := off11_eq _ t (by omega)
  have hlen : (C.take q).length = q := by rw [List.length_take]; omega
  have hld : ∀ k : Fin 16, 16 * t.val + k.val < (C.take q).length → ldk11 d L ck _ hw t (ix k) = g ((C.take q).getD (16 * t.val + k.val) 0) := by
    intro k hk
    have := readAt_ix (F := F) (bCk).view ck (k0_off11 (BitVec.ofNat 32 q) t) (k0_off11_inb _ hw t) k
    rw [ho] at this
    have hp := hck.take q; rw [← List.map_take] at hp
    rw [← hp.getD _ hk]
    exact this
  have hldi : ∀ k : Fin 16, 16 * t.val + k.val < (C.take q).length → ldi11 d L ci _ hw t (ix k) = BitVec.ofNat 32 ((C.take q).getD (16 * t.val + k.val) 0) := by
    intro k hk
    have := readAt_ix (F := F) (bCi).view ci (k0_off11 (BitVec.ofNat 32 q) t) (k0_off11_inb _ hw t) k
    rw [ho] at this
    have hp := hci.take q; rw [← List.map_take] at hp
    rw [← hp.getD _ hk]
    exact this
  have hm : ∀ k : Fin 16, k0_pay318 v2 (BitVec.ofNat 32 q) t (ix k) = 1 ↔ (decide (16 * t.val + k.val < (C.take q).length) && (fun _ : ℕ => true) ((C.take q).getD (16 * t.val + k.val) 0)) = true := by
    intro k; rw [pay318_iff W q hW v2 hv2, hlen]; simp
  have h11 := chk11_pay319 W q hW v2 off hv2 hoff t
  have hp : ∀ k, k0_pay318 v2 (BitVec.ofNat 32 q) t (ix k) = 1 → (k0_pay319 v2 (BitVec.ofNat 32 q) off t (ix k)).toNat
      = (W ++ (C.take q).take (16 * t)).length + rank (chosen (k0_pay318 v2 (BitVec.ofNat 32 q) t)) k := by
    intro k hk
    have hk' := (pay318_iff W q hW v2 hv2 t k).mp hk
    rw [pay319_toNat W q hW v2 off hv2 hoff, if_pos hk', rank_prefix _ k fun j hj => ?_]
    · rw [List.length_append, List.length_take, hlen]; omega
    · have : k0_pay318 v2 (BitVec.ofNat 32 q) t (ix j) = 1 := (pay318_iff W q hW v2 hv2 t j).mpr (by have : j.val < k.val := hj; omega)
      simpa [chosen] using this
  have cg := chunk_eq (C.take q) _ _ (fun _ => true) g t hm hld
  have ci' := chunk_eq (C.take q) _ _ (fun _ => true) (BitVec.ofNat 32) t hm hldi
  rw [List.filter_true, List.filter_true] at cg ci'
  have hS : Pre (N := 256) (storeIdx (F := F) (s := S256) (e := .i32) (d := ![16]) wk ![k0_pay319 v2 (BitVec.ofNat 32 q) off t] (ldk11 d L ck _ hw t) (k0_pay318 v2 (BitVec.ofNat 32 q) t) false h11)
        ((W ++ (C.take q).take (16 * (t + 1))).map g)
      ∧ Pre (N := 256) (storeIdx (F := F) (s := S256) (e := .i32) (d := ![16]) wi ![k0_pay319 v2 (BitVec.ofNat 32 q) off t] (ldi11 d L ci _ hw t) (k0_pay318 v2 (BitVec.ofNat 32 q) t) false h11)
        ((W ++ (C.take q).take (16 * (t + 1))).map (BitVec.ofNat 32)) := by
    constructor
    · rw [List.map_append, cg, ← List.append_assoc, ← List.map_append]
      exact hwk.append fun k hk => by rw [List.length_map]; exact hp k hk
    · rw [List.map_append, ci', ← List.append_assoc, ← List.map_append]
      exact hwi.append fun k hk => by rw [List.length_map]; exact hp k hk
  clear cg ci' hp hm
  iintro ⟨Hck, Hci, Hwk, Hwi⟩
  unfold k0_t11_body
  sl_exec_parts (disch := exact h11)
  iapply (wp_scatter (c := thr d L) (base := bWk) (E := Set.univ) wk (storeIdx (F := F) (s := S256) (e := .i32) (d := ![16]) wk
    ![k0_pay319 v2 (BitVec.ofNat 32 q) off t] (ldk11 d L ck _ hw t) (k0_pay318 v2 (BitVec.ofNat 32 q) t) false h11) (Memref.set_access_whole _) ?_) $$ Hwk
  · rw [Memref.write_access_whole_univ, Memref.read_access_whole]; rfl
  iintro Hwk
  sl_exec_parts (disch := exact h11)
  iapply (wp_scatter (c := thr d L) (base := bWi) (E := Set.univ) wi (storeIdx (F := F) (s := S256) (e := .i32) (d := ![16]) wi
    ![k0_pay319 v2 (BitVec.ofNat 32 q) off t] (ldi11 d L ci _ hw t) (k0_pay318 v2 (BitVec.ofNat 32 q) t) false h11) (Memref.set_access_whole _) ?_) $$ Hwi
  · rw [Memref.write_access_whole_univ, Memref.read_access_whole]; rfl
  iintro Hwi
  sl_exec_parts
  rw [wp_ret]; imodintro
  iexists _; iexists _
  isplitr [Hck Hci Hwk Hwi]
  · ipureintro; exact hS
  · iframe
end

end Cert.Proof.TopRow

end
-- ==== Proof.Bins.lean ====
module

public import proofs.«01_k».proof.Proof.Base
public import proofs.«01_k».proof.Proof.Tail

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # Finding the threshold bin

The kernel scans the bins from the last to the first, sixteen at a time, for the largest bin from which on at least
`kneed` keys stand. Here one block of that scan is written op by op, and its meaning is proved on natural numbers. -/

/-- What the scan carries from one block of bins to the next. -/
structure BS where
  /-- the bin found -/
  d : BitVec 32
  /-- the number of keys past it -/
  cnt : BitVec 32
  /-- one once the bin is found -/
  found : BitVec 32
  /-- the number of keys in the blocks seen -/
  cum : BitVec 32

/-- The last lane of a register. -/
def last (v : IVec S16 32) : BitVec 32 := extractAt ![15] v inpos_S16_p15

theorem last_eq (v : IVec S16 32) : last v = v (ix 15) := by
  have h : ∀ i : S16.Idx, i 0 = (15 : Fin 16) → v i = v (ix 15) := by
    intro i hi; rw [ix_surj i, hi]
  exact h _ rfl

/-- The number of keys from each bin of a block on. -/
def sfxOf (tot : IVec S16 32) (cum : BitVec 32) : IVec S16 32 :=
  addi (addi (subi (broadcast S16 (last (scan .sum tot))) (scan .sum tot)) tot) (broadcast S16 cum)

/-- One block of the scan. -/
def bsStep (v2 : IVec S16 32) (kneed jb : BitVec 32) (tot : IVec S16 32) (s : BS) : BS :=
  let sfx := sfxOf tot s.cum
  let mask : IVec S16 1 := cmpi .sge sfx (broadcast S16 kneed)
  let popc := last (scan .sum (extui 32 mask natLt_1_32))
  let anyhit := Scalar.extui (Scalar.cmpi .sgt popc 0#32)
  let blane := Scalar.subi popc 1#32
  let sfxAt := last (xori (scan .min (xori (select mask sfx (broadcast S16 1073741824#32)) (broadcast S16 2147483648#32))) (broadcast S16 2147483648#32))
  let totAt := last (scan .sum (select (cmpi .eq v2 (broadcast S16 blane)) tot (broadcast S16 0#32)))
  let first := Scalar.muli anyhit (Scalar.subi 1#32 s.found)
  ⟨Scalar.select (Scalar.cmpi .sgt first 0#32) (Scalar.addi jb blane) s.d, Scalar.select (Scalar.cmpi .sgt first 0#32) (Scalar.subi sfxAt totAt) s.cnt,
    Scalar.maxsi s.found anyhit, last (xori (scan .max (xori sfx (broadcast S16 2147483648#32))) (broadcast S16 2147483648#32))⟩

theorem upto_telescope (s : ℕ → ℕ) (hs : ∀ c, s (c + 1) ≤ s c) (k : Fin 16) : upto (fun i : Fin 16 => s i - s (i + 1)) k = s 0 - s (k + 1) := by
  have h := fun c : Fin 16 => hs c
  have hanti : ∀ m, s m ≤ s 0 := by intro m; induction m with | zero => exact le_refl _ | succ n ih => exact (hs n).trans ih
  have key : ∀ m : ℕ, m < 16 → (∑ j : Fin 16, if j.val ≤ m then s j - s (j + 1) else 0) = s 0 - s (m + 1) := by
    intro m hm
    induction m with
    | zero =>
      rw [Finset.sum_eq_single (0 : Fin 16)]
      · rfl
      · intro b _ hb; rw [if_neg]; intro hc; exact hb (Fin.ext (by simpa using hc))
      · intro hc; exact absurd (Finset.mem_univ _) hc
    | succ n ih =>
      have h1 : (∑ j : Fin 16, if j.val ≤ n + 1 then s j - s (j + 1) else 0)
          = (∑ j : Fin 16, if j.val ≤ n then s j - s (j + 1) else 0) + ∑ j : Fin 16, if j = ⟨n + 1, hm⟩ then s j - s (j + 1) else 0 := by
        rw [← Finset.sum_add_distrib]
        refine Finset.sum_congr rfl fun j _ => ?_
        by_cases hj : j = ⟨n + 1, hm⟩
        · subst hj; simp
        · have hj' : j.val ≠ n + 1 := fun hc => hj (Fin.ext hc)
          by_cases hl : j.val ≤ n
          · rw [if_pos (by omega), if_pos hl, if_neg hj]; rfl
          · rw [if_neg (by omega), if_neg hl, if_neg hj]
      rw [h1, ih (by omega), Finset.sum_ite_eq' Finset.univ, if_pos (Finset.mem_univ _)]
      have a1 := hs (n + 1); have a2 := hanti (n + 1); have a3 := hanti (n + 2)
      show s 0 - s (n + 1) + (s (n + 1) - s (n + 1 + 1)) = _
      omega
  rw [upto_eq, ← key k.val k.isLt]
  rfl

theorem prefix_iff (q : Fin 16 → Bool) (hq : ∀ i j : Fin 16, i ≤ j → q j = true → q i = true) (k : Fin 16) :
    q k = true ↔ k.val < ((List.finRange 16).filter q).length := by
  constructor
  · intro hk
    have := rank_lt q k hk
    rwa [rank_prefix q k fun j hj => hq j k (le_of_lt hj) hk] at this
  · intro hk
    by_contra hn
    have h1 : rank q k = ((List.finRange 16).filter q).length := by
      unfold rank
      refine congrArg List.length (List.filter_congr fun j _ => ?_)
      by_cases hj : q j = true
      · have : j < k := by
          by_contra hc
          exact hn (hq k j (not_lt.mp hc) hj)
        simp [hj, this]
      · simp at hj; simp [hj]
    have := rank_le_self q k
    omega

theorem xor_top (x : BitVec 32) (hx : x.toNat < 2 ^ 31) : (x ^^^ 2147483648#32).toNat = x.toNat + 2 ^ 31 := by
  rw [BitVec.toNat_xor]
  show x.toNat ^^^ 2 ^ 31 = _
  have h := Nat.two_pow_add_eq_or_of_lt hx 1
  rw [Nat.mul_one] at h
  rw [Nat.add_comm, h]
  apply Nat.eq_of_testBit_eq; intro i
  rw [Nat.testBit_xor, Nat.testBit_or]
  by_cases hi : i = 31
  · subst hi
    rw [Nat.testBit_lt_two_pow hx]; simp
  · rw [Nat.testBit_two_pow_of_ne (Ne.symm hi)]; simp

theorem xor_xor_top (x : BitVec 32) : x ^^^ 2147483648#32 ^^^ 2147483648#32 = x := by
  rw [BitVec.xor_assoc, BitVec.xor_self, BitVec.xor_zero]

section
variable (v2 : IVec S16 32) (hv2 : ∀ k : Fin 16, v2 (ix k) = BitVec.ofNat 32 k) (S : ℕ → ℕ) (hS : ∀ c, S (c + 1) ≤ S c) (hS0 : S 0 < 2 ^ 20)

include hS in
theorem S_anti {a b : ℕ} (h : a ≤ b) : S b ≤ S a := by
  induction h with
  | refl => exact le_refl _
  | step _ ih => exact (hS _).trans ih

variable (kn : ℕ) (hkn : kn < 2 ^ 20) (j : ℕ) (hj : j < 16) (tot : IVec S16 32) (htot : ∀ k : Fin 16, tot (ix k) = BitVec.ofNat 32 (S (16 * j + k) - S (16 * j + k + 1)))

include hS hS0 htot in
theorem scan_tot (k : Fin 16) : (scan .sum tot (ix k)).toNat = S (16 * j) - S (16 * j + k + 1) := by
  have hb : ∀ c, S c < 2 ^ 20 := fun c => lt_of_le_of_lt (S_anti S hS (Nat.zero_le c)) hS0
  have h1 := upto_telescope (fun c => S (16 * j + c)) (fun c => hS _) k
  have hn : ∀ k : Fin 16, (tot (ix k)).toNat = S (16 * j + k) - S (16 * j + k + 1) := by
    intro k; rw [htot, toNat_ofNat_lt _ (by have := hb (16 * j + k); omega)]
  rw [scan_sum tot (fun i : Fin 16 => S (16 * j + i) - S (16 * j + i + 1)) hn]
  · exact h1
  · have h2 := upto_telescope (fun c => S (16 * j + c)) (fun c => hS _) 15
    rw [upto_last] at h2
    have := hb (16 * j)
    refine lt_of_le_of_lt (le_of_eq h2) ?_
    show S (16 * j) - _ < _
    omega

include hS hS0 htot in
theorem sfx_eq (k : Fin 16) : sfxOf tot (BitVec.ofNat 32 (S (16 * (j + 1)))) (ix k) = BitVec.ofNat 32 (S (16 * j + k)) := by
  have hb : ∀ c, S c < 2 ^ 20 := fun c => lt_of_le_of_lt (S_anti S hS (Nat.zero_le c)) hS0
  have e : ∀ u : IVec S16 32, addi (addi (subi (broadcast S16 (last u)) u) tot) (broadcast S16 (BitVec.ofNat 32 (S (16 * (j + 1))))) (ix k)
      = last u - u (ix k) + tot (ix k) + BitVec.ofNat 32 (S (16 * (j + 1))) := fun _ => rfl
  have e15 : 16 * j + (15 : Fin 16).val + 1 = 16 * (j + 1) := by show 16 * j + 15 + 1 = _; omega
  have h15 := scan_tot S hS hS0 j tot htot 15
  rw [e15] at h15
  have hk := scan_tot S hS hS0 j tot htot k
  have h1 := hb (16 * j); have h2 := hS (16 * j + k)
  have h3 := S_anti S hS (show 16 * j ≤ 16 * j + k by omega)
  have h4 := S_anti S hS (show 16 * j + k + 1 ≤ 16 * (j + 1) by omega)
  apply BitVec.eq_of_toNat_eq
  unfold sfxOf
  rw [e, last_eq, htot, BitVec.toNat_add, BitVec.toNat_add, BitVec.toNat_sub, h15, hk, toNat_ofNat_lt _ (by omega), toNat_ofNat_lt _ (by omega), toNat_ofNat_lt _ (by omega)]
  omega

/-- What holds once the blocks from `j` on are scanned. -/
structure BSInv (S : ℕ → ℕ) (kn j : ℕ) (s : BS) : Prop where
  cum : s.cum = BitVec.ofNat 32 (S (16 * j))
  found : (s.found = 0#32 ∧ S (16 * j) < kn) ∨ (s.found = 1#32 ∧ ∃ n, n < 256 ∧ s.d = BitVec.ofNat 32 n ∧ s.cnt = BitVec.ofNat 32 (S (n + 1)) ∧ S (n + 1) < kn ∧ kn ≤ S n)

include hv2 hS hS0 hkn hj htot in
theorem bsStep_spec (s : BS) (h : BSInv S kn (j + 1) s) : BSInv S kn j (bsStep v2 (BitVec.ofNat 32 kn) (BitVec.ofNat 32 (16 * j)) tot s) := by
  have hb : ∀ c, S c < 2 ^ 20 := fun c => lt_of_le_of_lt (S_anti S hS (Nat.zero_le c)) hS0
  obtain ⟨hcum, hfound⟩ := h
  have hsfx : ∀ k, sfxOf tot s.cum (ix k) = BitVec.ofNat 32 (S (16 * j + k)) := by rw [hcum]; exact sfx_eq S hS hS0 j tot htot
  generalize hX : sfxOf tot s.cum = sfx at hsfx
  have hmask : ∀ k, (cmpi .sge sfx (broadcast S16 (BitVec.ofNat 32 kn)) : IVec S16 1) (ix k) = 1 ↔ kn ≤ S (16 * j + k) := by
    intro k
    have e : (cmpi .sge sfx (broadcast S16 (BitVec.ofNat 32 kn)) : IVec S16 1) (ix k) = IntOp.cmpi .sge (sfx (ix k)) (BitVec.ofNat 32 kn) := rfl
    have := hb (16 * j + k)
    rw [e, cmpi_sge_iff, hsfx, toInt_ofNat_lt _ (by omega), toInt_ofNat_lt _ (by omega)]; omega
  unfold bsStep
  dsimp only
  rw [hX]
  generalize hM : (cmpi .sge sfx (broadcast S16 (BitVec.ofNat 32 kn)) : IVec S16 1) = mask at hmask
  have hpop := scan_mask_last mask natLt_1_32
  generalize hm : ((List.finRange 16).filter (chosen mask)).length = m at hpop
  have hpre : ∀ k : Fin 16, kn ≤ S (16 * j + k) ↔ k.val < m := by
    intro k
    rw [← hm, ← prefix_iff (chosen mask) ?_ k, ← hmask k]
    · simp [chosen]
    · intro a b hab hb'
      have hb2 : mask (ix b) = 1 := by simpa [chosen] using hb'
      have : mask (ix a) = 1 := (hmask a).mpr (((hmask b).mp hb2).trans (S_anti S hS (by have : a.val ≤ b.val := hab; omega)))
      simpa [chosen] using this
  have hm16 : m ≤ 16 := by rw [← hm]; exact (List.length_filter_le _ _).trans (by simp)
  have hpop' : last (scan .sum (extui 32 mask natLt_1_32)) = BitVec.ofNat 32 m := by
    apply BitVec.eq_of_toNat_eq; rw [last_eq, hpop, toNat_ofNat_lt _ (by omega)]
  have hcum' : last (xori (scan .max (xori sfx (broadcast S16 2147483648#32))) (broadcast S16 2147483648#32)) = BitVec.ofNat 32 (S (16 * j)) := by
    rw [last_eq]
    have hx : ∀ k, ((xori sfx (broadcast S16 2147483648#32)) (ix k)) = BitVec.ofNat 32 (S (16 * j + k)) ^^^ 2147483648#32 := by intro k; rw [← hsfx]; rfl
    have hxn : ∀ k : Fin 16, ((xori sfx (broadcast S16 2147483648#32)) (ix k)).toNat = S (16 * j + k) + 2 ^ 31 := by
      intro k; have := hb (16 * j + k)
      rw [hx, xor_top _ (by rw [toNat_ofNat_lt _ (by omega)]; omega), toNat_ofNat_lt _ (by omega)]
    obtain ⟨⟨i, hi⟩, hall⟩ := scan_max_last (xori sfx (broadcast S16 2147483648#32))
    have h0 := hall 0
    rw [hi, hxn, hxn] at h0
    have h1 := S_anti S hS (show 16 * j + (0 : Fin 16).val ≤ 16 * j + i by simp)
    have e : (xori (scan .max (xori sfx (broadcast S16 2147483648#32))) (broadcast S16 2147483648#32)) (ix 15) = scan .max (xori sfx (broadcast S16 2147483648#32)) (ix 15) ^^^ 2147483648#32 := rfl
    rw [e, hi, hx, xor_xor_top]
    have : S (16 * j + i) = S (16 * j) := by
      have h2 : S (16 * j + (0 : Fin 16).val) = S (16 * j) := rfl
      omega
    rw [this]
  refine ⟨hcum', ?_⟩
  have hext : ∀ b : BitVec 1, (Scalar.extui b : BitVec 32) = if b = 1 then 1#32 else 0#32 := by decide
  have hany : (Scalar.extui (Scalar.cmpi .sgt (last (scan .sum (extui 32 mask natLt_1_32))) 0#32) : BitVec 32) = if 0 < m then 1#32 else 0#32 := by
    rw [hext, hpop']
    have : Scalar.cmpi .sgt (BitVec.ofNat 32 m) 0#32 = 1 ↔ 0 < m := by
      refine (cmpi_sgt_iff _ _).trans ?_
      rw [toInt_ofNat_lt _ (by omega), toInt_ofNat_lt _ (by omega)]; omega
    simp only [this]
  have hself : ∀ f : BitVec 32, f = 0#32 ∨ f = 1#32 → Scalar.maxsi f 1#32 = 1#32 := by rintro f (rfl | rfl) <;> decide
  rw [hany]
  rcases hfound with ⟨hf, hlt⟩ | ⟨hf, n, hn⟩
  · by_cases hm0 : 0 < m
    · right
      rw [if_pos hm0, hf]
      refine ⟨show Scalar.maxsi 0#32 1#32 = 1#32 by decide, 16 * j + (m - 1), by omega, ?_, ?_, ?_, ?_⟩
      · have hc : Scalar.cmpi .sgt (Scalar.muli 1#32 (Scalar.subi 1#32 0#32)) 0#32 = 1 := by decide
        unfold Scalar.select
        rw [if_pos hc, hpop']
        apply BitVec.eq_of_toNat_eq
        show (BitVec.ofNat 32 (16 * j) + (BitVec.ofNat 32 m - 1#32)).toNat = _
        simp only [BitVec.toNat_add, BitVec.toNat_sub, BitVec.toNat_ofNat]
        omega
      · have hc : Scalar.cmpi .sgt (Scalar.muli 1#32 (Scalar.subi 1#32 0#32)) 0#32 = 1 := by decide
        unfold Scalar.select
        rw [if_pos hc]
        have hmn : last (xori (scan .min (xori (select mask sfx (broadcast S16 1073741824#32)) (broadcast S16 2147483648#32))) (broadcast S16 2147483648#32))
            = BitVec.ofNat 32 (S (16 * j + (m - 1))) := by
          rw [last_eq]
          have hx : ∀ k : Fin 16, ((xori (select mask sfx (broadcast S16 1073741824#32)) (broadcast S16 2147483648#32)) (ix k))
              = BitVec.ofNat 32 (if k.val < m then S (16 * j + k) else 1073741824) ^^^ 2147483648#32 := by
            intro k
            have e : ((xori (select mask sfx (broadcast S16 1073741824#32)) (broadcast S16 2147483648#32)) (ix k))
              = Scalar.select (mask (ix k)) (sfx (ix k)) 1073741824#32 ^^^ 2147483648#32 := rfl
            rw [e, hsfx]; unfold Scalar.select
            by_cases hk : k.val < m
            · rw [if_pos ((hmask k).mpr ((hpre k).mpr hk)), if_pos hk]
            · rw [if_neg (fun hc => hk ((hpre k).mp ((hmask k).mp hc))), if_neg hk]
          have hxn : ∀ k : Fin 16, ((xori (select mask sfx (broadcast S16 1073741824#32)) (broadcast S16 2147483648#32)) (ix k)).toNat
              = (if k.val < m then S (16 * j + k) else 1073741824) + 2 ^ 31 := by
            intro k; have := hb (16 * j + k)
            have hlt : (if k.val < m then S (16 * j + k) else 1073741824) < 2 ^ 31 := by split <;> omega
            rw [hx, xor_top _ (by rw [toNat_ofNat_lt _ (by omega)]; omega), toNat_ofNat_lt _ (by omega)]
          obtain ⟨⟨i, hi⟩, hall⟩ := scan_min_last (xori (select mask sfx (broadcast S16 1073741824#32)) (broadcast S16 2147483648#32))
          have h0 := hall ⟨m - 1, by omega⟩
          rw [hi, hxn, hxn, if_pos (show (⟨m - 1, by omega⟩ : Fin 16).val < m by show m - 1 < m; omega)] at h0
          have e : (xori (scan .min (xori (select mask sfx (broadcast S16 1073741824#32)) (broadcast S16 2147483648#32))) (broadcast S16 2147483648#32)) (ix 15)
            = scan .min (xori (select mask sfx (broadcast S16 1073741824#32)) (broadcast S16 2147483648#32)) (ix 15) ^^^ 2147483648#32 := rfl
          rw [e, hi, hx, xor_xor_top]
          have hbm := hb (16 * j + (m - 1))
          have h0' : (if i.val < m then S (16 * j + i) else 1073741824) ≤ S (16 * j + (m - 1)) := Nat.le_of_add_le_add_right h0
          by_cases hi' : i.val < m
          · rw [if_pos hi'] at h0' ⊢
            have h1 := S_anti S hS (show 16 * j + i.val ≤ 16 * j + (m - 1) by omega)
            rw [show S (16 * j + i.val) = S (16 * j + (m - 1)) by omega]
          · rw [if_neg hi'] at h0'; omega
        have hbl : Scalar.subi (BitVec.ofNat 32 m) 1#32 = BitVec.ofNat 32 (m - 1) := by
          apply BitVec.eq_of_toNat_eq
          show (BitVec.ofNat 32 m - 1#32).toNat = _
          simp only [BitVec.toNat_sub, BitVec.toNat_ofNat]
          omega
        have htt : last (scan .sum (select (cmpi .eq v2 (broadcast S16 (Scalar.subi (BitVec.ofNat 32 m) 1#32))) tot (broadcast S16 0#32)))
            = BitVec.ofNat 32 (S (16 * j + (m - 1)) - S (16 * j + (m - 1) + 1)) := by
          have hbm := hb (16 * j + (m - 1))
          have hlane : ∀ k : Fin 16, ((select (cmpi .eq v2 (broadcast S16 (Scalar.subi (BitVec.ofNat 32 m) 1#32))) tot (broadcast S16 0#32) : IVec S16 32) (ix k)).toNat
              = if k = ⟨m - 1, by omega⟩ then S (16 * j + k) - S (16 * j + k + 1) else 0 := by
            intro k
            have e : (select (cmpi .eq v2 (broadcast S16 (Scalar.subi (BitVec.ofNat 32 m) 1#32))) tot (broadcast S16 0#32) : IVec S16 32) (ix k)
              = Scalar.select (IntOp.cmpi .eq (v2 (ix k)) (Scalar.subi (BitVec.ofNat 32 m) 1#32)) (tot (ix k)) 0#32 := rfl
            rw [e, hbl, hv2, htot]; unfold Scalar.select
            have hiff : IntOp.cmpi .eq (BitVec.ofNat 32 k.val) (BitVec.ofNat 32 (m - 1)) = 1 ↔ k = ⟨m - 1, by omega⟩ := by
              rw [cmpi_eq_iff]
              constructor
              · intro hc
                have := congrArg BitVec.toNat hc
                rw [toNat_ofNat_lt _ (by omega), toNat_ofNat_lt _ (by omega)] at this
                exact Fin.ext this
              · intro hc; rw [hc]
            by_cases hk : k = ⟨m - 1, by omega⟩
            · rw [if_pos (hiff.mpr hk), if_pos hk, toNat_ofNat_lt _ (by have := hb (16 * j + k); omega)]
            · rw [if_neg (fun hc => hk (hiff.mp hc)), if_neg hk]; rfl
          have hsum : (∑ k : Fin 16, if k = ⟨m - 1, by omega⟩ then S (16 * j + k.val) - S (16 * j + k.val + 1) else 0) = S (16 * j + (m - 1)) - S (16 * j + (m - 1) + 1) := by
            rw [Finset.sum_ite_eq' Finset.univ, if_pos (Finset.mem_univ _)]
          apply BitVec.eq_of_toNat_eq
          rw [last_eq, scan_sum _ (fun k : Fin 16 => if k = ⟨m - 1, by omega⟩ then S (16 * j + k.val) - S (16 * j + k.val + 1) else 0) hlane
            (lt_of_le_of_lt (le_of_eq hsum) (by omega)), upto_last, hsum, toNat_ofNat_lt _ (by omega)]
        rw [hmn, hpop', htt]
        have h1 := hS (16 * j + (m - 1)); have hbm := hb (16 * j + (m - 1))
        apply BitVec.eq_of_toNat_eq
        show (BitVec.ofNat 32 _ - BitVec.ofNat 32 _).toNat = _
        rw [BitVec.toNat_sub, toNat_ofNat_lt _ (by omega), toNat_ofNat_lt _ (by omega), toNat_ofNat_lt _ (by omega)]
        omega
      · by_cases h16 : m < 16
        · have := (hpre ⟨m, h16⟩).not.mpr (by show ¬ m < m; omega)
          rw [show 16 * j + (m - 1) + 1 = 16 * j + m by omega]
          exact Nat.lt_of_not_le this
        · rw [show 16 * j + (m - 1) + 1 = 16 * (j + 1) by omega]; exact hlt
      · exact (hpre ⟨m - 1, by omega⟩).mpr (by show m - 1 < m; omega)
    · left
      rw [if_neg hm0, hf]
      refine ⟨show Scalar.maxsi 0#32 0#32 = 0#32 by decide, ?_⟩
      have := (hpre 0).not.mpr (by show ¬ 0 < m; exact hm0)
      exact Nat.lt_of_not_le this
  · right
    have hc : ∀ b : BitVec 32, b = 0#32 ∨ b = 1#32 → ¬ Scalar.cmpi .sgt (Scalar.muli b (Scalar.subi 1#32 1#32)) 0#32 = 1 := by rintro b (rfl | rfl) <;> decide
    have hb01 : (if 0 < m then 1#32 else 0#32) = 0#32 ∨ (if 0 < m then 1#32 else 0#32) = (1#32 : BitVec 32) := by split <;> simp
    rw [hf]
    refine ⟨?_, n, hn.1, ?_, ?_, hn.2.2.2⟩
    · show Scalar.maxsi 1#32 (if 0 < m then 1#32 else 0#32) = 1#32
      rcases hb01 with h | h <;> rw [h] <;> decide
    · unfold Scalar.select; rw [if_neg (hc _ hb01)]; exact hn.2.1
    · unfold Scalar.select; rw [if_neg (hc _ hb01)]; exact hn.2.2.1
end

end Cert.Proof.TopRow

end
-- ==== Proof.Hist.lean ====
module

public import proofs.«01_k».proof.Proof.Base
public import proofs.«01_k».proof.Proof.Bins

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # From the histogram to the threshold bin -/

variable (d : Dev nD) (L : grid0.Coords)

/-- Sixteen words of the histogram at offset `o`. -/
abbrev ldH (h : Bf (F := F) d L bH) (o : ℕ) (ho : ∀ a, (![o] : Fin 1 → ℕ) a + S16.size a ≤ S4384.size a) : IVec S16 32 :=
  (bH).view.readAt (Elt F) (Rect.unit (s := S4384) ![o] S16.size ho).toLoadRect h

theorem inbH {o : ℕ} (ho : o ≤ 256) (l : Fin 16) : ∀ a, (![o + 273 * l.val] : Fin 1 → ℕ) a + S16.size a ≤ S4384.size a := by
  intro a; obtain rfl : a = 0 := Subsingleton.elim _ _
  show o + 273 * l.val + 16 ≤ 4384
  have := l.isLt; omega

/-- The counts of sixteen bins from bin `o` on, summed over the lanes of the histogram. -/
def cols (h : Bf (F := F) d L bH) (o : ℕ) (ho : o ≤ 256) : IVec S16 32 :=
  addi (addi (addi (addi (addi (addi (addi (addi (addi (addi (addi (addi (addi (addi (addi
    (ldH d L h _ (inbH ho 0)) (ldH d L h _ (inbH ho 1))) (ldH d L h _ (inbH ho 2))) (ldH d L h _ (inbH ho 3)))
    (ldH d L h _ (inbH ho 4))) (ldH d L h _ (inbH ho 5))) (ldH d L h _ (inbH ho 6))) (ldH d L h _ (inbH ho 7)))
    (ldH d L h _ (inbH ho 8))) (ldH d L h _ (inbH ho 9))) (ldH d L h _ (inbH ho 10))) (ldH d L h _ (inbH ho 11)))
    (ldH d L h _ (inbH ho 12))) (ldH d L h _ (inbH ho 13))) (ldH d L h _ (inbH ho 14))) (ldH d L h _ (inbH ho 15))

theorem cols_ix (h : Bf (F := F) d L bH) (o : ℕ) (ho : o ≤ 256) (k : Fin 16) :
    cols d L h o ho (ix k) = BitVec.ofNat 32 (∑ l : Fin 16, (rd (N := 4384) h (l * 273 + (o + k))).toNat) := by
  have hl : ∀ l : Fin 16, ldH d L h _ (inbH ho l) (ix k) = BitVec.ofNat 32 (rd (N := 4384) h (l * 273 + (o + k))).toNat := by
    intro l
    have := readAt_ix (F := F) (bH).view h ![o + 273 * l.val] (inbH ho l) k
    refine this.trans ?_
    rw [BitVec.ofNat_toNat, BitVec.setWidth_eq]
    refine congrArg (rd (N := 4384) h) ?_
    show o + 273 * l.val + k.val = _
    omega
  have e : ∀ a : Fin 16 → IVec S16 32, addi (addi (addi (addi (addi (addi (addi (addi (addi (addi (addi (addi (addi (addi (addi
    (a 0) (a 1)) (a 2)) (a 3)) (a 4)) (a 5)) (a 6)) (a 7)) (a 8)) (a 9)) (a 10)) (a 11)) (a 12)) (a 13)) (a 14)) (a 15) (ix k)
    = a 0 (ix k) + a 1 (ix k) + a 2 (ix k) + a 3 (ix k) + a 4 (ix k) + a 5 (ix k) + a 6 (ix k) + a 7 (ix k) + a 8 (ix k) + a 9 (ix k) + a 10 (ix k)
      + a 11 (ix k) + a 12 (ix k) + a 13 (ix k) + a 14 (ix k) + a 15 (ix k) := fun _ => rfl
  refine (e fun l => ldH d L h _ (inbH ho l)).trans ?_
  simp only [hl, Fin.sum_univ_succ, Fin.sum_univ_zero, BitVec.ofNat_add, BitVec.add_assoc, add_zero]
  rfl

/-- The number of the first `N` entries whose bin is `b` or later, bin 256 included. -/
def SB (B : ℕ → ℕ) (N b : ℕ) : ℕ := ((List.range N).filter fun n => decide (b ≤ B n ∧ B n ≤ 256)).length

theorem SB_succ (B : ℕ → ℕ) (N b : ℕ) (hb : b ≤ 256) : SB B N b = SB B N (b + 1) + (List.range N).countP (fun n => decide (B n = b)) := by
  unfold SB
  rw [← List.countP_eq_length_filter, ← List.countP_eq_length_filter]
  induction N with
  | zero => rfl
  | succ n ih =>
    rw [List.range_succ, List.countP_append, List.countP_append, List.countP_append, ih]
    simp only [List.countP_singleton, decide_eq_true_eq]
    split <;> split <;> split <;> omega

theorem SB_anti (B : ℕ → ℕ) (N b : ℕ) : SB B N (b + 1) ≤ SB B N b := by
  unfold SB
  rw [← List.countP_eq_length_filter, ← List.countP_eq_length_filter]
  refine List.countP_mono_left fun n _ h => ?_
  simp only [decide_eq_true_eq] at h ⊢
  omega

theorem SB_le (B : ℕ → ℕ) (N b : ℕ) : SB B N b ≤ N := by
  unfold SB
  exact (List.length_filter_le _ _).trans (by simp)

theorem SB_top (B : ℕ → ℕ) (N b : ℕ) (hb : 256 < b) : SB B N b = 0 := by
  unfold SB
  rw [List.length_eq_zero_iff, List.filter_eq_nil_iff]
  intro n _ h
  simp only [decide_eq_true_eq] at h
  omega

theorem sum_lanes (B : ℕ → ℕ) (m c : ℕ) :
    (∑ l : Fin 16, (List.range m).countP fun t => decide (B (16 * t + l) = c)) = (List.range (16 * m)).countP fun n => decide (B n = c) := by
  induction m with
  | zero => simp
  | succ n ih =>
    have h1 : List.range (16 * (n + 1)) = List.range (16 * n) ++ (List.range 16).map (16 * n + ·) := by
      rw [show 16 * (n + 1) = 16 * n + 16 by omega, List.range_add]
    rw [h1, List.countP_append, ← ih, List.countP_map]
    simp only [List.range_succ (n := n), List.countP_append, List.countP_singleton, Finset.sum_add_distrib, decide_eq_true_eq]
    refine congrArg _ ?_
    have h2 : List.range 16 = [0, 1, 2, 3, 4, 5, 6, 7, 8, 9, 10, 11, 12, 13, 14, 15] := rfl
    rw [h2]
    simp only [Fin.sum_univ_succ, Fin.sum_univ_zero, List.countP_cons, List.countP_nil, Function.comp, decide_eq_true_eq]
    have h3 : ∀ i : Fin 16, (16 * n + i.val) = 16 * n + i.val := fun _ => rfl
    show (if B (16 * n + 0) = c then 1 else 0) + ((if B (16 * n + 1) = c then 1 else 0) + ((if B (16 * n + 2) = c then 1 else 0) + ((if B (16 * n + 3) = c then 1 else 0)
      + ((if B (16 * n + 4) = c then 1 else 0) + ((if B (16 * n + 5) = c then 1 else 0) + ((if B (16 * n + 6) = c then 1 else 0) + ((if B (16 * n + 7) = c then 1 else 0)
      + ((if B (16 * n + 8) = c then 1 else 0) + ((if B (16 * n + 9) = c then 1 else 0) + ((if B (16 * n + 10) = c then 1 else 0) + ((if B (16 * n + 11) = c then 1 else 0)
      + ((if B (16 * n + 12) = c then 1 else 0) + ((if B (16 * n + 13) = c then 1 else 0) + ((if B (16 * n + 14) = c then 1 else 0) + ((if B (16 * n + 15) = c then 1 else 0) + 0))))))))))))))) = _
    simp only [Nat.add_zero, Nat.zero_add, Nat.add_comm, Nat.add_left_comm]

/-- The scan after `n` blocks, from the last block on. -/
def bsAll (v2 : IVec S16 32) (kneed : BitVec 32) (h : Bf (F := F) d L bH) : (n : ℕ) → n ≤ 16 → BS
  | 0, _ => ⟨256#32, 0#32, 0#32, last (scan .sum (cols d L h 256 (le_refl _)))⟩
  | n + 1, hn => bsStep v2 kneed (BitVec.ofNat 32 (16 * (15 - n))) (cols d L h (16 * (15 - n)) (by omega)) (bsAll v2 kneed h n (by omega))

/-- The scan finds the bin where the count from the last bin on first reaches `kn`, and the count past it. -/
theorem bsAll_spec (v2 : IVec S16 32) (hv2 : ∀ k : Fin 16, v2 (ix k) = BitVec.ofNat 32 k) (h : Bf (F := F) d L bH) (B : ℕ → ℕ) (m : ℕ)
    (hm : 16 * m < 2 ^ 20) (hh : HistIs (F := F) h B m) (hB : ∀ n, n < 16 * m → B n ≤ 256 ∨ 273 ≤ B n) (kn : ℕ) (hlo : SB B (16 * m) 256 < kn)
    (hhi : kn ≤ SB B (16 * m) 0) (hle : (16 : ℕ) ≤ 16) :
    ∃ n, n < 256 ∧ (bsAll d L v2 (BitVec.ofNat 32 kn) h 16 hle).d = BitVec.ofNat 32 n
      ∧ (bsAll d L v2 (BitVec.ofNat 32 kn) h 16 hle).cnt = BitVec.ofNat 32 (SB B (16 * m) (n + 1)) ∧ SB B (16 * m) (n + 1) < kn ∧ kn ≤ SB B (16 * m) n := by
  have hS := SB_anti B (16 * m)
  have hS0 : SB B (16 * m) 0 < 2 ^ 20 := lt_of_le_of_lt (SB_le _ _ _) hm
  have htot : ∀ (j : ℕ) (hj : 16 * j ≤ 256) (k : Fin 16), cols d L h (16 * j) hj (ix k) = BitVec.ofNat 32 (SB B (16 * m) (16 * j + k) - SB B (16 * m) (16 * j + k + 1)) := by
    intro j hj k
    rw [cols_ix]
    refine congrArg _ ?_
    have h1 : (∑ l : Fin 16, (rd (N := 4384) h (l * 273 + (16 * j + k))).toNat) = ∑ l : Fin 16, (List.range m).countP fun t => decide (B (16 * t + l) = 16 * j + k) :=
      Finset.sum_congr rfl fun l _ => hh l l.isLt (16 * j + k) (by have := k.isLt; omega)
    rw [h1, sum_lanes]
    by_cases hc : 16 * j + k.val ≤ 256
    · have := SB_succ B (16 * m) (16 * j + k) hc
      omega
    · rw [SB_top _ _ _ (by omega), SB_top _ _ _ (by omega), List.countP_eq_zero]
      intro n hn
      rw [List.mem_range] at hn
      have := hB n hn; have := k.isLt
      simp only [decide_eq_true_eq]
      omega
  have key : ∀ n (hn : n ≤ 16), BSInv (SB B (16 * m)) kn (16 - n) (bsAll d L v2 (BitVec.ofNat 32 kn) h n hn) := by
    intro n
    induction n with
    | zero =>
      intro hn
      refine ⟨?_, Or.inl ⟨rfl, hlo⟩⟩
      have e0 : (bsAll d L v2 (BitVec.ofNat 32 kn) h 0 hn).cum = last (scan .sum (cols d L h 256 (le_refl _))) := rfl
      have h256 : ∀ k : Fin 16, cols d L h 256 (le_refl _) (ix k) = BitVec.ofNat 32 (SB B (16 * m) (16 * 16 + k) - SB B (16 * m) (16 * 16 + k + 1)) :=
        fun k => htot 16 (by omega) k
      rw [e0]
      generalize cols d L h 256 (le_refl _) = u at h256
      have hk := scan_tot (SB B (16 * m)) hS hS0 16 u h256 15
      have h272 : SB B (16 * m) (16 * 16 + (15 : Fin 16).val + 1) = 0 := SB_top B (16 * m) _ (by omega)
      have h256' := SB_le B (16 * m) (16 * (16 - 0))
      apply BitVec.eq_of_toNat_eq
      rw [last_eq, hk, h272, toNat_ofNat_lt _ (by omega), Nat.sub_zero]
    | succ n ih =>
      intro hn
      have := ih (by omega)
      rw [show 16 - n = (15 - n) + 1 by omega] at this
      rw [show 16 - (n + 1) = 15 - n by omega]
      have e1 : bsAll d L v2 (BitVec.ofNat 32 kn) h (n + 1) hn
        = bsStep v2 (BitVec.ofNat 32 kn) (BitVec.ofNat 32 (16 * (15 - n))) (cols d L h (16 * (15 - n)) (by omega)) (bsAll d L v2 (BitVec.ofNat 32 kn) h n (by omega)) := rfl
      rw [e1]
      have ht := htot (15 - n) (by omega)
      generalize cols d L h (16 * (15 - n)) _ = u at ht ⊢
      generalize bsAll d L v2 (BitVec.ofNat 32 kn) h n _ = s at this ⊢
      exact bsStep_spec v2 hv2 (SB B (16 * m)) hS hS0 kn (by omega) (15 - n) (by omega) u ht s this
  have h16 := key 16 hle
  rcases h16.found with ⟨_, hc⟩ | ⟨_, hc⟩
  · exact absurd hhi (by simpa using hc)
  · exact hc

end Cert.Proof.TopRow

end
-- ==== Proof.Select.lean ====
module

public import proofs.«01_k».proof.Proof.Base
public import proofs.«01_k».proof.Proof.Hist

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # What the selection rounds keep

Places of a row are natural numbers below `N`; `g` gives each place's key. -/

variable (g : ℕ → BitVec 32)

/-- The key of place `n` without its low `u` bits. -/
def Hi (u n : ℕ) : ℤ := (g n).toInt / 2 ^ u

/-- Between two rounds: `p` is the high part of the threshold key, `C` the candidates in order, `W` the winners, and `q` the number of
entries still to be chosen. -/
structure RInv (N u : ℕ) (p : ℤ) (C W : List ℕ) (q : ℕ) : Prop where
  sub : C.Sublist (List.range N)
  eqp : (C.filter fun n => decide (Hi g u n = p)) = (List.range N).filter fun n => decide (Hi g u n = p)
  perm : (W ++ C.filter fun n => decide (p < Hi g u n)).Perm ((List.range N).filter fun n => decide (p < Hi g u n))
  ge : ∀ n ∈ C, p ≤ Hi g u n
  pos : 1 ≤ q
  qle : q ≤ C.length
  sum : W.length + q = 256
  abv : (C.filter fun n => decide (p < Hi g u n)).length < q

theorem RInv.len {N u : ℕ} {p : ℤ} {C W : List ℕ} {q : ℕ} (h : RInv g N u p C W q) : C.length ≤ N := by
  have := h.sub.length_le; rwa [List.length_range] at this

/-- The number of candidates in bin `b` or later. -/
def SC (C : List ℕ) (s : ℕ) (p : ℤ) (b : ℕ) : ℕ := (C.filter fun n => decide (b ≤ binw (g n) s p)).length

theorem Hi_div (s n : ℕ) : Hi g (s + 8) n = Hi g s n / 256 := by
  unfold Hi
  rw [Int.pow_add, Int.ediv_ediv_of_nonneg (Int.le_of_lt (Int.pow_pos (by decide)))]
  rfl

theorem binw_lt_iff (s : ℕ) (p : ℤ) (n dd : ℕ) (hd : dd < 256) (hp : p ≤ Hi g (s + 8) n) : dd < binw (g n) s p ↔ 256 * p + dd < Hi g s n := by
  have h := Hi_div g s n
  have e : binw (g n) s p = if Hi g (s + 8) n = p then (Hi g s n % 256).toNat else 256 := rfl
  rw [e]; split <;> omega

theorem binw_eq_iff (s : ℕ) (p : ℤ) (n dd : ℕ) (hd : dd < 256) (hp : p ≤ Hi g (s + 8) n) : binw (g n) s p = dd ↔ Hi g s n = 256 * p + dd := by
  have h := Hi_div g s n
  have e : binw (g n) s p = if Hi g (s + 8) n = p then (Hi g s n % 256).toNat else 256 := rfl
  rw [e]; split <;> omega

theorem binw_top_iff (s : ℕ) (p : ℤ) (n : ℕ) (hp : p ≤ Hi g (s + 8) n) : 256 ≤ binw (g n) s p ↔ p < Hi g (s + 8) n := by
  have h := Hi_div g s n
  have e : binw (g n) s p = if Hi g (s + 8) n = p then (Hi g s n % 256).toNat else 256 := rfl
  rw [e]; split <;> omega

theorem SC_zero (C : List ℕ) (s : ℕ) (p : ℤ) : SC g C s p 0 = C.length := by
  unfold SC
  rw [List.filter_eq_self.mpr (fun n _ => by simp)]

theorem SC_256 {N s : ℕ} {p : ℤ} {C W : List ℕ} {q : ℕ} (h : RInv g N (s + 8) p C W q) : SC g C s p 256 < q := by
  refine lt_of_eq_of_lt ?_ h.abv
  unfold SC
  refine congrArg List.length (List.filter_congr fun n hn => ?_)
  exact decide_eq_decide.mpr (binw_top_iff g s p n (h.ge n hn))

/-- The candidates of one class, all different, and the rest split a filter. -/
theorem filter_or_perm (l : List ℕ) (a b : ℕ → Bool) (hab : ∀ n ∈ l, a n = true → b n = false) :
    (l.filter a ++ l.filter b).Perm (l.filter fun n => a n || b n) := by
  induction l with
  | nil => exact List.Perm.refl _
  | cons x l ih =>
    have ih' := ih fun n hn => hab n (List.mem_cons_of_mem _ hn)
    have hx := hab x List.mem_cons_self
    by_cases ha : a x = true
    · rw [List.filter_cons_of_pos ha, List.filter_cons_of_neg (by rw [hx ha]; decide), List.filter_cons_of_pos (by rw [ha]; rfl)]
      exact List.Perm.cons _ ih'
    · by_cases hb : b x = true
      · rw [List.filter_cons_of_neg ha, List.filter_cons_of_pos hb, List.filter_cons_of_pos (by rw [hb]; simp)]
        exact List.perm_middle.trans (List.Perm.cons _ ih')
      · rw [List.filter_cons_of_neg ha, List.filter_cons_of_neg hb, List.filter_cons_of_neg (by simp at ha hb; simp [ha, hb])]
        exact ih'

/-- One round keeps the invariant. -/
theorem RInv.step {N s : ℕ} {p : ℤ} {C W : List ℕ} {q : ℕ} (h : RInv g N (s + 8) p C W q) (dd : ℕ) (hd : dd < 256)
    (hlo : SC g C s p (dd + 1) < q) (hhi : q ≤ SC g C s p dd) :
    RInv g N s (256 * p + dd) (C.filter fun n => decide (binw (g n) s p = dd)) (W ++ C.filter fun n => decide (dd < binw (g n) s p)) (q - SC g C s p (dd + 1)) := by
  have hC' : (C.filter fun n => decide (binw (g n) s p = dd)) = C.filter fun n => decide (Hi g s n = 256 * p + dd) :=
    List.filter_congr fun n hn => decide_eq_decide.mpr (binw_eq_iff g s p n dd hd (h.ge n hn))
  have hW' : (C.filter fun n => decide (dd < binw (g n) s p)) = C.filter fun n => decide (256 * p + dd < Hi g s n) :=
    List.filter_congr fun n hn => decide_eq_decide.mpr (binw_lt_iff g s p n dd hd (h.ge n hn))
  have hge : ∀ n ∈ C.filter (fun n => decide (binw (g n) s p = dd)), Hi g s n = 256 * p + dd := by
    intro n hn; rw [hC'] at hn; simpa using (List.mem_filter.mp hn).2
  have hcut : ∀ (P : ℕ → Bool), (∀ n, P n = true → Hi g (s + 8) n = p) → C.filter P = (List.range N).filter P := by
    intro P hP
    have e : ∀ l : List ℕ, l.filter P = (l.filter fun n => decide (Hi g (s + 8) n = p)).filter P := by
      intro l; rw [List.filter_filter]
      refine List.filter_congr fun n _ => ?_
      by_cases hn : P n = true
      · simp [hn, hP n hn]
      · simp at hn; simp [hn]
    rw [e C, h.eqp, ← e]
  have hab0 : ((C.filter fun n => decide (binw (g n) s p = dd)).filter fun n => decide (256 * p + dd < Hi g s n)) = [] := by
    rw [List.filter_eq_nil_iff]; intro n hn; rw [hge n hn]; simp
  have hlen : SC g C s p dd = SC g C s p (dd + 1) + (C.filter fun n => decide (binw (g n) s p = dd)).length := by
    unfold SC
    have hp := (filter_or_perm C (fun n => decide (dd + 1 ≤ binw (g n) s p)) (fun n => decide (binw (g n) s p = dd))
      (fun n _ hn => by simp at hn ⊢; omega)).length_eq
    rw [List.length_append] at hp
    rw [hp]
    refine congrArg List.length (List.filter_congr fun n _ => ?_)
    rw [← Bool.decide_or]; exact decide_eq_decide.mpr (by omega)
  refine ⟨List.filter_sublist.trans h.sub, ?_, ?_, fun n hn => le_of_eq (hge n hn).symm, by omega, by omega, ?_, ?_⟩
  · rw [List.filter_eq_self.mpr (fun n hn => by rw [hge n hn]; simp), hC']
    refine hcut _ fun n hn => ?_
    have := Hi_div g s n
    simp only [decide_eq_true_eq] at hn
    omega
  · rw [hab0, List.append_nil, hW']
    have h1 : ((C.filter fun n => decide (p < Hi g (s + 8) n)) ++ C.filter fun n => decide (Hi g (s + 8) n = p ∧ 256 * p + dd < Hi g s n)).Perm
        (C.filter fun n => decide (256 * p + dd < Hi g s n)) := by
      refine (filter_or_perm C _ _ (fun n _ hn => by simp at hn ⊢; omega)).trans (List.Perm.of_eq ?_)
      refine List.filter_congr fun n hn => ?_
      have := Hi_div g s n; have := h.ge n hn
      rw [← Bool.decide_or]; exact decide_eq_decide.mpr (by omega)
    have h2 : (((List.range N).filter fun n => decide (p < Hi g (s + 8) n)) ++ (List.range N).filter fun n => decide (Hi g (s + 8) n = p ∧ 256 * p + dd < Hi g s n)).Perm
        ((List.range N).filter fun n => decide (256 * p + dd < Hi g s n)) := by
      refine (filter_or_perm _ _ _ (fun n _ hn => by simp at hn ⊢; omega)).trans (List.Perm.of_eq ?_)
      refine List.filter_congr fun n hn => ?_
      have := Hi_div g s n
      rw [← Bool.decide_or]; exact decide_eq_decide.mpr (by omega)
    refine (h1.symm.append_left W).trans ?_
    rw [← List.append_assoc]
    refine (h.perm.append_right _).trans ?_
    rw [hcut (fun n => decide (Hi g (s + 8) n = p ∧ 256 * p + dd < Hi g s n)) fun n hn => by simp at hn; exact hn.1]
    exact h2
  · rw [List.length_append]
    have : (C.filter fun n => decide (dd < binw (g n) s p)).length = SC g C s p (dd + 1) := rfl
    have := h.sum
    omega
  · rw [hab0]; simp only [List.length_nil]; omega

/-- After a round every candidate agrees with the threshold in the bits found so far. -/
theorem RInv.step_eq {N s : ℕ} {p : ℤ} {C W : List ℕ} {q : ℕ} (h : RInv g N (s + 8) p C W q) (dd : ℕ) (hd : dd < 256) :
    ∀ n ∈ C.filter (fun n => decide (binw (g n) s p = dd)), Hi g s n = 256 * p + dd := by
  intro n hn
  obtain ⟨hC, hb⟩ := List.mem_filter.mp hn
  exact (binw_eq_iff g s p n dd hd (h.ge n hC)).mp (by simpa using hb)

/-- Before the first round: all entries whose top byte is the threshold's or greater. -/
theorem RInv.first (N : ℕ) (p : ℤ) (hlo : ((List.range N).filter fun n => decide (p < Hi g 24 n)).length < 256)
    (hhi : 256 ≤ ((List.range N).filter fun n => decide (p ≤ Hi g 24 n)).length) :
    RInv g N 24 p ((List.range N).filter fun n => decide (p ≤ Hi g 24 n)) [] 256 := by
  have e : ∀ P : ℕ → Bool, (∀ n, P n = true → p ≤ Hi g 24 n) → ((List.range N).filter fun n => decide (p ≤ Hi g 24 n)).filter P = (List.range N).filter P := by
    intro P hP
    rw [List.filter_filter]
    refine List.filter_congr fun n _ => ?_
    by_cases hn : P n = true
    · simp [hn, hP n hn]
    · simp at hn; simp [hn]
  have e1 := e (fun n => decide (Hi g 24 n = p)) fun n hn => by simp at hn; omega
  have e2 := e (fun n => decide (p < Hi g 24 n)) fun n hn => by simp at hn; omega
  refine ⟨List.filter_sublist, e1, ?_, fun n hn => by simpa using (List.mem_filter.mp hn).2, by omega, hhi, rfl, ?_⟩
  · rw [e2]; exact List.Perm.refl _
  · rw [e2]; exact hlo

/-! ## The counts the histogram scan sees -/

theorem SB_binAt (C : List ℕ) (s : ℕ) (ph : BitVec 32) (M b : ℕ) (hM : C.length ≤ M) : SB (binAt C g s ph) M b = SC g C s ph.toInt b := by
  unfold SB SC
  obtain ⟨r, rfl⟩ := Nat.exists_eq_add_of_le hM
  rw [List.range_add, List.filter_append, List.length_append]
  have h2 : ((List.range r).map (C.length + ·)).filter (fun n => decide (b ≤ binAt C g s ph n ∧ binAt C g s ph n ≤ 256)) = [] := by
    rw [List.filter_eq_nil_iff]
    intro n hn
    obtain ⟨i, _, rfl⟩ := List.mem_map.mp hn
    have : binAt C g s ph (C.length + i) = 1000 := by unfold binAt; rw [if_neg (by omega)]
    rw [this]; simp
  rw [h2, List.length_nil, Nat.add_zero]
  have hC : C = (List.range C.length).map fun n => C.getD n 0 := by
    refine List.ext_getElem (by simp) fun n h1 _ => ?_
    rw [List.getElem_map, List.getElem_range, List.getD_eq_getElem?_getD, List.getElem?_eq_getElem h1]; rfl
  conv_rhs => rw [hC, List.filter_map, List.length_map]
  refine congrArg List.length (List.filter_congr fun n hn => ?_)
  have hn' : n < C.length := List.mem_range.mp hn
  have : binAt C g s ph n = binw (g (C.getD n 0)) s ph.toInt := by unfold binAt; rw [if_pos hn']
  rw [this]
  have hle := binw_le (g (C.getD n 0)) s ph.toInt
  simp only [Function.comp]
  exact decide_eq_decide.mpr (by omega)

theorem binAt_ok (C : List ℕ) (s : ℕ) (ph : BitVec 32) (n : ℕ) : binAt C g s ph n ≤ 256 ∨ 273 ≤ binAt C g s ph n := by
  unfold binAt; split
  · exact Or.inl (binw_le _ _ _)
  · exact Or.inr (by omega)

end Cert.Proof.TopRow

end
-- ==== Proof.Clear.lean ====
module

public import proofs.«01_k».proof.Proof.Base
public import proofs.«01_k».proof.Proof.Counts

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! ## Clearing the histogram -/

/-- The first `16 m` bins of every lane are zero. -/
def Zeros (h : Vec F S4384 .i32) (m : ℕ) : Prop := ∀ l < 16, ∀ c < 16 * m, rd h (l * 273 + c) = 0#32

theorem HistIs.of_zeros {h : Vec F S4384 .i32} (hz : Zeros h 18) (B : ℕ → ℕ) : HistIs h B 0 := by
  intro l hl c hc
  rw [hz l hl c (by omega)]; rfl

section
variable (off : Fin 16 → Fin 1 → ℕ) (hin : ∀ r, ∀ a, off r a + S16.size a ≤ S4384.size a) (v4 : IVec S16 32)

/-- Sixteen stores of one register, the last one first. -/
def fills (rs : List (Fin 16)) : List (View.Piece (Elt F) S4384 .i32) := rs.map fun r => ⟨Rect.unit (s := S4384) (off r) S16.size (hin r), v4⟩

theorem rd_fills (h : Vec F S4384 .i32) (hv4 : ∀ k, v4 (ix k) = 0#32) (n : ℕ) (rs : List (Fin 16))
    (hn : (∃ r ∈ rs, off r 0 ≤ n ∧ n < off r 0 + 16) ∨ rd h n = 0#32) :
    rd ((bH).view.read (Elt F) ((bH).view.writes (Elt F) h (fills (F := F) off hin v4 rs))) n = 0#32 := by
  induction rs with
  | nil =>
    rcases hn with ⟨r, hr, _⟩ | hn
    · cases hr
    · exact hn
  | cons r rs ih =>
    have := rd_writes_cons (F := F) (bH).view h (off r) (hin r) v4 (fills (F := F) off hin v4 rs) n
    refine Eq.trans this ?_
    split
    · exact hv4 _
    · next hc =>
      refine ih ?_
      rcases hn with ⟨q, hq, h1⟩ | hn
      · rcases List.mem_cons.mp hq with rfl | hq
        · exact absurd h1 hc
        · exact .inl ⟨q, hq, h1⟩
      · exact .inr hn

theorem zeros_step (h : Vec F S4384 .i32) (hv4 : ∀ k, v4 (ix k) = 0#32) (m : ℕ) (hoff : ∀ r : Fin 16, off r 0 = 273 * r + 16 * m) (hz : Zeros h m) :
    Zeros (F := F) ((bH).view.writes (Elt F) h (fills (F := F) off hin v4 [15, 14, 13, 12, 11, 10, 9, 8, 7, 6, 5, 4, 3, 2, 1, 0])) (m + 1) := by
  intro l hl c hc
  refine rd_fills (F := F) off hin v4 h hv4 (l * 273 + c) [15, 14, 13, 12, 11, 10, 9, 8, 7, 6, 5, 4, 3, 2, 1, 0] ?_
  by_cases h1 : c < 16 * m
  · exact .inr (hz l hl c h1)
  · refine .inl ⟨⟨l, hl⟩, ?_, ?_⟩
    · have : ∀ r : Fin 16, r ∈ [15, 14, 13, 12, 11, 10, 9, 8, 7, 6, 5, 4, 3, 2, 1, (0 : Fin 16)] := by decide
      exact this _
    · have h2 : off ⟨l, hl⟩ 0 = 273 * l + 16 * m := hoff ⟨l, hl⟩
      omega
end

theorem addr_fill (r : Fin 16) (t : ℕ) (ht : t < 18) : BitVec.toNat (BitVec.ofNat 32 (273 * r.val) + (16#32 * (0#32 + (Scf.iv 0#32 1#32 t) * 1#32))) = 273 * r + 16 * t := by
  rw [BitVec.toNat_add, addr16' t (by omega), toNat_ofNat_lt _ (by omega)]; omega

section
variable (d : Dev nD) (L : grid0.Coords)

theorem trip_clear1 (h : Bf (F := F) d L bH) (v1 c0 c1 : BitVec 32) (v3 v4 v10 : IVec S16 32) (k1 : Fin k0_t1_loop.trips) (t : Fin k0_t2_loop.trips)
    (hv4 : ∀ k, v4 (ix k) = 0#32) (hz : Zeros (F := F) h t) :
    pt d L bH h ⊢ wp frame (wpE (defs₀ (F := F)) 𝒱₀ (thr d L) none) Set.univ
      (k0_t2_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v3 v4 v10 c0 c1 k1 t ())
      (fun _ => iprop(∃ h', ⌜Zeros (F := F) h' (t + 1)⌝ ∗ pt d L bH h')) := by
  have ht : t.val < 18 := lt_of_lt_of_eq t.isLt (by decide)
  have hs := zeros_step (fun r => k0_off2 t (BitVec.ofNat 32 (273 * r.val))) (fun r => k0_off2_inb t r) v4 h hv4 t (fun r => addr_fill r t ht) hz
  iintro Hh
  unfold k0_t2_body
  sl_exec_parts
  rw [wp_ret]; imodintro
  iexists _
  isplitr [Hh]
  · ipureintro; exact hs
  · iexact Hh

theorem trip_clear2 (h : Bf (F := F) d L bH) (c0 c1 arg17 arg19 : BitVec 32) (v2 v3 v4 v6 : IVec S16 32) (k5 : Fin k0_t5_loop.trips) (t : Fin k0_t6_loop.trips)
    (hv4 : ∀ k, v4 (ix k) = 0#32) (hz : Zeros (F := F) h t) :
    pt d L bH h ⊢ wp frame (wpE (defs₀ (F := F)) 𝒱₀ (thr d L) none) Set.univ
      (k0_t6_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v2 v3 v4 v6 c0 c1 k5 arg17 arg19 t ())
      (fun _ => iprop(∃ h', ⌜Zeros (F := F) h' (t + 1)⌝ ∗ pt d L bH h')) := by
  have ht : t.val < 18 := lt_of_lt_of_eq t.isLt (by decide)
  have hs := zeros_step (fun r => k0_off6 t (BitVec.ofNat 32 (273 * r.val))) (fun r => k0_off6_inb t r) v4 h hv4 t (fun r => addr_fill r t ht) hz
  iintro Hh
  unfold k0_t6_body
  sl_exec_parts
  rw [wp_ret]; imodintro
  iexists _
  isplitr [Hh]
  · ipureintro; exact hs
  · iexact Hh
end

end Cert.Proof.TopRow

end
-- ==== Proof.Split.lean ====
module

public import proofs.«01_k».proof.Proof.Base
public import proofs.«01_k».proof.Proof.Trip2

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! ## One trip of the loop that splits the candidates -/

section
variable (d : Dev nD) (L : grid0.Coords) (C : List ℕ) (hC : C.length ≤ 32768) (g : ℕ → BitVec 32) (s : ℕ) (hs : s ≤ 16) (ph : BitVec 32)
  (v2 : IVec S16 32) (hv2 : ∀ k : Fin 16, v2 (ix k) = BitVec.ofNat 32 k) (dd : ℕ) (hdd : dd ≤ 255)
  (W : List ℕ) (hW : W.length + (C.filter fun n => decide (dd < binw (g n) s ph.toInt)).length < 256)
  (ck0 : Bf (F := F) d L bCk) (ci0 : Bf (F := F) d L bCi)

/-- What holds before register `m` of the candidates is split. -/
structure SplitInv (m : ℕ) (coff woff : IVec S16 32) (ck : Bf (F := F) d L bCk) (ci : Bf (F := F) d L bCi) (wk : Bf (F := F) d L bWk) (wi : Bf (F := F) d L bWi) : Prop where
  hcoff : ∀ k, coff (ix k) = BitVec.ofNat 32 (level C g s ph dd m).length
  hwoff : ∀ k, woff (ix k) = BitVec.ofNat 32 (W.length + (above C g s ph dd m).length)
  hck : Pre (N := 32768) ck ((level C g s ph dd m).map g)
  hci : Pre (N := 32768) ci ((level C g s ph dd m).map (BitVec.ofNat 32))
  tck : ∀ n, 16 * m ≤ n → rd (N := 32768) ck n = rd (N := 32768) ck0 n
  tci : ∀ n, 16 * m ≤ n → rd (N := 32768) ci n = rd (N := 32768) ci0 n
  hwk : Pre (N := 256) wk ((W ++ above C g s ph dd m).map g)
  hwi : Pre (N := 256) wi ((W ++ above C g s ph dd m).map (BitVec.ofNat 32))

include hC hs hv2 hdd hW in
theorem trip_split (hck0 : Pre (N := 32768) ck0 (C.map g)) (hci0 : Pre (N := 32768) ci0 (C.map (BitVec.ofNat 32)))
    (hw3 : k0_chk3 (BitVec.ofNat 32 C.length)) (t : Fin (k0_t9_loop (BitVec.ofNat 32 C.length)).trips)
    (arg20 : IVec S16 32) (v14918 v16151 v16154 v16155 : BitVec 32) (v16192 v16202 : IVec S16 32) (v16204 : IVec S16 1) (v16208 : BitVec 32)
    (coff woff : IVec S16 32) (ck : Bf (F := F) d L bCk) (ci : Bf (F := F) d L bCi) (wk : Bf (F := F) d L bWk) (wi : Bf (F := F) d L bWi)
    (h : SplitInv (F := F) d L C g s ph dd W ck0 ci0 t coff woff ck ci wk wi) :
    iprop(pt d L bCk ck ∗ pt d L bCi ci ∗ pt d L bWk wk ∗ pt d L bWi wi) ⊢ wp frame (wpE (defs₀ (F := F)) 𝒱₀ (thr d L) none) Set.univ
      (k0_t9_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v2 (BitVec.ofNat 32 C.length) ph arg20 hw3 (BitVec.ofNat 32 s) v14918 v16151 v16154 v16155 v16192 v16202 v16204 v16208 (BitVec.ofNat 32 dd) t (coff, woff))
      (fun st => iprop(∃ ck' ci' wk' wi', ⌜SplitInv (F := F) d L C g s ph dd W ck0 ci0 (t + 1) st.1 st.2 ck' ci' wk' wi'⌝
        ∗ pt d L bCk ck' ∗ pt d L bCi ci' ∗ pt d L bWk wk' ∗ pt d L bWi wi')) := by
  have ht := t9_lt C hC t
  have hoff : k0_off9 (BitVec.ofNat 32 C.length) t 0 = 16 * t.val := off9_eq _ t (by omega)
  have hld : ∀ k : Fin 16, 16 * t.val + k.val < C.length → ldk d L ck _ hw3 t (ix k) = g (C.getD (16 * t.val + k.val) 0) := by
    intro k hk
    have := readAt_ix (F := F) (bCk).view ck (k0_off9 (BitVec.ofNat 32 C.length) t) (k0_off9_inb _ hw3 t) k
    rw [hoff] at this
    rw [← hck0.getD _ hk, ← h.tck _ (by omega)]
    exact this
  have hldi : ∀ k : Fin 16, 16 * t.val + k.val < C.length → ldi9 d L ci _ hw3 t (ix k) = BitVec.ofNat 32 (C.getD (16 * t.val + k.val) 0) := by
    intro k hk
    have := readAt_ix (F := F) (bCi).view ci (k0_off9 (BitVec.ofNat 32 C.length) t) (k0_off9_inb _ hw3 t) k
    rw [hoff] at this
    rw [← hci0.getD _ hk, ← h.tci _ (by omega)]
    exact this
  have h6 := chk6_pay11 C hC g s hs ph v2 hv2 dd hdd t _ hld W hW woff h.hwoff
  have h7 := chk7_pay13 C hC g s hs ph v2 hv2 dd hdd t _ hld coff h.hcoff
  have m6 := pay6_iff C hC g s hs ph v2 hv2 dd hdd t _ hld
  have m7 := pay7_iff C hC g s hs ph v2 hv2 dd hdd t _ hld
  have p11 := pay11_toNat C g s ph v2 dd t (ldk d L ck _ hw3 t) W hW woff h.hwoff
  have p13 := pay13_toNat C hC g s hs ph v2 hv2 dd hdd t _ hld coff h.hcoff
  have cg6 := chunk_eq C _ _ (fun n => decide (dd < binw (g n) s ph.toInt)) g t m6 hld
  have ci6 := chunk_eq C _ _ (fun n => decide (dd < binw (g n) s ph.toInt)) (BitVec.ofNat 32) t m6 hldi
  have cg7 := chunk_eq C _ _ (fun n => decide (binw (g n) s ph.toInt = dd)) g t m7 hld
  have ci7 := chunk_eq C _ _ (fun n => decide (binw (g n) s ph.toInt = dd)) (BitVec.ofNat 32) t m7 hldi
  have hl1 : (level C g s ph dd (t + 1)).length ≤ 16 * (t.val + 1) := level_length_le C g s ph dd (t + 1)
  have l6 := congrArg List.length cg6
  have l7 := congrArg List.length cg7
  simp only [List.length_append, List.length_map] at l6 l7
  have hS : SplitInv (F := F) d L C g s ph dd W ck0 ci0 (t + 1)
      (k0_pay14 v2 (BitVec.ofNat 32 C.length) ph (BitVec.ofNat 32 s) (BitVec.ofNat 32 dd) 0#32 1#32 t coff (ldk d L ck _ hw3 t))
      (k0_pay168 woff (extractAt ![0] (k0_pay15 v2 (BitVec.ofNat 32 C.length) ph (BitVec.ofNat 32 s) (BitVec.ofNat 32 dd) 0#32 1#32 t (ldk d L ck _ hw3 t)) inpos_S1_p0))
      (storeIdx (F := F) (s := S32768) (e := .i32) (d := ![16]) ck
        ![k0_pay13 v2 (BitVec.ofNat 32 C.length) ph (BitVec.ofNat 32 s) (BitVec.ofNat 32 dd) 0#32 1#32 t coff (ldk d L ck _ hw3 t)] (ldk d L ck _ hw3 t)
        (k0_pay7 v2 (BitVec.ofNat 32 C.length) ph (BitVec.ofNat 32 s) (BitVec.ofNat 32 dd) 0#32 1#32 t (ldk d L ck _ hw3 t)) false h7.1)
      (storeIdx (F := F) (s := S32768) (e := .i32) (d := ![16]) ci
        ![k0_pay13 v2 (BitVec.ofNat 32 C.length) ph (BitVec.ofNat 32 s) (BitVec.ofNat 32 dd) 0#32 1#32 t coff (ldk d L ck _ hw3 t)] (ldi9 d L ci _ hw3 t)
        (k0_pay7 v2 (BitVec.ofNat 32 C.length) ph (BitVec.ofNat 32 s) (BitVec.ofNat 32 dd) 0#32 1#32 t (ldk d L ck _ hw3 t)) false h7.1)
      (storeIdx (F := F) (s := S256) (e := .i32) (d := ![16]) wk
        ![k0_pay11 v2 (BitVec.ofNat 32 C.length) ph (BitVec.ofNat 32 s) (BitVec.ofNat 32 dd) 0#32 1#32 t woff (ldk d L ck _ hw3 t)] (ldk d L ck _ hw3 t)
        (k0_pay6 v2 (BitVec.ofNat 32 C.length) ph (BitVec.ofNat 32 s) (BitVec.ofNat 32 dd) 0#32 1#32 t (ldk d L ck _ hw3 t)) false h6.1)
      (storeIdx (F := F) (s := S256) (e := .i32) (d := ![16]) wi
        ![k0_pay11 v2 (BitVec.ofNat 32 C.length) ph (BitVec.ofNat 32 s) (BitVec.ofNat 32 dd) 0#32 1#32 t woff (ldk d L ck _ hw3 t)] (ldi9 d L ci _ hw3 t)
        (k0_pay6 v2 (BitVec.ofNat 32 C.length) ph (BitVec.ofNat 32 s) (BitVec.ofNat 32 dd) 0#32 1#32 t (ldk d L ck _ hw3 t)) false h6.1) := by
    refine ⟨fun k => ?_, fun k => ?_, ?_, ?_, fun n hn => ?_, fun n hn => ?_, ?_, ?_⟩
    · have := used_eq coff (k0_pay7 v2 (BitVec.ofNat 32 C.length) ph (BitVec.ofNat 32 s) (BitVec.ofNat 32 dd) 0#32 1#32 t (ldk d L ck _ hw3 t)) (ldk d L ck _ hw3 t)
        natLt_1_32 _ h.hcoff k slices_S16_o15_S1 inpos_S1_p0
      unfold level at *
      rw [l7]
      exact this
    · have := used_eq woff (k0_pay6 v2 (BitVec.ofNat 32 C.length) ph (BitVec.ofNat 32 s) (BitVec.ofNat 32 dd) 0#32 1#32 t (ldk d L ck _ hw3 t)) (ldk d L ck _ hw3 t)
        natLt_1_32 _ h.hwoff k slices_S16_o15_S1 inpos_S1_p0
      unfold above at *
      rw [l6, ← Nat.add_assoc]
      exact this
    · unfold level; rw [cg7]
      exact h.hck.append fun k _ => by rw [List.length_map]; exact p13 k
    · unfold level; rw [ci7]
      exact h.hci.append fun k _ => by rw [List.length_map]; exact p13 k
    · rw [← h.tck n (by omega)]
      exact rd_append_of_ge (m := (level C g s ph dd t).length) (fun k _ => p13 k) n (by unfold level at *; omega)
    · rw [← h.tci n (by omega)]
      refine rd_append_of_ge (m := (level C g s ph dd t).length) (fun k _ => p13 k) n ?_
      rw [length_pick] at l7 ⊢
      unfold level at *; omega
    · rw [List.map_append]; unfold above; rw [cg6, ← List.append_assoc, ← List.map_append]
      exact h.hwk.append fun k _ => by rw [List.length_map, List.length_append]; exact p11 k
    · rw [List.map_append]; unfold above; rw [ci6, ← List.append_assoc, ← List.map_append]
      exact h.hwi.append fun k _ => by rw [List.length_map, List.length_append]; exact p11 k
  clear cg6 ci6 cg7 ci7 l6 l7 m6 m7 p11 p13
  iintro ⟨Hck, Hci, Hwk, Hwi⟩
  unfold k0_t9_body
  sl_exec_parts (disch := exact h6)
  iapply (wp_scatter (c := thr d L) (base := bWk) (E := Set.univ) wk (storeIdx (F := F) (s := S256) (e := .i32) (d := ![16]) wk
    ![k0_pay11 v2 (BitVec.ofNat 32 C.length) ph (BitVec.ofNat 32 s) (BitVec.ofNat 32 dd) 0#32 1#32 t woff (ldk d L ck _ hw3 t)] (ldk d L ck _ hw3 t) (k0_pay6 v2 (BitVec.ofNat 32 C.length) ph (BitVec.ofNat 32 s) (BitVec.ofNat 32 dd) 0#32 1#32 t (ldk d L ck _ hw3 t)) false h6.1) (Memref.set_access_whole _) ?_) $$ Hwk
  · rw [Memref.write_access_whole_univ, Memref.read_access_whole]; rfl
  iintro Hwk
  iapply (wp_scatter (c := thr d L) (base := bWi) (E := Set.univ) wi (storeIdx (F := F) (s := S256) (e := .i32) (d := ![16]) wi
    ![k0_pay11 v2 (BitVec.ofNat 32 C.length) ph (BitVec.ofNat 32 s) (BitVec.ofNat 32 dd) 0#32 1#32 t woff (ldk d L ck _ hw3 t)] (ldi9 d L ci _ hw3 t) (k0_pay6 v2 (BitVec.ofNat 32 C.length) ph (BitVec.ofNat 32 s) (BitVec.ofNat 32 dd) 0#32 1#32 t (ldk d L ck _ hw3 t)) false h6.1) (Memref.set_access_whole _) ?_) $$ Hwi
  · rw [Memref.write_access_whole_univ, Memref.read_access_whole]; rfl
  iintro Hwi
  sl_exec_parts (disch := exact h7)
  iapply (wp_scatter (c := thr d L) (base := bCk) (E := Set.univ) ck (storeIdx (F := F) (s := S32768) (e := .i32) (d := ![16]) ck
    ![k0_pay13 v2 (BitVec.ofNat 32 C.length) ph (BitVec.ofNat 32 s) (BitVec.ofNat 32 dd) 0#32 1#32 t coff (ldk d L ck _ hw3 t)] (ldk d L ck _ hw3 t) (k0_pay7 v2 (BitVec.ofNat 32 C.length) ph (BitVec.ofNat 32 s) (BitVec.ofNat 32 dd) 0#32 1#32 t (ldk d L ck _ hw3 t)) false h7.1) (Memref.set_access_whole _) ?_) $$ Hck
  · rw [Memref.write_access_whole_univ, Memref.read_access_whole]; rfl
  iintro Hck
  iapply (wp_scatter (c := thr d L) (base := bCi) (E := Set.univ) ci (storeIdx (F := F) (s := S32768) (e := .i32) (d := ![16]) ci
    ![k0_pay13 v2 (BitVec.ofNat 32 C.length) ph (BitVec.ofNat 32 s) (BitVec.ofNat 32 dd) 0#32 1#32 t coff (ldk d L ck _ hw3 t)] (ldi9 d L ci _ hw3 t) (k0_pay7 v2 (BitVec.ofNat 32 C.length) ph (BitVec.ofNat 32 s) (BitVec.ofNat 32 dd) 0#32 1#32 t (ldk d L ck _ hw3 t)) false h7.1) (Memref.set_access_whole _) ?_) $$ Hci
  · rw [Memref.write_access_whole_univ, Memref.read_access_whole]; rfl
  iintro Hci
  sl_exec_parts
  rw [wp_ret]; imodintro
  iexists _; iexists _; iexists _; iexists _
  isplitr [Hck Hci Hwk Hwi]
  · ipureintro; exact hS
  · iframe
end

end Cert.Proof.TopRow

end
-- ==== Proof.Trip1.lean ====
module

public import proofs.«01_k».proof.Proof.Base
public import proofs.«01_k».proof.Proof.Keys

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # The trips of the first histogram and of the first selection -/

section
variable (d : Dev nD) (L : grid0.Coords)

/-- The first histogram's bin of place `n`: the signed top byte of its key, from 0. -/
def B1 (x : Vec F S32768 .f32) (n : ℕ) : ℕ := (H x 24 n + 128).toNat

theorem B1_lt (x : Vec F S32768 .f32) (n : ℕ) : B1 x n < 256 := by have := H_bounds24 x n; unfold B1; omega

/-- Sixteen times a loop's variable, as the kernel computes it. -/
theorem addr16 (n : ℕ) (hn : n < 2 ^ 20) :
    (IntOp.muli 16#32 (IntOp.addi 0#32 (IntOp.muli (Scf.iv 0#32 1#32 n) 1#32))).toNat = 16 * n := by
  simp only [IntOp.muli, IntOp.addi]
  rw [BitVec.toNat_mul, BitVec.toNat_add, BitVec.toNat_mul, WordArith.toNat_iv_zero_one _ (by omega)]
  simp; omega

theorem trips_t3 : k0_t3_loop.trips = 2048 := by decide
theorem off3_eq (t : Fin k0_t3_loop.trips) : k0_off3 t 0 = 16 * t.val := by
  have ht : t.val < 2048 := trips_t3 ▸ t.isLt
  exact addr16 t (by omega)

/-- A load of sixteen words of the row, in bits. -/
theorem bits_readAt (x : Bf (F := F) d L bRow) (off : Fin 1 → ℕ) (h : ∀ a, off a + S16.size a ≤ S32768.size a) (k : Fin 16) :
    BitOps.toBits ((bRow).view.readAt (Elt F) (Rect.unit (s := S32768) off S16.size h).toLoadRect x (ix k)) = xb x (off 0 + k) := by
  have h0 : off 0 + 16 ≤ 32768 := h 0
  unfold xb
  rw [dif_pos (by omega), View.readAt_apply]
  congr 1
  show x _ = x _
  congr 1
  funext (a : Fin 1); obtain rfl : a = 0 := Subsingleton.elim _ _
  exact Fin.ext (by show off 0 + 1 * k.val = _; simp [Shape.ofLane])

theorem pay171_toNat (x : Bf (F := F) d L bRow) (v10 : IVec S16 32) (hv10 : ∀ k : Fin 16, (v10 (ix k)).toNat = k * 273 + 128)
    (t : Fin k0_t3_loop.trips) (k : Fin 16) :
    ((k0_pay171 v10 ((bRow).view.readAt (Elt F) (Rect.unit (s := S32768) (k0_off3 t) S16.size (k0_off3_inb t)).toLoadRect x)) (ix k)).toNat
      = k * 273 + B1 x (16 * t + k) := by
  have e : k0_pay171 v10 ((bRow).view.readAt (Elt F) (Rect.unit (s := S32768) (k0_off3 t) S16.size (k0_off3_inb t)).toLoadRect x) (ix k)
      = v10 (ix k) + (kw x (16 * t + k)).sshiftRight 24 := by
    have hb := bits_readAt d L x (k0_off3 t) (k0_off3_inb t) k
    rw [off3_eq] at hb
    rw [kw, ← top_byte, ← hb]
    rw [← shrsi_ofNat .vector _ 24 (by omega), ← shrsi_ofNat .vector _ 8 (by omega)]
    rfl
  rw [e]
  have hB := H_bounds24 x (16 * t + k)
  apply toNat_add_toInt
  · rw [hv10, toInt_sshiftRight_div]
    unfold B1 H at *; omega
  · have := B1_lt x (16 * t + k); omega

theorem chk1_pay171 (x : Bf (F := F) d L bRow) (v10 : IVec S16 32) (hv10 : ∀ k : Fin 16, (v10 (ix k)).toNat = k * 273 + 128)
    (t : Fin k0_t3_loop.trips) :
    k0_chk1 (k0_pay171 v10 ((bRow).view.readAt (Elt F) (Rect.unit (s := S32768) (k0_off3 t) S16.size (k0_off3_inb t)).toLoadRect x)) := by
  intro a i
  obtain rfl : a = 0 := Subsingleton.elim _ _
  rw [ix_surj i]
  have := pay171_toNat d L x v10 hv10 t (i 0)
  have h2 := B1_lt x (16 * t + (i 0))
  have h3 : (i 0).val < 16 := (i 0).isLt
  show BitVec.toNat _ < 4384
  exact lt_of_eq_of_lt this (by omega)

theorem trip_h1 (x : Bf (F := F) d L bRow) (h : Bf (F := F) d L bH) (v1 c0 c1 : BitVec 32) (v3 v4 v10 : IVec S16 32) (k1 : Fin k0_t1_loop.trips)
    (hv3 : ∀ k, v3 (ix k) = 1#32) (hv10 : ∀ k : Fin 16, (v10 (ix k)).toNat = k * 273 + 128)
    (t : Fin k0_t3_loop.trips) (hh : HistIs (F := F) h (B1 x) t) :
    iprop(pt d L bRow x ∗ pt d L bH h) ⊢ wp frame (wpE (defs₀ (F := F)) 𝒱₀ (thr d L) none) Set.univ
      (k0_t3_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v3 v4 v10 c0 c1 k1 t ()) (fun _ => iprop(∃ h', ⌜HistIs (F := F) h' (B1 x) (t + 1)⌝ ∗ pt d L bRow x ∗ pt d L bH h')) := by
  have ht : t.val < 2048 := trips_t3 ▸ t.isLt
  have hs := hh.step (v := v3) (mask := fun _ => 1#1) (hi := chk1_pay171 d L x v10 hv10 t) (by omega) hv3
    (fun k => by have := B1_lt x (16 * t + k); exact ⟨fun _ => by omega, fun _ => rfl⟩) (fun k _ => pay171_toNat d L x v10 hv10 t k)
  iintro ⟨Hx, Hh⟩
  unfold k0_t3_body
  sl_exec (disch := exact chk1_pay171 d L x v10 hv10 t)
  iapply (wp_scatter (c := thr d L) (base := bH) (E := Set.univ) (k := fun _ => Pure.pure PUnit.unit) h (storeIdx (F := F) (s := S4384) (e := .i32) (d := ![16]) h ![trip_h1.sl.v14911 d L x v10 t] v3 (fun _ => 1#1) true
    (chk1_pay171 d L x v10 hv10 t)) (Memref.set_access_whole _) ?_) $$ Hh
  · rw [Memref.write_access_whole_univ, Memref.read_access_whole]
  iintro Hh
  sl_exec
  rw [wp_ret]; imodintro
  iexists _
  isplitr [Hx Hh]
  · ipureintro
    exact hs
  · isplitl [Hx]
    · iexact Hx
    · iexact Hh
end

/-! ## The first selection: every place whose top byte reaches the threshold -/

section
variable (d : Dev nD) (L : grid0.Coords) (x : Bf (F := F) d L bRow) (d0 : BitVec 32)

/-- The places among the first `16 m` whose top byte is at least `d0`. -/
def sel1 (m : ℕ) : List ℕ := ((List.range 32768).take (16 * m)).filter fun n => decide (d0.toInt ≤ H (F := F) x 24 n)

theorem sel1_length_le (m : ℕ) : (sel1 d L x d0 m).length ≤ 16 * m := (List.length_filter_le _ _).trans (by rw [List.length_take]; omega)

theorem sel1_succ (m : ℕ) (hm : m < 2048) : sel1 d L x d0 (m + 1)
    = sel1 d L x d0 m ++ ((List.finRange 16).filter fun k : Fin 16 => decide (d0.toInt ≤ H (F := F) x 24 (16 * m + k))).map fun k : Fin 16 => 16 * m + k := by
  unfold sel1
  rw [filter_take_chunk]
  have h : ∀ k : Fin 16, (List.range 32768).getD (16 * m + k) 0 = 16 * m + k := by
    intro k; rw [List.getD_eq_getElem?_getD, List.getElem?_range (by omega)]; rfl
  have h2 : ∀ k : Fin 16, decide (16 * m + k.val < (List.range 32768).length) = true := by
    intro k; rw [List.length_range]; simp; omega
  simp only [h, h2, Bool.true_and]

theorem trips_t4 : k0_t4_loop.trips = 2048 := by decide
theorem off4_eq (t : Fin k0_t4_loop.trips) : k0_off4 t 0 = 16 * t.val := by
  have ht : t.val < 2048 := trips_t4 ▸ t.isLt
  exact addr16 t (by omega)

/-- Register `t` of the row. -/
abbrev row4 (t : Fin k0_t4_loop.trips) : Vec F S16 .f32 :=
  (bRow).view.readAt (Elt F) (Rect.unit (s := S32768) (k0_off4 t) S16.size (k0_off4_inb t)).toLoadRect x

theorem pay308_eq (t : Fin k0_t4_loop.trips) (k : Fin 16) : k0_pay308 (row4 d L x t) (ix k) = kw (F := F) x (16 * t + k) := by
  have hb := bits_readAt d L x (k0_off4 t) (k0_off4_inb t) k
  rw [off4_eq] at hb
  rw [kw, ← hb, ← xori_andi_shrsi_eq_sortableKey .vector]
  rfl

variable {v1241 v1300 v1301 v1317 : BitVec 32}
  (hd : Scalar.subi (Scalar.select (Scalar.cmpi .sgt (Scalar.muli v1300 v1317) 0#32) (Scalar.addi 0#32 v1301) v1241) 128#32 = d0)
include hd

theorem pay309_iff (t : Fin k0_t4_loop.trips) (k : Fin 16) :
    k0_pay309 v1241 v1300 v1301 v1317 (row4 d L x t) (ix k) = 1 ↔ d0.toInt ≤ H (F := F) x 24 (16 * t + k) := by
  have h : k0_pay309 v1241 v1300 v1301 v1317 (row4 d L x t) (ix k)
      = IntOp.cmpi .sge ((k0_pay308 (row4 d L x t) (ix k)).sshiftRight 24) d0 := by
    rw [← hd, ← shrsi_ofNat .vector _ 24 (by omega)]; rfl
  rw [h, cmpi_sge_iff, toInt_sshiftRight_div, pay308_eq]; rfl

variable (off : IVec S16 32) (t : Fin k0_t4_loop.trips) (hoff : ∀ k, off (ix k) = BitVec.ofNat 32 (sel1 d L x d0 t).length)
include hoff

theorem pay312_toNat (k : Fin 16) : (k0_pay312 v1241 v1300 v1301 v1317 off (row4 d L x t) (ix k)).toNat
    = (sel1 d L x d0 t).length + rank (chosen (k0_pay309 v1241 v1300 v1301 v1317 (row4 d L x t))) k := by
  have ht : t.val < 2048 := trips_t4 ▸ t.isLt
  have h1 := sel1_length_le d L x d0 t
  exact place_toNat off (k0_pay309 v1241 v1300 v1301 v1317 (row4 d L x t)) natLt_1_32 _ hoff (by omega) k

theorem chk2_pay312 : k0_chk2 (k0_pay312 v1241 v1300 v1301 v1317 off (row4 d L x t)) := by
  have ht : t.val < 2048 := trips_t4 ▸ t.isLt
  have h1 := sel1_length_le d L x d0 t
  have h : ∀ a i, ((![k0_pay312 v1241 v1300 v1301 v1317 off (row4 d L x t)] : Fin 1 → IVec S16 32) a i).toNat < S32768.size a := by
    intro a i
    obtain rfl : a = 0 := Subsingleton.elim _ _
    rw [ix_surj i]
    have := pay312_toNat d L x d0 hd off t hoff (i 0)
    have h2 := rank_le_self (chosen (k0_pay309 v1241 v1300 v1301 v1317 (row4 d L x t))) (i 0)
    have h3 : (i 0).val < 16 := (i 0).isLt
    show BitVec.toNat _ < 32768
    exact lt_of_eq_of_lt this (by omega)
  exact ⟨h, h⟩

theorem trip_p1 (ck : Bf (F := F) d L bCk) (ci : Bf (F := F) d L bCi) (v1 : BitVec 32) (v2 v3 v4 v6 : IVec S16 32) (k1 : Fin k0_t1_loop.trips)
    (arg14 v1244 v1245 : BitVec 32) (v1292 : IVec S16 32) (v1309 v1316 : BitVec 32) (hv2 : ∀ k : Fin 16, v2 (ix k) = BitVec.ofNat 32 k)
    (hck : Pre (N := 32768) ck ((sel1 d L x d0 t).map (kw (F := F) x))) (hci : Pre (N := 32768) ci ((sel1 d L x d0 t).map (BitVec.ofNat 32))) :
    iprop(pt d L bRow x ∗ pt d L bCk ck ∗ pt d L bCi ci) ⊢ wp frame (wpE (defs₀ (F := F)) 𝒱₀ (thr d L) none) Set.univ
      (k0_t4_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v2 v3 v4 v6 k1 arg14 v1241 v1244 v1245 v1292 v1300 v1301 v1309 v1316 v1317 t off)
      (fun off' => iprop(∃ ck' ci', ⌜(∀ k, off' (ix k) = BitVec.ofNat 32 (sel1 d L x d0 (t + 1)).length)
          ∧ Pre (N := 32768) ck' ((sel1 d L x d0 (t + 1)).map (kw (F := F) x)) ∧ Pre (N := 32768) ci' ((sel1 d L x d0 (t + 1)).map (BitVec.ofNat 32))⌝
        ∗ pt d L bRow x ∗ pt d L bCk ck' ∗ pt d L bCi ci')) := by
  have ht : t.val < 2048 := trips_t4 ▸ t.isLt
  have hmask := pay309_iff d L x d0 hd t
  have hplace := pay312_toNat (F := F) d L x d0 hd off t hoff
  have hchk := chk2_pay312 (F := F) d L x d0 hd off t hoff
  have hidx : ∀ k : Fin 16, k0_pay313 v2 t (ix k) = BitVec.ofNat 32 (16 * t + k) := by
    intro k
    show v2 (ix k) + IntOp.muli 16#32 (IntOp.addi 0#32 (IntOp.muli (Scf.iv 0#32 1#32 t) 1#32)) = _
    have h16 := addr16 t (by omega)
    rw [hv2]; apply BitVec.eq_of_toNat_eq
    rw [BitVec.toNat_add, h16, toNat_ofNat_lt _ (by omega), toNat_ofNat_lt _ (by omega)]; omega
  have hpk : pick (k0_pay309 v1241 v1300 v1301 v1317 (row4 d L x t)) (k0_pay308 (row4 d L x t))
      = (((List.finRange 16).filter fun k : Fin 16 => decide (d0.toInt ≤ H (F := F) x 24 (16 * t + k))).map fun k : Fin 16 => 16 * t.val + k).map (kw (F := F) x) := by
    rw [List.map_map]
    exact pick_eq _ _ _ _ (fun k => by rw [hmask k]; simp) (fun k _ => pay308_eq d L x t k)
  have hpi : pick (k0_pay309 v1241 v1300 v1301 v1317 (row4 d L x t)) (k0_pay313 v2 t)
      = (((List.finRange 16).filter fun k : Fin 16 => decide (d0.toInt ≤ H (F := F) x 24 (16 * t + k))).map fun k : Fin 16 => 16 * t.val + k).map (BitVec.ofNat 32) := by
    rw [List.map_map]
    exact pick_eq _ _ _ _ (fun k => by rw [hmask k]; simp) (fun k _ => hidx k)
  have hall : (∀ k, k0_pay314 v1241 v1300 v1301 v1317 off (row4 d L x t) (ix k) = BitVec.ofNat 32 (sel1 d L x d0 (t + 1)).length)
      ∧ Pre (N := 32768) (storeIdx (F := F) (s := S32768) (e := .i32) (d := ![16]) ck
          ![k0_pay312 v1241 v1300 v1301 v1317 off (row4 d L x t)] (k0_pay308 (row4 d L x t)) (k0_pay309 v1241 v1300 v1301 v1317 (row4 d L x t)) false
          hchk.1) ((sel1 d L x d0 (t + 1)).map (kw (F := F) x))
      ∧ Pre (N := 32768) (storeIdx (F := F) (s := S32768) (e := .i32) (d := ![16]) ci
          ![k0_pay312 v1241 v1300 v1301 v1317 off (row4 d L x t)] (k0_pay313 v2 t) (k0_pay309 v1241 v1300 v1301 v1317 (row4 d L x t)) false
          hchk.1) ((sel1 d L x d0 (t + 1)).map (BitVec.ofNat 32)) := by
    rw [sel1_succ d L x d0 t ht, List.map_append, List.map_append, ← hpk, ← hpi]
    refine ⟨fun k => ?_, hck.append fun k _ => ?_, hci.append fun k _ => ?_⟩
    · have := used_eq off (k0_pay309 v1241 v1300 v1301 v1317 (row4 d L x t)) (k0_pay308 (row4 d L x t)) natLt_1_32 _ hoff k slices_S16_o15_S1 inpos_S1_p0
      rw [hpk] at this
      simp only [List.length_append, List.length_map] at this ⊢
      exact this
    · rw [List.length_map]; exact hplace k
    · rw [List.length_map]; exact hplace k
  iintro ⟨Hx, Hck, Hci⟩
  unfold k0_t4_body
  sl_exec (disch := exact chk2_pay312 d L x d0 hd off t hoff)
  iapply (wp_scatter (c := thr d L) (base := bCk) (E := Set.univ) ck (storeIdx (F := F) (s := S32768) (e := .i32) (d := ![16]) ck
    ![k0_pay312 v1241 v1300 v1301 v1317 off (row4 d L x t)] (k0_pay308 (row4 d L x t)) (k0_pay309 v1241 v1300 v1301 v1317 (row4 d L x t)) false
    hchk.1) (Memref.set_access_whole _) ?_) $$ Hck
  · rw [Memref.write_access_whole_univ, Memref.read_access_whole]; rfl
  iintro Hck
  iapply (wp_scatter (c := thr d L) (base := bCi) (E := Set.univ) ci (storeIdx (F := F) (s := S32768) (e := .i32) (d := ![16]) ci
    ![k0_pay312 v1241 v1300 v1301 v1317 off (row4 d L x t)] (k0_pay313 v2 t) (k0_pay309 v1241 v1300 v1301 v1317 (row4 d L x t)) false
    hchk.1) (Memref.set_access_whole _) ?_) $$ Hci
  · rw [Memref.write_access_whole_univ, Memref.read_access_whole]; rfl
  iintro Hci
  sl_exec
  rw [wp_ret]; imodintro
  iexists _; iexists _
  isplitr [Hx Hck Hci]
  · ipureintro
    exact hall
  · iframe
end

end Cert.Proof.TopRow

end
-- ==== Proof.Round.lean ====
module

public import proofs.«01_k».proof.Proof.Base
public import proofs.«01_k».proof.Proof.Select
public import proofs.«01_k».proof.Proof.Clear
public import proofs.«01_k».proof.Proof.Split
public import proofs.«01_k».proof.Proof.Trip1

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # One round of the selection -/

variable (d : Dev nD) (L : grid0.Coords)

theorem RInv.p_bounds {g : ℕ → BitVec 32} {N u : ℕ} {p : ℤ} {C W : List ℕ} {q : ℕ} (h : RInv g N (u + 8) p C W q) : -2 ^ 23 ≤ p ∧ p < 2 ^ 23 := by
  have hex : ∃ n ∈ C, Hi g (u + 8) n = p := by
    by_contra hc
    have he : (C.filter fun n => decide (p < Hi g (u + 8) n)) = C := by
      refine List.filter_eq_self.mpr fun n hn => ?_
      have h1 := h.ge n hn
      have h2 : Hi g (u + 8) n ≠ p := fun h2 => hc ⟨n, hn, h2⟩
      simp only [decide_eq_true_eq]; omega
    have h1 := h.abv; have h2 := h.qle
    rw [he] at h1; omega
  obtain ⟨n, _, rfl⟩ := hex
  have hb := toInt_bounds (g n)
  have e : Hi g (u + 8) n = (g n).toInt / 256 / 2 ^ u := by
    unfold Hi
    rw [Nat.add_comm, Int.pow_add, Int.ediv_ediv_of_nonneg (by decide)]
    rfl
  rw [e]
  have h2 : -2 ^ 23 ≤ (g n).toInt / 256 ∧ (g n).toInt / 256 < 2 ^ 23 := by omega
  generalize (g n).toInt / 256 = z at h2
  have hpos : (0 : ℤ) < 2 ^ u := Int.pow_pos (by decide)
  constructor
  · by_cases hz : 0 ≤ z
    · have := Int.ediv_nonneg hz (le_of_lt hpos); omega
    · refine Int.le_ediv_of_mul_le hpos ?_
      have : (2 ^ 23 : ℤ) * 1 ≤ 2 ^ 23 * 2 ^ u := Int.mul_le_mul_of_nonneg_left (by omega) (by decide)
      rw [Int.neg_mul]; omega
  · by_cases hz : 0 ≤ z
    · have := Int.ediv_le_self (2 ^ u) hz; omega
    · have := Int.ediv_neg_of_neg_of_pos (by omega : z < 0) hpos; omega

/-- The threshold's next byte, moved in from the right. -/
theorem shift_in (ph : BitVec 32) (dd : ℕ) (hd : dd < 256) (hp : -2 ^ 23 ≤ ph.toInt ∧ ph.toInt < 2 ^ 23) :
    (Scalar.ori (Scalar.shli ph 8#32) (BitVec.ofNat 32 dd)).toInt = 256 * ph.toInt + dd := by
  have e : Scalar.ori (Scalar.shli ph 8#32) (BitVec.ofNat 32 dd) = ph <<< 8 ||| BitVec.ofNat 32 dd := by
    have e8 : Scalar.shli ph 8#32 = ph <<< 8 := by
      unfold Scalar.shli IntOp.shli
      rw [if_pos (by decide)]; rfl
    rw [e8]; rfl
  have h1 : (ph <<< 8 ||| BitVec.ofNat 32 dd).toNat = 256 * (ph.toNat % 2 ^ 24) + dd := by
    have h2 := Nat.two_pow_add_eq_or_of_lt (show dd < 2 ^ 8 from hd) (ph.toNat % 2 ^ 24)
    rw [BitVec.toNat_or, BitVec.toNat_shiftLeft, toNat_ofNat_lt _ (by omega), Nat.shiftLeft_eq,
      show ph.toNat * 2 ^ 8 % 2 ^ 32 = 2 ^ 8 * (ph.toNat % 2 ^ 24) by omega, ← h2]
  rw [e, BitVec.toInt_eq_toNat_cond, h1]
  have h3 := BitVec.toInt_eq_toNat_cond ph
  have := ph.isLt
  split <;> split at h3 <;> omega

theorem first_lane (v : IVec S16 32) (hs : S16.Slices ![0] S1) (hi : ∀ a, (![0] : Fin 1 → ℕ) a < S1.size a) :
    extractAt ![0] (extractStridedSlice S1 ![0] v hs) hi = v (ix 0) := by
  have h : ∀ i : S16.Idx, i 0 = (0 : Fin 16) → v i = v (ix 0) := by
    intro i hi; rw [ix_surj i, hi]
  exact h _ rfl

/-- What a round carries and keeps in the buffers, with `u` low bits of the threshold still to be found. -/
def RoundSt (x : Vec F S32768 .f32) (u : ℕ) (st : BitVec 32 × BitVec 32 × BitVec 32 × IVec S16 32) (ck : Bf (F := F) d L bCk) (ci : Bf (F := F) d L bCi)
    (wk : Bf (F := F) d L bWk) (wi : Bf (F := F) d L bWi) : Prop :=
  ∃ C W q, RInv (kw x) 32768 u st.2.2.1.toInt C W q ∧ st.1 = BitVec.ofNat 32 C.length ∧ st.2.1 = BitVec.ofNat 32 q
    ∧ (∀ k, st.2.2.2 (ix k) = BitVec.ofNat 32 W.length) ∧ Pre (N := 32768) ck (C.map (kw x)) ∧ Pre (N := 32768) ci (C.map (BitVec.ofNat 32))
    ∧ Pre (N := 256) wk (W.map (kw x)) ∧ Pre (N := 256) wi (W.map (BitVec.ofNat 32))
    ∧ (u ≠ 24 → ∀ n ∈ C, Hi (kw x) u n = st.2.2.1.toInt)

theorem trips_t5 : k0_t5_loop.trips = 3 := by decide

theorem shift_of (t : ℕ) (ht : t < 3) : Scalar.subi 16#32 (Scalar.muli 8#32 (Scf.iv 0#32 1#32 t)) = BitVec.ofNat 32 (16 - 8 * t) := by
  rcases (by omega : t = 0 ∨ t = 1 ∨ t = 2) with rfl | rfl | rfl <;> decide

section
variable (C W : List ℕ) (hC : C.length ≤ 32768) (g : ℕ → BitVec 32) (s : ℕ) (hs : s ≤ 16) (ph : BitVec 32) (v2 : IVec S16 32)
  (hv2 : ∀ k : Fin 16, v2 (ix k) = BitVec.ofNat 32 k) (dd : ℕ) (hdd : dd ≤ 255) (ck0 : Bf (F := F) d L bCk) (ci0 : Bf (F := F) d L bCi)
  (hW : W.length + (C.filter fun n => decide (dd < binw (g n) s ph.toInt)).length < 256)
include hC hs hv2 hdd hW in
/-- `trip_split` with the shift and the bin as the kernel computes them. -/
theorem trip_split' (hck0 : Pre (N := 32768) ck0 (C.map g)) (hci0 : Pre (N := 32768) ci0 (C.map (BitVec.ofNat 32)))
    (hw3 : k0_chk3 (BitVec.ofNat 32 C.length)) (t : Fin (k0_t9_loop (BitVec.ofNat 32 C.length)).trips)
    (arg20 : IVec S16 32) (v14899 v14918 v16151 v16154 v16155 : BitVec 32) (v16192 v16202 : IVec S16 32) (v16204 : IVec S16 1) (v16208 v16231 : BitVec 32)
    (h99 : v14899 = BitVec.ofNat 32 s) (h31 : v16231 = BitVec.ofNat 32 dd)
    (st : IVec S16 32 × IVec S16 32) (ck : Bf (F := F) d L bCk) (ci : Bf (F := F) d L bCi) (wk : Bf (F := F) d L bWk) (wi : Bf (F := F) d L bWi)
    (h : SplitInv (F := F) d L C g s ph dd W ck0 ci0 t st.1 st.2 ck ci wk wi) :
    iprop(pt d L bCk ck ∗ pt d L bCi ci ∗ pt d L bWk wk ∗ pt d L bWi wi) ⊢ wp frame (wpE (defs₀ (F := F)) 𝒱₀ (thr d L) none) Set.univ
      (k0_t9_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v2 (BitVec.ofNat 32 C.length) ph arg20 hw3 v14899 v14918 v16151 v16154 v16155 v16192 v16202 v16204 v16208 v16231 t st)
      (fun st => iprop(∃ ck' ci' wk' wi', ⌜SplitInv (F := F) d L C g s ph dd W ck0 ci0 (t + 1) st.1 st.2 ck' ci' wk' wi'⌝
        ∗ pt d L bCk ck' ∗ pt d L bCi ci' ∗ pt d L bWk wk' ∗ pt d L bWi wi')) := by
  subst h99; subst h31
  exact trip_split d L C hC g s hs ph v2 hv2 dd hdd W hW ck0 ci0 hck0 hci0 hw3 t arg20 _ _ _ _ _ _ _ _ st.1 st.2 ck ci wk wi h
end

open Idealize.ShloMosaic.Tactic in
theorem trip_round (x : Vec F S32768 .f32) (ck : Bf (F := F) d L bCk) (ci : Bf (F := F) d L bCi) (wk : Bf (F := F) d L bWk) (wi : Bf (F := F) d L bWi)
    (h : Bf (F := F) d L bH) (v1 : BitVec 32) (v2 v3 v4 v6 : IVec S16 32) (k1 : Fin k0_t1_loop.trips)
    (arg14 v1241 v1244 v1245 : BitVec 32) (v1292 : IVec S16 32) (v1300 v1301 v1309 v1316 v1317 : BitVec 32)
    (hv2 : ∀ k : Fin 16, v2 (ix k) = BitVec.ofNat 32 k) (hv3 : ∀ k, v3 (ix k) = 1#32) (hv4 : ∀ k, v4 (ix k) = 0#32) (hv6 : ∀ k : Fin 16, (v6 (ix k)).toNat = k * 273)
    (t : Fin k0_t5_loop.trips) (st : BitVec 32 × BitVec 32 × BitVec 32 × IVec S16 32) (hst : RoundSt d L x (24 - 8 * t) st ck ci wk wi) :
    iprop(pt d L bH h ∗ pt d L bCk ck ∗ pt d L bCi ci ∗ pt d L bWk wk ∗ pt d L bWi wi) ⊢ wp frame (wpE (defs₀ (F := F)) 𝒱₀ (thr d L) none) Set.univ
      (k0_t5_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v2 v3 v4 v6 k1 arg14 v1241 v1244 v1245 v1292 v1300 v1301 v1309 v1316 v1317 t st)
      (fun st' => iprop(∃ h' ck' ci' wk' wi', ⌜RoundSt d L x (24 - 8 * (t + 1)) st' ck' ci' wk' wi'⌝
        ∗ pt d L bH h' ∗ pt d L bCk ck' ∗ pt d L bCi ci' ∗ pt d L bWk wk' ∗ pt d L bWi wi')) := by
  obtain ⟨n, kneed, ph, woff⟩ := st
  obtain ⟨C, W, q, hI, hn, hq, hwoff, hck, hci, hwk, hwi, -⟩ := hst
  have ht : t.val < 3 := lt_of_lt_of_eq t.isLt trips_t5
  dsimp only at hI hn hq hwoff
  subst hn; subst hq
  have hC := hI.len
  have h5 := shift_of t.val ht
  obtain ⟨s, hs0⟩ : ∃ s, s = 16 - 8 * t.val := ⟨_, rfl⟩
  have hs : s ≤ 16 := by omega
  rw [← hs0] at h5
  rw [show 24 - 8 * t.val = s + 8 by omega] at hI
  rw [show 24 - 8 * (t.val + 1) = s by omega]
  have hz0 : Zeros (F := F) h 0 := fun l _ c hc => absurd hc (by omega)
  iintro ⟨Hh, Hck, Hci, Hwk, Hwi⟩
  unfold k0_t5_body
  sl_exec_parts (disch := exact chk3_of _ hC)
  sl_for (fun i _ => iprop(∃ h', ⌜Zeros (F := F) h' i⌝ ∗ pt d L bH h')) $$ [Hh]
  case region =>
    intro t6 _
    iintro ⟨%h', %hz, Hh⟩
    iapply (trip_clear2 d L h' _ _ _ _ v2 v3 v4 v6 t t6 hv4 hz) $$ Hh
  · iexists h; isplitr [Hh]
    · ipureintro; exact hz0
    · iexact Hh
  iintro %a ⟨%h1, %hz, Hh⟩
  have hz18 : Zeros (F := F) h1 18 := hz
  have hb0 : HistIs (F := F) h1 (binAt C (kw x) s ph) 0 := HistIs.of_zeros hz18 _
  sl_exec_parts
  sl_for (fun i _ => iprop(∃ h', ⌜HistIs (F := F) h' (binAt C (kw x) s ph) i⌝ ∗ pt d L bCk ck ∗ pt d L bH h')) $$ [Hh Hck]
  case region =>
    intro t7 _
    iintro ⟨%h', %hh, Hck, Hh⟩
    iapply (trip_hb d L C hC (kw x) s hs ph v2 hv2 ck h' _ v3 v4 v6 _ _ t t7 hv3 hv6 h5 hck hh) $$ [Hck Hh]
    isplitl [Hck]; · iexact Hck
    iexact Hh
  · iexists h1; isplitr [Hh Hck]
    · ipureintro; exact hb0
    · isplitl [Hck]; · iexact Hck
      iexact Hh
  iintro %a ⟨%h2, %hh, Hck, Hh⟩
  have hh2 : HistIs (F := F) h2 (binAt C (kw x) s ph) ((C.length + 15) / 16) := by rw [← t7_trips C.length hC]; exact hh
  sl_exec_parts
  sl_for0 (t8_trips C.length hC)
  sl_exec_parts
  have hm : C.length ≤ 16 * ((C.length + 15) / 16) := by omega
  obtain ⟨dd, hdd, e1, e2, h3, h4⟩ := bsAll_spec d L v2 hv2 h2 (binAt C (kw x) s ph) ((C.length + 15) / 16) (by omega) hh2
    (fun n _ => binAt_ok (kw x) C s ph n) q (by rw [SB_binAt (kw x) C s ph _ _ hm]; exact SC_256 (kw x) hI)
    (by rw [SB_binAt (kw x) C s ph _ _ hm, SC_zero]; exact hI.qle) (le_refl _)
  rw [SB_binAt (kw x) C s ph _ _ hm] at e2 h3 h4
  have h31 : trip_round.sl.v16231 q h2 = BitVec.ofNat 32 dd := by
    refine Eq.trans (b := (bsAll d L v2 (BitVec.ofNat 32 q) h2 16 (le_refl _)).d) ?_ e1
    sl_kernel_rfl
  have h34 : trip_round.sl.v16234 v2 q h2 = BitVec.ofNat 32 (SC (kw x) C s ph.toInt (dd + 1)) := by
    refine Eq.trans (b := (bsAll d L v2 (BitVec.ofNat 32 q) h2 16 (le_refl _)).cnt) ?_ e2
    sl_kernel_rfl
  have h99 : trip_round.sl.v14899 t = BitVec.ofNat 32 s := h5
  have hnext := hI.step (kw x) dd hdd h3 h4
  have hWlt : W.length + (C.filter fun n => decide (dd < binw (kw x n) s ph.toInt)).length < 256 := by
    have := hI.sum
    have : (C.filter fun n => decide (dd < binw (kw x n) s ph.toInt)).length < q := h3
    omega
  have hsp0 : SplitInv (F := F) d L C (kw x) s ph dd W ck ci 0 k0_pay167 woff ck ci wk wi := by
    have e0 : level C (kw x) s ph dd 0 = [] := rfl
    have e0' : above C (kw x) s ph dd 0 = [] := rfl
    refine ⟨fun k => by rw [e0]; rfl, fun k => by rw [e0', hwoff]; rfl, ?_, ?_, fun _ _ => rfl, fun _ _ => rfl, ?_, ?_⟩
    · rw [e0]; intro j hj; exact absurd hj (Nat.not_lt_zero _)
    · rw [e0]; intro j hj; exact absurd hj (Nat.not_lt_zero _)
    · rw [e0', List.append_nil]; exact hwk
    · rw [e0', List.append_nil]; exact hwi
  sl_for (fun i st => iprop(∃ ck' ci' wk' wi', ⌜SplitInv (F := F) d L C (kw x) s ph dd W ck ci i st.1 st.2 ck' ci' wk' wi'⌝
        ∗ pt d L bCk ck' ∗ pt d L bCi ci' ∗ pt d L bWk wk' ∗ pt d L bWi wi')) $$ [Hck Hci Hwk Hwi]
  case region =>
    intro t9 st
    iintro ⟨%ck', %ci', %wk', %wi', %hsp, Hck, Hci, Hwk, Hwi⟩
    iapply (trip_split' d L C W hC (kw x) s hs ph v2 hv2 dd (by omega) ck ci hWlt hck hci _ t9 _ _ _ _ _ _ _ _ _ _ _ h99 h31 st ck' ci' wk' wi' hsp) $$ [Hck Hci Hwk Hwi]
    isplitl [Hck]; · iexact Hck
    isplitl [Hci]; · iexact Hci
    isplitl [Hwk]; · iexact Hwk
    iexact Hwi
  · iexists ck; iexists ci; iexists wk; iexists wi; isplitr [Hck Hci Hwk Hwi]
    · ipureintro; exact hsp0
    · isplitl [Hck]; · iexact Hck
      isplitl [Hci]; · iexact Hci
      isplitl [Hwk]; · iexact Hwk
      iexact Hwi
  iintro %st ⟨%ck', %ci', %wk', %wi', %hsp, Hck, Hci, Hwk, Hwi⟩
  have hsp' : SplitInv (F := F) d L C (kw x) s ph dd W ck ci ((C.length + 15) / 16) st.1 st.2 ck' ci' wk' wi' := by rw [← t9_trips C.length hC]; exact hsp
  sl_exec_parts
  sl_for0 (t10_trips C.length hC)
  sl_exec_parts
  have hfin : RoundSt d L x s (trip_round.sl.v16251 st, trip_round.sl.v16252 v2 q h2, trip_round.sl.v16254 ph q h2, trip_round.sl.r_6 st) ck' ci' wk' wi' := by
    have hl : level C (kw x) s ph dd ((C.length + 15) / 16) = C.filter fun n => decide (binw (kw x n) s ph.toInt = dd) := by
      unfold level; rw [List.take_of_length_le hm]
    have ha : above C (kw x) s ph dd ((C.length + 15) / 16) = C.filter fun n => decide (dd < binw (kw x n) s ph.toInt) := by
      unfold above; rw [List.take_of_length_le hm]
    have h54 : (trip_round.sl.v16254 ph q h2).toInt = 256 * ph.toInt + dd := by
      have : trip_round.sl.v16254 ph q h2 = Scalar.ori (Scalar.shli ph 8#32) (trip_round.sl.v16231 q h2) := rfl
      rw [this, h31]
      exact shift_in ph dd hdd hI.p_bounds
    have h51 : trip_round.sl.v16251 st = st.1 (ix 0) := first_lane st.1 slices_S16_o0_S1 inpos_S1_p0
    have h52 : trip_round.sl.v16252 v2 q h2 = BitVec.ofNat 32 (q - SC (kw x) C s ph.toInt (dd + 1)) := by
      have : trip_round.sl.v16252 v2 q h2 = Scalar.subi (BitVec.ofNat 32 q) (trip_round.sl.v16234 v2 q h2) := rfl
      rw [this, h34]
      have := hI.sum
      apply BitVec.eq_of_toNat_eq
      show (BitVec.ofNat 32 q - BitVec.ofNat 32 (SC (kw x) C s ph.toInt (dd + 1))).toNat = _
      rw [BitVec.toNat_sub, toNat_ofNat_lt _ (by omega), toNat_ofNat_lt _ (by omega), toNat_ofNat_lt _ (by omega)]
      omega
    refine ⟨C.filter fun n => decide (binw (kw x n) s ph.toInt = dd), W ++ C.filter fun n => decide (dd < binw (kw x n) s ph.toInt),
      q - SC (kw x) C s ph.toInt (dd + 1), ?_, ?_, h52, ?_, ?_, ?_, ?_, ?_, fun _ => ?_⟩
    · show RInv _ _ _ (trip_round.sl.v16254 ph q h2).toInt _ _ _
      rw [h54]; exact hnext
    · show trip_round.sl.v16251 st = _
      rw [h51, hsp'.hcoff, hl]
    · intro k
      refine (hsp'.hwoff k).trans ?_
      rw [ha, List.length_append]
    · rw [← hl]; exact hsp'.hck
    · rw [← hl]; exact hsp'.hci
    · rw [← ha]; exact hsp'.hwk
    · rw [← ha]; exact hsp'.hwi
    · show ∀ n ∈ _, Hi _ _ n = (trip_round.sl.v16254 ph q h2).toInt
      rw [h54]; exact hI.step_eq (kw x) dd hdd
  rw [wp_ret]; imodintro
  iexists h2; iexists ck'; iexists ci'; iexists wk'; iexists wi'
  isplitr [Hh Hck Hci Hwk Hwi]
  · ipureintro; exact hfin
  · isplitl [Hh]; · iexact Hh
    isplitl [Hck]; · iexact Hck
    isplitl [Hci]; · iexact Hci
    isplitl [Hwk]; · iexact Hwk
    iexact Hwi

end Cert.Proof.TopRow

end
-- ==== Proof.Net.lean ====
module

public import proofs.«01_k».proof.Proof.Base

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-!
  The kernel's bitonic sort of its 256 winners, written as it runs: sixteen pairs of registers (a key and an index per lane), and
  the thirty-six stages on them. Position `16 v + l` of the sort is lane `l` of pair `v`. A stage whose distance is below 16
  exchanges lanes inside each pair; a stage whose distance is 16 or more exchanges whole registers, lane by lane.
-/

/-- A register of keys with the register of their indices. -/
structure KI where
  k : IVec S16 32
  i : IVec S16 32

/-- The sort's state: sixteen pairs of registers. -/
structure St where
  p0 : KI
  p1 : KI
  p2 : KI
  p3 : KI
  p4 : KI
  p5 : KI
  p6 : KI
  p7 : KI
  p8 : KI
  p9 : KI
  p10 : KI
  p11 : KI
  p12 : KI
  p13 : KI
  p14 : KI
  p15 : KI

/-- Pair `v` of the state. -/
def St.get (s : St) : Fin 16 → KI
  | ⟨0, _⟩ => s.p0
  | ⟨1, _⟩ => s.p1
  | ⟨2, _⟩ => s.p2
  | ⟨3, _⟩ => s.p3
  | ⟨4, _⟩ => s.p4
  | ⟨5, _⟩ => s.p5
  | ⟨6, _⟩ => s.p6
  | ⟨7, _⟩ => s.p7
  | ⟨8, _⟩ => s.p8
  | ⟨9, _⟩ => s.p9
  | ⟨10, _⟩ => s.p10
  | ⟨11, _⟩ => s.p11
  | ⟨12, _⟩ => s.p12
  | ⟨13, _⟩ => s.p13
  | ⟨14, _⟩ => s.p14
  | ⟨15, _⟩ => s.p15
  | ⟨n + 16, h⟩ => absurd h (by omega)

/-- Lane by lane: does the entry of `a` precede the entry of `b` (greater key, or equal keys and lesser index)? -/
abbrev before (a b : KI) : IVec S16 1 := ori (cmpi .sgt a.k b.k) (andi (cmpi .eq a.k b.k) (cmpi .slt a.i b.i))

/-- The lanes whose number has bit `jj` set. -/
abbrev isL (v2 : IVec S16 32) (jj : BitVec 32) : IVec S16 1 := cmpi .ne (andi v2 (broadcast S16 jj)) (broadcast S16 0#32)

/-- `x` with its lanes exchanged across bit 1 of their numbers. -/
abbrev xp1 (il : IVec S16 1) (x : IVec S16 32) : IVec S16 32 :=
  select il
    (concatenate S16 0 [⟨S1, extractStridedSlice S1 ![15] x slices_S16_o15_S1⟩, ⟨S15, extractStridedSlice S15 ![0] x slices_S16_o0_S15⟩] concatenates_S1_S15_S16_d0)
    (concatenate S16 0 [⟨S15, extractStridedSlice S15 ![1] x slices_S16_o1_S15⟩, ⟨S1, extractStridedSlice S1 ![0] x slices_S16_o0_S1⟩] concatenates_S15_S1_S16_d0)

/-- `x` with its lanes exchanged across bit 2 of their numbers. -/
abbrev xp2 (il : IVec S16 1) (x : IVec S16 32) : IVec S16 32 :=
  select il
    (concatenate S16 0 [⟨S2, extractStridedSlice S2 ![14] x slices_S16_o14_S2⟩, ⟨S14, extractStridedSlice S14 ![0] x slices_S16_o0_S14⟩] concatenates_S2_S14_S16_d0)
    (concatenate S16 0 [⟨S14, extractStridedSlice S14 ![2] x slices_S16_o2_S14⟩, ⟨S2, extractStridedSlice S2 ![0] x slices_S16_o0_S2⟩] concatenates_S14_S2_S16_d0)

/-- `x` with its lanes exchanged across bit 4 of their numbers. -/
abbrev xp4 (il : IVec S16 1) (x : IVec S16 32) : IVec S16 32 :=
  select il
    (concatenate S16 0 [⟨S4, extractStridedSlice S4 ![12] x slices_S16_o12_S4⟩, ⟨S12, extractStridedSlice S12 ![0] x slices_S16_o0_S12⟩] concatenates_S4_S12_S16_d0)
    (concatenate S16 0 [⟨S12, extractStridedSlice S12 ![4] x slices_S16_o4_S12⟩, ⟨S4, extractStridedSlice S4 ![0] x slices_S16_o0_S4⟩] concatenates_S12_S4_S16_d0)

/-- `x` with its lanes exchanged across bit 8 of their numbers. -/
abbrev xp8 (il : IVec S16 1) (x : IVec S16 32) : IVec S16 32 :=
  select il
    (concatenate S16 0 [⟨S8, extractStridedSlice S8 ![8] x slices_S16_o8_S8⟩, ⟨S8, extractStridedSlice S8 ![0] x slices_S16_o0_S8⟩] concatenates_S8_S8_S16_d0)
    (concatenate S16 0 [⟨S8, extractStridedSlice S8 ![8] x slices_S16_o8_S8⟩, ⟨S8, extractStridedSlice S8 ![0] x slices_S16_o0_S8⟩] concatenates_S8_S8_S16_d0)

/-- One stage inside a pair, given the pair with its lanes exchanged: each lane keeps its own entry or takes its partner's. -/
abbrev lanePair (v2 : IVec S16 32) (il : IVec S16 1) (kk off : BitVec 32) (a q : KI) : KI :=
  let keep := xori (xori (before a q) il)
    (xori (cmpi .eq (andi (addi v2 (broadcast S16 off)) (broadcast S16 kk)) (broadcast S16 0#32)) (constantI S16 1 1#1))
  ⟨select keep a.k q.k, select keep a.i q.i⟩

/-- The stage at distance 1 in the merge of blocks of `kk`, on one pair and on all. -/
abbrev lp1 (v2 : IVec S16 32) (kk off : BitVec 32) (a : KI) : KI :=
  lanePair v2 (isL v2 1#32) kk off a ⟨xp1 (isL v2 1#32) a.k, xp1 (isL v2 1#32) a.i⟩
abbrev lane1 (v2 : IVec S16 32) (kk : BitVec 32) (s : St) : St :=
  ⟨lp1 v2 kk 0#32 s.p0, lp1 v2 kk 16#32 s.p1, lp1 v2 kk 32#32 s.p2, lp1 v2 kk 48#32 s.p3, lp1 v2 kk 64#32 s.p4, lp1 v2 kk 80#32 s.p5, lp1 v2 kk 96#32 s.p6, lp1 v2 kk 112#32 s.p7, lp1 v2 kk 128#32 s.p8, lp1 v2 kk 144#32 s.p9, lp1 v2 kk 160#32 s.p10, lp1 v2 kk 176#32 s.p11, lp1 v2 kk 192#32 s.p12, lp1 v2 kk 208#32 s.p13, lp1 v2 kk 224#32 s.p14, lp1 v2 kk 240#32 s.p15⟩

/-- The stage at distance 2 in the merge of blocks of `kk`, on one pair and on all. -/
abbrev lp2 (v2 : IVec S16 32) (kk off : BitVec 32) (a : KI) : KI :=
  lanePair v2 (isL v2 2#32) kk off a ⟨xp2 (isL v2 2#32) a.k, xp2 (isL v2 2#32) a.i⟩
abbrev lane2 (v2 : IVec S16 32) (kk : BitVec 32) (s : St) : St :=
  ⟨lp2 v2 kk 0#32 s.p0, lp2 v2 kk 16#32 s.p1, lp2 v2 kk 32#32 s.p2, lp2 v2 kk 48#32 s.p3, lp2 v2 kk 64#32 s.p4, lp2 v2 kk 80#32 s.p5, lp2 v2 kk 96#32 s.p6, lp2 v2 kk 112#32 s.p7, lp2 v2 kk 128#32 s.p8, lp2 v2 kk 144#32 s.p9, lp2 v2 kk 160#32 s.p10, lp2 v2 kk 176#32 s.p11, lp2 v2 kk 192#32 s.p12, lp2 v2 kk 208#32 s.p13, lp2 v2 kk 224#32 s.p14, lp2 v2 kk 240#32 s.p15⟩

/-- The stage at distance 4 in the merge of blocks of `kk`, on one pair and on all. -/
abbrev lp4 (v2 : IVec S16 32) (kk off : BitVec 32) (a : KI) : KI :=
  lanePair v2 (isL v2 4#32) kk off a ⟨xp4 (isL v2 4#32) a.k, xp4 (isL v2 4#32) a.i⟩
abbrev lane4 (v2 : IVec S16 32) (kk : BitVec 32) (s : St) : St :=
  ⟨lp4 v2 kk 0#32 s.p0, lp4 v2 kk 16#32 s.p1, lp4 v2 kk 32#32 s.p2, lp4 v2 kk 48#32 s.p3, lp4 v2 kk 64#32 s.p4, lp4 v2 kk 80#32 s.p5, lp4 v2 kk 96#32 s.p6, lp4 v2 kk 112#32 s.p7, lp4 v2 kk 128#32 s.p8, lp4 v2 kk 144#32 s.p9, lp4 v2 kk 160#32 s.p10, lp4 v2 kk 176#32 s.p11, lp4 v2 kk 192#32 s.p12, lp4 v2 kk 208#32 s.p13, lp4 v2 kk 224#32 s.p14, lp4 v2 kk 240#32 s.p15⟩

/-- The stage at distance 8 in the merge of blocks of `kk`, on one pair and on all. -/
abbrev lp8 (v2 : IVec S16 32) (kk off : BitVec 32) (a : KI) : KI :=
  lanePair v2 (isL v2 8#32) kk off a ⟨xp8 (isL v2 8#32) a.k, xp8 (isL v2 8#32) a.i⟩
abbrev lane8 (v2 : IVec S16 32) (kk : BitVec 32) (s : St) : St :=
  ⟨lp8 v2 kk 0#32 s.p0, lp8 v2 kk 16#32 s.p1, lp8 v2 kk 32#32 s.p2, lp8 v2 kk 48#32 s.p3, lp8 v2 kk 64#32 s.p4, lp8 v2 kk 80#32 s.p5, lp8 v2 kk 96#32 s.p6, lp8 v2 kk 112#32 s.p7, lp8 v2 kk 128#32 s.p8, lp8 v2 kk 144#32 s.p9, lp8 v2 kk 160#32 s.p10, lp8 v2 kk 176#32 s.p11, lp8 v2 kk 192#32 s.p12, lp8 v2 kk 208#32 s.p13, lp8 v2 kk 224#32 s.p14, lp8 v2 kk 240#32 s.p15⟩

/-- Does the exchange of whole registers put the later entry first? In a descending block it does not. -/
abbrev swapOf (asc : Bool) (a b : KI) : IVec S16 1 := bif asc then xori (before a b) (constantI S16 1 1#1) else before a b
/-- The earlier and the later register pair after an exchange. -/
abbrev exLo (asc : Bool) (a b : KI) : KI := ⟨select (swapOf asc a b) b.k a.k, select (swapOf asc a b) b.i a.i⟩
abbrev exHi (asc : Bool) (a b : KI) : KI := ⟨select (swapOf asc a b) a.k b.k, select (swapOf asc a b) a.i b.i⟩

/-- Is the block of `kk` positions in which register pair `v` lies one the network sorts with the greater entries first? -/
abbrev up (kk v : Nat) : Bool := decide ((16 * v) &&& kk = 0)

/-- The stage at distance 16 in the merge of blocks of `kk`. -/
abbrev cross1 (kk : Nat) (s : St) : St :=
  ⟨exLo (up kk 0) s.p0 s.p1, exHi (up kk 0) s.p0 s.p1, exLo (up kk 2) s.p2 s.p3, exHi (up kk 2) s.p2 s.p3, exLo (up kk 4) s.p4 s.p5, exHi (up kk 4) s.p4 s.p5, exLo (up kk 6) s.p6 s.p7, exHi (up kk 6) s.p6 s.p7, exLo (up kk 8) s.p8 s.p9, exHi (up kk 8) s.p8 s.p9, exLo (up kk 10) s.p10 s.p11, exHi (up kk 10) s.p10 s.p11, exLo (up kk 12) s.p12 s.p13, exHi (up kk 12) s.p12 s.p13, exLo (up kk 14) s.p14 s.p15, exHi (up kk 14) s.p14 s.p15⟩

/-- The stage at distance 32 in the merge of blocks of `kk`. -/
abbrev cross2 (kk : Nat) (s : St) : St :=
  ⟨exLo (up kk 0) s.p0 s.p2, exLo (up kk 1) s.p1 s.p3, exHi (up kk 0) s.p0 s.p2, exHi (up kk 1) s.p1 s.p3, exLo (up kk 4) s.p4 s.p6, exLo (up kk 5) s.p5 s.p7, exHi (up kk 4) s.p4 s.p6, exHi (up kk 5) s.p5 s.p7, exLo (up kk 8) s.p8 s.p10, exLo (up kk 9) s.p9 s.p11, exHi (up kk 8) s.p8 s.p10, exHi (up kk 9) s.p9 s.p11, exLo (up kk 12) s.p12 s.p14, exLo (up kk 13) s.p13 s.p15, exHi (up kk 12) s.p12 s.p14, exHi (up kk 13) s.p13 s.p15⟩

/-- The stage at distance 64 in the merge of blocks of `kk`. -/
abbrev cross4 (kk : Nat) (s : St) : St :=
  ⟨exLo (up kk 0) s.p0 s.p4, exLo (up kk 1) s.p1 s.p5, exLo (up kk 2) s.p2 s.p6, exLo (up kk 3) s.p3 s.p7, exHi (up kk 0) s.p0 s.p4, exHi (up kk 1) s.p1 s.p5, exHi (up kk 2) s.p2 s.p6, exHi (up kk 3) s.p3 s.p7, exLo (up kk 8) s.p8 s.p12, exLo (up kk 9) s.p9 s.p13, exLo (up kk 10) s.p10 s.p14, exLo (up kk 11) s.p11 s.p15, exHi (up kk 8) s.p8 s.p12, exHi (up kk 9) s.p9 s.p13, exHi (up kk 10) s.p10 s.p14, exHi (up kk 11) s.p11 s.p15⟩

/-- The stage at distance 128 in the merge of blocks of `kk`. -/
abbrev cross8 (kk : Nat) (s : St) : St :=
  ⟨exLo (up kk 0) s.p0 s.p8, exLo (up kk 1) s.p1 s.p9, exLo (up kk 2) s.p2 s.p10, exLo (up kk 3) s.p3 s.p11, exLo (up kk 4) s.p4 s.p12, exLo (up kk 5) s.p5 s.p13, exLo (up kk 6) s.p6 s.p14, exLo (up kk 7) s.p7 s.p15, exHi (up kk 0) s.p0 s.p8, exHi (up kk 1) s.p1 s.p9, exHi (up kk 2) s.p2 s.p10, exHi (up kk 3) s.p3 s.p11, exHi (up kk 4) s.p4 s.p12, exHi (up kk 5) s.p5 s.p13, exHi (up kk 6) s.p6 s.p14, exHi (up kk 7) s.p7 s.p15⟩

/-- The four stages inside the registers that end every merge of blocks of 16 or more. -/
abbrev lanes (v2 : IVec S16 32) (kk : BitVec 32) (s : St) : St := lane1 v2 kk (lane2 v2 kk (lane4 v2 kk (lane8 v2 kk s)))

/-- The whole sort. -/
abbrev m16 (v2 : IVec S16 32) (s : St) : St :=
  lanes v2 16#32 (lane1 v2 8#32 (lane2 v2 8#32 (lane4 v2 8#32 (lane1 v2 4#32 (lane2 v2 4#32 (lane1 v2 2#32 s))))))
abbrev m32 (v2 : IVec S16 32) (s : St) : St := lanes v2 32#32 (cross1 32 s)
abbrev m64 (v2 : IVec S16 32) (s : St) : St := lanes v2 64#32 (cross1 64 (cross2 64 s))
abbrev m128 (v2 : IVec S16 32) (s : St) : St := lanes v2 128#32 (cross1 128 (cross2 128 (cross4 128 s)))
abbrev m256 (v2 : IVec S16 32) (s : St) : St := lanes v2 256#32 (cross1 256 (cross2 256 (cross4 256 (cross8 256 s))))
abbrev net (v2 : IVec S16 32) (s : St) : St := m256 v2 (m128 v2 (m64 v2 (m32 v2 (m16 v2 s))))

/-- A register of keys turned back into the register of the floats they stand for. -/
abbrev outV (k : IVec S16 32) : FVec F S16 .f32 :=
  bitcastToFloat .f32 (xori k (andi (shrsi k (broadcast S16 31#32)) (broadcast S16 2147483647#32)))

end Cert.Proof.TopRow

end
-- ==== Proof.RowDefs.lean ====
module

public import proofs.«01_k».proof.Proof.Base
public import proofs.«01_k».proof.Proof.Round
public import proofs.«01_k».proof.Proof.Tail
public import proofs.«01_k».proof.Proof.Net
public import proofs.«01_k».proof.Proof.Clear
public import proofs.«01_k».proof.Proof.Trip1

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

variable (d : Dev nD) (L : grid0.Coords)

/-- The row of the logits that is fetched while row `k` of the tile is worked on, and the rows of the results that row `k` writes. -/
abbrev xNext (k : Fin k0_t1_loop.trips) : Memref sig .scVector .hbm S32768 .f32 :=
  ((xV).slice (Rect.unit (s := S128x32768) (k0_off5 L k) S1x32768.size (k0_off5_inb L k)) (fun _ => rfl)).squeeze S32768 squeezes_S1x32768_S32768
abbrev vOut (k : Fin k0_t1_loop.trips) : Memref sig .scVector .hbm S256 .f32 :=
  ((vV).slice (Rect.unit (s := S128x256) (k0_off13 L k) S1x256.size (k0_off13_inb L k)) (fun _ => rfl)).squeeze S256 squeezes_S1x256_S256
abbrev iOut (k : Fin k0_t1_loop.trips) : Memref sig .scVector .hbm S256 .i32 :=
  ((iV).slice (Rect.unit (s := S128x256) (k0_off13 L k) S1x256.size (k0_off13_inb L k)) (fun _ => rfl)).squeeze S256 squeezes_S1x256_S256

/-- The numbers of places in bin `b` or later, counted by the first histogram, are those of the keys whose top byte is at least `b − 128`. -/
theorem SB_B1 (x : Vec F S32768 .f32) (b : ℕ) (p : ℤ) (hp : p = (b : ℤ) - 128) :
    SB (B1 x) (16 * 2048) b = ((List.range 32768).filter fun n => decide (p ≤ Hi (kw x) 24 n)).length := by
  have hN : 16 * 2048 = 32768 := by decide
  rw [hN]
  unfold SB
  refine congrArg List.length (List.filter_congr fun n _ => ?_)
  have := H_bounds24 x n
  have e : Hi (kw x) 24 n = H x 24 n := rfl
  rw [e]
  unfold B1
  rw [decide_eq_decide]
  constructor <;> intro h <;> omega

/-- The first threshold is the bin found, less 128: the top byte of a key is signed. -/
theorem sub128 (dd : ℕ) (h : dd < 256) : (BitVec.ofNat 32 dd - 128#32).toInt = (dd : ℤ) - 128 := by
  have h1 : (128 : ℤ) = (128#32).toInt := by decide
  have h2 : (BitVec.ofNat 32 dd).toInt = dd := by
    rw [BitVec.toInt_eq_toNat_of_lt (by rw [toNat_ofNat_lt _ (by omega)]; omega), toNat_ofNat_lt _ (by omega)]
  rw [BitVec.toInt_sub, h2, ← h1]
  exact Int.bmod_eq_of_le (by omega) (by omega)

/-! ## The two rows of results -/

/-- Sixteen stores of a register each, one after another, the last one first: they fill the buffer. -/
def stores {e : EltTy} (V : Fin 16 → Vec F S16 e) (rs : List (Fin 16)) : List (View.Piece (Elt F) S256 e) :=
  rs.map fun r => ⟨Rect.unit (s := S256) ![16 * r.val] S16.size (fun a => by obtain rfl : a = 0 := Subsingleton.elim _ _; show 16 * r.val + 16 ≤ 256; omega), V r⟩

/-- Register `j / 16` of the sixteen holds word `j` in lane `j % 16`. -/
theorem read_stores {e : EltTy} {sp : Space} {κ : Kind} (v : View sig κ sp S256 e) (f : v.ty.Contents (Elt F)) (V : Fin 16 → Vec F S16 e) (j : Fin 256) (rs : List (Fin 16))
    (hj : (⟨j.val / 16, by omega⟩ : Fin 16) ∈ rs) :
    v.read (Elt F) (v.writes (Elt F) f (stores (F := F) V rs)) (Shape.ofLane (d := ![256]) j) = V ⟨j.val / 16, by omega⟩ (ix ⟨j.val % 16, by omega⟩) := by
  induction rs with
  | nil => cases hj
  | cons r rs ih =>
    by_cases hr : r = ⟨j.val / 16, by omega⟩
    · subst hr
      refine View.read_writes_cons_hit_of_coords v f (Rect.unit (s := S256) _ S16.size _) _ _ (ix ⟨j.val % 16, by omega⟩) _ fun a => ?_
      obtain rfl : a = 0 := Subsingleton.elim _ _
      show j.val = 16 * (j.val / 16) + 1 * (j.val % 16)
      omega
    · rcases List.mem_cons.mp hj with h | h
      · exact absurd h.symm hr
      · refine Eq.trans ?_ (ih h)
        have : r.val ≠ j.val / 16 := fun hc => hr (Fin.ext hc)
        refine View.read_writes_cons_miss_of_axis v f _ _ _ 0 (16 * r.val) 16 rfl rfl rfl ?_
        show j.val < 16 * r.val ∨ 16 * r.val + 16 ≤ j.val
        omega

abbrev ldw (f : Bf (F := F) d L bWk) (n : ℕ) (h : ∀ a, (![n] : Fin 1 → ℕ) a + S16.size a ≤ S256.size a) : IVec S16 32 :=
  View.readAt (Elt F) (bWk).view (Rect.unit (s := S256) ![n] S16.size h).toLoadRect f
abbrev ldwi (f : Bf (F := F) d L bWi) (n : ℕ) (h : ∀ a, (![n] : Fin 1 → ℕ) a + S16.size a ≤ S256.size a) : IVec S16 32 :=
  View.readAt (Elt F) (bWi).view (Rect.unit (s := S256) ![n] S16.size h).toLoadRect f

/-- The sixteen pairs of registers loaded from the chosen keys and places. -/
def st0 (wk : Bf (F := F) d L bWk) (wi : Bf (F := F) d L bWi) : St :=
  ⟨⟨ldw d L wk 0 inb_S256_S16_0, ldwi d L wi 0 inb_S256_S16_0⟩, ⟨ldw d L wk 16 inb_S256_S16_16, ldwi d L wi 16 inb_S256_S16_16⟩, ⟨ldw d L wk 32 inb_S256_S16_32, ldwi d L wi 32 inb_S256_S16_32⟩, ⟨ldw d L wk 48 inb_S256_S16_48, ldwi d L wi 48 inb_S256_S16_48⟩, ⟨ldw d L wk 64 inb_S256_S16_64, ldwi d L wi 64 inb_S256_S16_64⟩, ⟨ldw d L wk 80 inb_S256_S16_80, ldwi d L wi 80 inb_S256_S16_80⟩, ⟨ldw d L wk 96 inb_S256_S16_96, ldwi d L wi 96 inb_S256_S16_96⟩, ⟨ldw d L wk 112 inb_S256_S16_112, ldwi d L wi 112 inb_S256_S16_112⟩, ⟨ldw d L wk 128 inb_S256_S16_128, ldwi d L wi 128 inb_S256_S16_128⟩, ⟨ldw d L wk 144 inb_S256_S16_144, ldwi d L wi 144 inb_S256_S16_144⟩, ⟨ldw d L wk 160 inb_S256_S16_160, ldwi d L wi 160 inb_S256_S16_160⟩, ⟨ldw d L wk 176 inb_S256_S16_176, ldwi d L wi 176 inb_S256_S16_176⟩, ⟨ldw d L wk 192 inb_S256_S16_192, ldwi d L wi 192 inb_S256_S16_192⟩, ⟨ldw d L wk 208 inb_S256_S16_208, ldwi d L wi 208 inb_S256_S16_208⟩, ⟨ldw d L wk 224 inb_S256_S16_224, ldwi d L wi 224 inb_S256_S16_224⟩, ⟨ldw d L wk 240 inb_S256_S16_240, ldwi d L wi 240 inb_S256_S16_240⟩⟩

theorem ldw_ix (f : Bf (F := F) d L bWk) (n : ℕ) (h : ∀ a, (![n] : Fin 1 → ℕ) a + S16.size a ≤ S256.size a) (k : Fin 16) : ldw d L f n h (ix k) = rd (N := 256) f (n + k) :=
  readAt_ix (F := F) (bWk).view f ![n] h k
theorem ldwi_ix (f : Bf (F := F) d L bWi) (n : ℕ) (h : ∀ a, (![n] : Fin 1 → ℕ) a + S16.size a ≤ S256.size a) (k : Fin 16) : ldwi d L f n h (ix k) = rd (N := 256) f (n + k) :=
  readAt_ix (F := F) (bWi).view f ![n] h k

/-- What one row's results are: some list of 256 places survives the selection, and the sorted keys and places of that list are turned into the two rows. -/
def RowRes (x : Vec F S32768 .f32) (gv : Vec F S256 .f32) (gi : Vec F S256 .i32) : Prop :=
  ∃ (v2 : IVec S16 32) (s : St) (p : ℤ) (C W : List ℕ) (q : ℕ), (∀ k : Fin 16, v2 (ix k) = BitVec.ofNat 32 k) ∧ RInv (kw x) 32768 0 p C W q ∧ (∀ n ∈ C, Hi (kw x) 0 n = p)
    ∧ (∀ r k : Fin 16, (s.get r).k (ix k) = kw x ((W ++ C.take q).getD (16 * r + k) 0)) ∧ (∀ r k : Fin 16, (s.get r).i (ix k) = BitVec.ofNat 32 ((W ++ C.take q).getD (16 * r + k) 0))
    ∧ (∀ j : Fin 256, gv (Shape.ofLane (d := ![256]) j) = outV (F := F) ((net v2 s).get ⟨j.val / 16, by omega⟩).k (ix ⟨j.val % 16, by omega⟩))
    ∧ (∀ j : Fin 256, gi (Shape.ofLane (d := ![256]) j) = ((net v2 s).get ⟨j.val / 16, by omega⟩).i (ix ⟨j.val % 16, by omega⟩))

theorem RowRes.of_pre {x : Vec F S32768 .f32} {gv : Vec F S256 .f32} {gi : Vec F S256 .i32} {v2 : IVec S16 32} {p : ℤ} {C W : List ℕ} {q : ℕ} (hv2 : ∀ k : Fin 16, v2 (ix k) = BitVec.ofNat 32 k)
    (hI : RInv (kw x) 32768 0 p C W q) (hCp : ∀ n ∈ C, Hi (kw x) 0 n = p) (wk : Bf (F := F) d L bWk) (wi : Bf (F := F) d L bWi)
    (hwk : Pre (N := 256) wk ((W ++ C.take q).map (kw x))) (hwi : Pre (N := 256) wi ((W ++ C.take q).map (BitVec.ofNat 32)))
    (hgv : ∃ M : View sig .scVector .vmem S256 .f32, ∃ f, gv = M.read (Elt F) (M.writes (Elt F) f (stores (F := F) (fun r => outV (F := F) ((net v2 (st0 d L wk wi)).get r).k) [15, 14, 13, 12, 11, 10, 9, 8, 7, 6, 5, 4, 3, 2, 1, 0])))
    (hgi : ∃ M : View sig .scVector .vmem S256 .i32, ∃ f, gi = M.read (Elt F) (M.writes (Elt F) f (stores (F := F) (e := .i32) (fun r => ((net v2 (st0 d L wk wi)).get r).i) [15, 14, 13, 12, 11, 10, 9, 8, 7, 6, 5, 4, 3, 2, 1, 0]))) :
    RowRes x gv gi := by
  have hall : ∀ r : Fin 16, r ∈ [15, 14, 13, 12, 11, 10, 9, 8, 7, 6, 5, 4, 3, 2, 1, (0 : Fin 16)] := by decide
  have hlen : (W ++ C.take q).length = 256 := by
    have := hI.sum; have := hI.qle
    rw [List.length_append, List.length_take]; omega
  have hk : ∀ n < 256, rd (N := 256) wk n = kw x ((W ++ C.take q).getD n 0) := by
    intro n hn
    rw [hwk n (by rw [List.length_map]; omega), List.getElem_map, List.getD_eq_getElem?_getD, List.getElem?_eq_getElem (by omega)]; rfl
  have hi : ∀ n < 256, rd (N := 256) wi n = BitVec.ofNat 32 ((W ++ C.take q).getD n 0) := by
    intro n hn
    rw [hwi n (by rw [List.length_map]; omega), List.getElem_map, List.getD_eq_getElem?_getD, List.getElem?_eq_getElem (by omega)]; rfl
  refine ⟨v2, st0 d L wk wi, p, C, W, q, hv2, hI, hCp, ?_, ?_, ?_, ?_⟩
  · intro r k
    rw [← hk _ (by omega)]
    fin_cases r <;> exact ldw_ix d L wk _ _ k
  · intro r k
    rw [← hi _ (by omega)]
    fin_cases r <;> exact ldwi_ix d L wi _ _ k
  · intro j
    obtain ⟨M, f, rfl⟩ := hgv
    exact read_stores M f _ j _ (hall _)
  · intro j
    obtain ⟨M, f, rfl⟩ := hgi
    exact read_stores M f _ j _ (hall _)

end Cert.Proof.TopRow

end
-- ==== Proof.Rows.lean ====
module

public import proofs.«01_k».proof.Proof.Base
public import proofs.«01_k».proof.Proof.RowDefs

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # Rows of the arrays

A row of the logits, or of a result, is worked on by one subcore: the subcore at core `c` and place `i` has the four rows from `4 · (2 i + c)` on. -/

/-! ## Sets of places, by row -/

section
variable {I : Type} [Fintype I] [DecidableEq I] (r : I → ℕ)

/-- The places of row `n`. -/
def rowSet (n : ℕ) : Finset I := Finset.univ.filter fun j => r j = n
/-- The places of the four rows of subcore `w`. -/
def tileSet (w : ℕ) : Finset I := Finset.univ.filter fun j => r j / 4 = w
/-- The places of all rows that the subcores of core `c` have. -/
def coreSet (c : ℕ) : Finset I := Finset.univ.filter fun j => r j / 4 % 2 = c

theorem mem_rowSet {n : ℕ} {j : I} : j ∈ rowSet r n ↔ r j = n := by simp [rowSet]
theorem mem_tileSet {w : ℕ} {j : I} : j ∈ tileSet r w ↔ r j / 4 = w := by simp [tileSet]
theorem mem_coreSet {c : ℕ} {j : I} : j ∈ coreSet r c ↔ r j / 4 % 2 = c := by simp [coreSet]

theorem rowSet_subset {n w : ℕ} (h : n / 4 = w) : rowSet r n ⊆ tileSet r w := fun j hj => by
  rw [mem_rowSet] at hj; rw [mem_tileSet, hj, h]

theorem tiles_disjoint (c : ℕ) : ∀ i ∈ (Finset.univ : Finset (Fin 16)), ∀ j ∈ (Finset.univ : Finset (Fin 16)), i ≠ j →
    Disjoint (tileSet r (2 * i.val + c)) (tileSet r (2 * j.val + c)) := fun i _ j _ h =>
  Finset.disjoint_left.mpr fun x hx hy => h (Fin.ext (by rw [mem_tileSet] at hx hy; omega))

theorem cores_disjoint : ∀ i ∈ (Finset.univ : Finset (Fin 2)), ∀ j ∈ (Finset.univ : Finset (Fin 2)), i ≠ j →
    Disjoint (coreSet r i.val) (coreSet r j.val) := fun i _ j _ h =>
  Finset.disjoint_left.mpr fun x hx hy => h (Fin.ext (by rw [mem_coreSet] at hx hy; omega))

theorem tiles_cover (hr : ∀ j, r j < 128) (c : ℕ) (hc : c < 2) : (Finset.univ : Finset (Fin 16)).biUnion (fun i => tileSet r (2 * i.val + c)) = coreSet r c := by
  ext j
  have := hr j
  simp only [Finset.mem_biUnion, Finset.mem_univ, true_and, mem_tileSet, mem_coreSet]
  constructor
  · rintro ⟨i, hi⟩; omega
  · intro h; exact ⟨⟨r j / 8, by omega⟩, by show _ = 2 * (r j / 8) + c; omega⟩

theorem cores_cover : (Finset.univ : Finset (Fin 2)).biUnion (fun c => coreSet r c.val) = Finset.univ := by
  ext j
  simp only [Finset.mem_biUnion, Finset.mem_univ, true_and, mem_coreSet, iff_true]
  exact ⟨⟨r j / 4 % 2, by omega⟩, rfl⟩

end

/-- The row of a place of the logits, and of a place of a result. -/
def rX (j : S128x32768.Idx) : ℕ := (j 0).val
def rO (j : S128x256.Idx) : ℕ := (j 0).val
theorem rX_lt (j : S128x32768.Idx) : rX j < 128 := (j 0).isLt
theorem rO_lt (j : S128x256.Idx) : rO j < 128 := (j 0).isLt

/-! ## One row -/

/-- Place `y` of row `n` of the logits, and of a result. -/
def xIdx (n : ℕ) (y : S32768.Idx) : S128x32768.Idx := Fin.cons ⟨n % 128, Nat.mod_lt _ (by decide)⟩ y
def oIdx (n : ℕ) (y : S256.Idx) : S128x256.Idx := Fin.cons ⟨n % 128, Nat.mod_lt _ (by decide)⟩ y

/-- Row `n` of an array of the logits' shape, and of one of the results' shape. -/
def xAt {e : EltTy} (X : Vec F S128x32768 e) (n : ℕ) : Vec F S32768 e := fun y => X (xIdx n y)
def oAt {e : EltTy} (X : Vec F S128x256 e) (n : ℕ) : Vec F S256 e := fun y => X (oIdx n y)

theorem rO_oIdx (n : ℕ) (hn : n < 128) (y : S256.Idx) : rO (oIdx n y) = n := Nat.mod_eq_of_lt hn

/-- Changing a result on row `n` alone changes that row alone. -/
theorem oAt_piecewise {e : EltTy} (g f : Vec F S128x256 e) (n n' : ℕ) (hn' : n' < 128) :
    oAt ((rowSet rO n).piecewise g f) n' = if n' = n then oAt g n' else oAt f n' := by
  funext y
  by_cases h : n' = n
  · rw [if_pos h]
    exact Finset.piecewise_eq_of_mem _ _ _ ((mem_rowSet rO).mpr (by rw [rO_oIdx n' hn', h]))
  · rw [if_neg h]
    exact Finset.piecewise_eq_of_notMem _ _ _ (fun hm => h (by rw [mem_rowSet, rO_oIdx n' hn'] at hm; exact hm))

/-- A row of the logits as the kernel names it, and a row of each result. -/
abbrev xRow (off : Fin 2 → ℕ) (inb : ∀ a, off a + S1x32768.size a ≤ S128x32768.size a) : Memref sig .scVector .hbm S32768 .f32 :=
  ((xV).slice (Rect.unit (s := S128x32768) off S1x32768.size inb) (fun _ => rfl)).squeeze S32768 squeezes_S1x32768_S32768
abbrev vRow (off : Fin 2 → ℕ) (inb : ∀ a, off a + S1x256.size a ≤ S128x256.size a) : Memref sig .scVector .hbm S256 .f32 :=
  ((vV).slice (Rect.unit (s := S128x256) off S1x256.size inb) (fun _ => rfl)).squeeze S256 squeezes_S1x256_S256
abbrev iRow (off : Fin 2 → ℕ) (inb : ∀ a, off a + S1x256.size a ≤ S128x256.size a) : Memref sig .scVector .hbm S256 .i32 :=
  ((iV).slice (Rect.unit (s := S128x256) off S1x256.size inb) (fun _ => rfl)).squeeze S256 squeezes_S1x256_S256

section
variable (off : Fin 2 → ℕ) (n : ℕ) (h : off = ![n, 0])
include h

theorem mem_unit_x (inb) (j : S128x32768.Idx) : j ∈ (Rect.unit (s := S128x32768) off S1x32768.size inb).set ↔ rX j = n := by
  subst h
  rw [Rect.mem_set_unit]
  constructor
  · intro hj
    have h0 := hj 0
    have e1 : (![n, 0] : Fin 2 → ℕ) 0 = n := rfl
    have e2 : S1x32768.size 0 = 1 := rfl
    unfold rX; rw [e1, e2] at h0; omega
  · intro hj a
    match a with
    | 0 => exact ⟨le_of_eq hj.symm, Nat.lt_succ_of_le (le_of_eq hj)⟩
    | 1 => exact ⟨Nat.zero_le _, (by rw [show (![n, 0] : Fin 2 → ℕ) 1 + S1x32768.size 1 = 32768 from rfl]; exact (j 1).isLt)⟩

theorem mem_unit_o (inb) (j : S128x256.Idx) : j ∈ (Rect.unit (s := S128x256) off S1x256.size inb).set ↔ rO j = n := by
  subst h
  rw [Rect.mem_set_unit]
  constructor
  · intro hj
    have h0 := hj 0
    have e1 : (![n, 0] : Fin 2 → ℕ) 0 = n := rfl
    have e2 : S1x256.size 0 = 1 := rfl
    unfold rO; rw [e1, e2] at h0; omega
  · intro hj a
    match a with
    | 0 => exact ⟨le_of_eq hj.symm, Nat.lt_succ_of_le (le_of_eq hj)⟩
    | 1 => exact ⟨Nat.zero_le _, (by rw [show (![n, 0] : Fin 2 → ℕ) 1 + S1x256.size 1 = 256 from rfl]; exact (j 1).isLt)⟩

theorem set_xRow (inb) : (xRow off inb).view.set = rowSet rX n := by
  show (((xV).view.slice (Rect.unit (s := S128x32768) off S1x32768.size inb)).reshape S32768 squeezes_S1x32768_S32768.numel_eq).set = _
  rw [View.set_reshape, show ((xV).view.slice (Rect.unit (s := S128x32768) off S1x32768.size inb)).set = (Rect.unit (s := S128x32768) off S1x32768.size inb).set from
    View.set_slice_whole main_arg0_scv _]
  ext j; rw [mem_unit_x off n h, mem_rowSet]
theorem set_vRow (inb) : (vRow off inb).view.set = rowSet rO n := by
  show (((vV).view.slice (Rect.unit (s := S128x256) off S1x256.size inb)).reshape S256 squeezes_S1x256_S256.numel_eq).set = _
  rw [View.set_reshape, show ((vV).view.slice (Rect.unit (s := S128x256) off S1x256.size inb)).set = (Rect.unit (s := S128x256) off S1x256.size inb).set from
    View.set_slice_whole main_v0_0_scv _]
  ext j; rw [mem_unit_o off n h, mem_rowSet]
theorem set_iRow (inb) : (iRow off inb).view.set = rowSet rO n := by
  show (((iV).view.slice (Rect.unit (s := S128x256) off S1x256.size inb)).reshape S256 squeezes_S1x256_S256.numel_eq).set = _
  rw [View.set_reshape, show ((iV).view.slice (Rect.unit (s := S128x256) off S1x256.size inb)).set = (Rect.unit (s := S128x256) off S1x256.size inb).set from
    View.set_slice_whole main_v0_1_scv _]
  ext j; rw [mem_unit_o off n h, mem_rowSet]

theorem emb_x (hn : n < 128) (inb) (y : S32768.Idx) :
    (Rect.unit (s := S128x32768) off S1x32768.size inb).emb (Shape.reshapeEquiv squeezes_S1x32768_S32768.numel_eq y) = xIdx n y := by
  subst h
  have e : Shape.reshapeEquiv squeezes_S1x32768_S32768.numel_eq y = (Fin.cons ⟨0, Nat.one_pos⟩ y : S1x32768.Idx) := Shape.reshapeEquiv_cons_one _ y
  rw [e]
  funext a
  apply Fin.ext
  match a with
  | 0 => exact (Nat.mod_eq_of_lt hn).symm
  | 1 => show 0 + 1 * (y 0).val = (y 0).val; omega
theorem emb_o (hn : n < 128) (inb) (y : S256.Idx) :
    (Rect.unit (s := S128x256) off S1x256.size inb).emb (Shape.reshapeEquiv squeezes_S1x256_S256.numel_eq y) = oIdx n y := by
  subst h
  have e : Shape.reshapeEquiv squeezes_S1x256_S256.numel_eq y = (Fin.cons ⟨0, Nat.one_pos⟩ y : S1x256.Idx) := Shape.reshapeEquiv_cons_one _ y
  rw [e]
  funext a
  apply Fin.ext
  match a with
  | 0 => exact (Nat.mod_eq_of_lt hn).symm
  | 1 => show 0 + 1 * (y 0).val = (y 0).val; omega

/-- What a named row reads is that row of the array. -/
theorem read_xRow (hn : n < 128) (inb) (f : Vec F S128x32768 .f32) : (xRow off inb).view.read (Elt F) f = xAt f n :=
  funext fun y => congrArg f (emb_x off n h hn inb y)
theorem read_vRow (hn : n < 128) (inb) (f : Vec F S128x256 .f32) : (vRow off inb).view.read (Elt F) f = oAt f n :=
  funext fun y => congrArg f (emb_o off n h hn inb y)
theorem read_iRow (hn : n < 128) (inb) (f : Vec F S128x256 .i32) : (iRow off inb).view.read (Elt F) f = oAt f n :=
  funext fun y => congrArg f (emb_o off n h hn inb y)

/-- Writing a named row whole leaves what was written in that row. -/
theorem write_vRow (hn : n < 128) (inb) (f : Vec F S128x256 .f32) (g : Vec F S256 .f32) :
    oAt ((vRow off inb).view.writes (Elt F) f [⟨Rect.whole S256, g⟩]) n = g :=
  (read_vRow off n h hn inb _).symm.trans (View.read_writes_whole _ _ _)
theorem write_iRow (hn : n < 128) (inb) (f : Vec F S128x256 .i32) (g : Vec F S256 .i32) :
    oAt ((iRow off inb).view.writes (Elt F) f [⟨Rect.whole S256, g⟩]) n = g :=
  (read_iRow off n h hn inb _).symm.trans (View.read_writes_whole _ _ _)
end

end Cert.Proof.TopRow

end
-- ==== Proof.Row.lean ====
module

public import proofs.«01_k».proof.Proof.Base
public import proofs.«01_k».proof.Proof.RowDefs

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

variable (d : Dev nD) (L : grid0.Coords)

/-- One row, from the row of the logits in the tile's buffer to the rows of the results in the arrays. -/
theorem trip_row (k0_t1 : Fin k0_t1_loop.trips) (O : CellTallies nD τ sig (HIx 1)) (W : Waits sig (HIx 1)) (x : Bf (F := F) d L bRow) (fx : Bf (F := F) d L (xNext L k0_t1)) (h : Bf (F := F) d L bH) (ck : Bf (F := F) d L bCk) (ci : Bf (F := F) d L bCi)
    (wk : Bf (F := F) d L bWk) (wi : Bf (F := F) d L bWi) (ov : Bf (F := F) d L bOv) (oi : Bf (F := F) d L bOi)
    (fv : Bf (F := F) d L (vOut L k0_t1)) (fi : Bf (F := F) d L (iOut L k0_t1)) (v1 arg15 : BitVec 32) (v2 : IVec S16 32)
    (hv2 : ∀ k : Fin 16, v2 (ix k) = BitVec.ofNat 32 k) (hv3 : ∀ k, k0_pay1 (ix k) = 1#32) (hv4 : ∀ k, k0_pay2 (ix k) = 0#32)
    (hv6 : ∀ k : Fin 16, (k0_pay3 (ix k)).toNat = k * 273) (hv10 : ∀ k : Fin 16, (k0_pay4 (ix k)).toNat = k * 273 + 128) :
    iprop(Transfers.MayWaits (thr d L) (default : HIx 1) O ∗ pt d L bRow x ∗ pt d L bH h ∗ pt d L bCk ck ∗ pt d L bCi ci ∗ pt d L bWk wk ∗ pt d L bWi wi ∗ pt d L bOv ov ∗ pt d L bOi oi
      ∗ pts d L (xNext L k0_t1) fx ∗ pts d L (vOut L k0_t1) fv ∗ pts d L (iOut L k0_t1) fi
      ∗ semVal (cell d L cc0_scratch8) 0 ∗ semVal (cell d L cc0_scoped1) 0 ∗ semVal (cell d L cc0_scoped2) 0 ∗ owes (thr d L) O W)
      ⊢ wp frame (wpE (defs₀ (F := F)) 𝒱₀ (thr d L) none) Set.univ
      (k0_t1_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v2 k0_t1 arg15)
      (fun _ => iprop(∃ h' ck' ci' wk' wi' ov' oi' gv gi W', ⌜RowRes (F := F) x gv gi⌝ ∗ pt d L bRow ((xNext L k0_t1).view.read (Elt F) fx) ∗ pt d L bH h' ∗ pt d L bCk ck' ∗ pt d L bCi ci'
        ∗ pt d L bWk wk' ∗ pt d L bWi wi' ∗ pt d L bOv ov' ∗ pt d L bOi oi'
        ∗ pts d L (xNext L k0_t1) fx ∗ pts d L (vOut L k0_t1) ((vOut L k0_t1).view.writes (Elt F) fv [⟨Rect.whole S256, gv⟩])
        ∗ pts d L (iOut L k0_t1) ((iOut L k0_t1).view.writes (Elt F) fi [⟨Rect.whole S256, gi⟩])
        ∗ semVal (cell d L cc0_scratch8) 0 ∗ semVal (cell d L cc0_scoped1) 0 ∗ semVal (cell d L cc0_scoped2) 0 ∗ owes (thr d L) O W')) := by
  have hz0 : Zeros (F := F) h 0 := fun l _ c hc => absurd hc (by omega)
  iintro ⟨#Hmw, Hx, Hh, Hck, Hci, Hwk, Hwi, Hov, Hoi, Hxn, Hvo, Hio, Hs0, Hs1, Hs2, HO⟩
  unfold k0_t1_body
  sl_exec_parts
  sl_for (fun i _ => iprop(∃ h', ⌜Zeros (F := F) h' i⌝ ∗ pt d L bH h')) $$ [Hh]
  case region =>
    intro t2 _
    iintro ⟨%h', %hz, Hh⟩
    iapply (trip_clear1 d L h' _ _ _ _ _ _ k0_t1 t2 hv4 hz) $$ Hh
  · iexists h; isplitr [Hh]
    · ipureintro; exact hz0
    · iexact Hh
  iintro %a ⟨%h1, %hz, Hh⟩
  have hz18 : Zeros (F := F) h1 18 := hz
  have hb0 : HistIs (F := F) h1 (B1 x) 0 := HistIs.of_zeros hz18 _
  sl_exec_parts
  sl_for (fun i _ => iprop(∃ h', ⌜HistIs (F := F) h' (B1 x) i⌝ ∗ pt d L bRow x ∗ pt d L bH h')) $$ [Hx Hh]
  case region =>
    intro t3 _
    iintro ⟨%h', %hh, Hx, Hh⟩
    iapply (trip_h1 d L x h' _ _ _ _ _ _ k0_t1 hv3 hv10 t3 hh) $$ [Hx Hh]
    isplitl [Hx]; · iexact Hx
    iexact Hh
  · iexists h1; isplitr [Hx Hh]
    · ipureintro; exact hb0
    · isplitl [Hx]; · iexact Hx
      iexact Hh
  iintro %a ⟨%h2, %hh, Hx, Hh⟩
  have hh2 : HistIs (F := F) h2 (B1 x) 2048 := by rw [← trips_t3]; exact hh
  sl_exec_parts
  have hSB0 : SB (B1 x) (16 * 2048) 0 = 32768 := by
    rw [SB_B1 x 0 (-128) rfl, List.filter_eq_self.mpr]
    · rw [List.length_range]
    · intro n _; have := (H_bounds24 x n).1; exact decide_eq_true this
  have hSB256 : SB (B1 x) (16 * 2048) 256 = 0 := by
    rw [SB_B1 x 256 128 rfl, List.length_eq_zero_iff, List.filter_eq_nil_iff]
    intro n _ hc; have := (H_bounds24 x n).2; have hc' := of_decide_eq_true hc; have e : Hi (kw x) 24 n = H x 24 n := rfl; omega
  obtain ⟨dd, hdd, e1, e2, h3, h4⟩ := bsAll_spec d L v2 hv2 h2 (B1 x) 2048 (by omega) hh2
    (fun n _ => Or.inl (by have := B1_lt x n; omega)) 256 (by rw [hSB256]; omega) (by rw [hSB0]; omega) (le_refl _)
  have hd0 : trip_row.sl.v1332 h2 = BitVec.ofNat 32 dd - 128#32 := by
    rw [← e1]
    sl_kernel_rfl
  have hd0i : (trip_row.sl.v1332 h2).toInt = (dd : ℤ) - 128 := by rw [hd0]; exact sub128 dd hdd
  have hsel : sel1 d L x (trip_row.sl.v1332 h2) 0 = [] := rfl
  have hsel0 : (∀ k : Fin 16, (k0_pay307 (ix k)) = BitVec.ofNat 32 (sel1 d L x (trip_row.sl.v1332 h2) 0).length)
          ∧ Pre (N := 32768) ck ((sel1 d L x (trip_row.sl.v1332 h2) 0).map (kw (F := F) x)) ∧ Pre (N := 32768) ci ((sel1 d L x (trip_row.sl.v1332 h2) 0).map (BitVec.ofNat 32)) := by
    rw [hsel]
    exact ⟨fun k => rfl, fun j hj => absurd hj (Nat.not_lt_zero _), fun j hj => absurd hj (Nat.not_lt_zero _)⟩
  sl_for (fun i off => iprop(∃ ck' ci', ⌜(∀ k, off (ix k) = BitVec.ofNat 32 (sel1 d L x (trip_row.sl.v1332 h2) i).length)
          ∧ Pre (N := 32768) ck' ((sel1 d L x (trip_row.sl.v1332 h2) i).map (kw (F := F) x)) ∧ Pre (N := 32768) ci' ((sel1 d L x (trip_row.sl.v1332 h2) i).map (BitVec.ofNat 32))⌝
        ∗ pt d L bRow x ∗ pt d L bCk ck' ∗ pt d L bCi ci')) $$ [Hx Hck Hci]
  case region =>
    intro t4 off
    iintro ⟨%ck', %ci', %hp, Hx, Hck, Hci⟩
    iapply (trip_p1 d L x (trip_row.sl.v1332 h2) rfl off t4 hp.1 ck' ci' _ v2 _ _ _ k0_t1 _ _ _ _ _ _ hv2 hp.2.1 hp.2.2) $$ [Hx Hck Hci]
    isplitl [Hx]; · iexact Hx
    isplitl [Hck]; · iexact Hck
    iexact Hci
  · iexists ck; iexists ci; isplitr [Hx Hck Hci]
    · ipureintro; exact hsel0
    · isplitl [Hx]; · iexact Hx
      isplitl [Hck]; · iexact Hck
      iexact Hci
  iintro %off ⟨%ck1, %ci1, %hp, Hx, Hck, Hci⟩
  have hC0 : sel1 d L x (trip_row.sl.v1332 h2) 2048 = (List.range 32768).filter fun n => decide ((dd : ℤ) - 128 ≤ Hi (kw x) 24 n) := by
    unfold sel1
    rw [hd0i, show 16 * 2048 = 32768 by decide, List.take_of_length_le (by rw [List.length_range])]
    rfl
  have hp2 : (∀ k, off (ix k) = BitVec.ofNat 32 (sel1 d L x (trip_row.sl.v1332 h2) 2048).length)
      ∧ Pre (N := 32768) ck1 ((sel1 d L x (trip_row.sl.v1332 h2) 2048).map (kw (F := F) x)) ∧ Pre (N := 32768) ci1 ((sel1 d L x (trip_row.sl.v1332 h2) 2048).map (BitVec.ofNat 32)) := by
    rw [← trips_t4]; exact hp
  rw [hC0] at hp2
  rw [SB_B1 x (dd + 1) ((dd : ℤ) + 1 - 128) (by omega)] at h3
  rw [SB_B1 x dd ((dd : ℤ) - 128) rfl] at h4
  have hI0 := RInv.first (kw x) 32768 ((dd : ℤ) - 128) (by
    refine lt_of_eq_of_lt (congrArg List.length (List.filter_congr fun n _ => ?_)) h3
    rw [decide_eq_decide]; constructor <;> intro h <;> omega) h4
  sl_exec_parts
  have hst0 : RoundSt d L x 24 (trip_row.sl.v1337 off, 256#32, trip_row.sl.v1332 h2, k0_pay316) ck1 ci1 wk wi := by
    refine ⟨_, [], 256, by rw [hd0i]; exact hI0, ?_, rfl, fun k => rfl, hp2.2.1, hp2.2.2, fun j hj => absurd hj (Nat.not_lt_zero _), fun j hj => absurd hj (Nat.not_lt_zero _), fun h => absurd rfl h⟩
    refine Eq.trans ?_ (hp2.1 0)
    exact first_lane off slices_S16_o0_S1 inpos_S1_p0
  sl_for (fun i st => iprop(∃ h' ck' ci' wk' wi', ⌜RoundSt d L x (24 - 8 * i) st ck' ci' wk' wi'⌝
        ∗ pt d L bH h' ∗ pt d L bCk ck' ∗ pt d L bCi ci' ∗ pt d L bWk wk' ∗ pt d L bWi wi')) $$ [Hh Hck Hci Hwk Hwi]
  case region =>
    intro t5 st
    iintro ⟨%h', %ck', %ci', %wk', %wi', %hst, Hh, Hck, Hci, Hwk, Hwi⟩
    iapply (trip_round d L x ck' ci' wk' wi' h' _ v2 _ _ _ k0_t1 _ _ _ _ _ _ _ _ _ _ hv2 hv3 hv4 hv6 t5 st hst) $$ [Hh Hck Hci Hwk Hwi]
    isplitl [Hh]; · iexact Hh
    isplitl [Hck]; · iexact Hck
    isplitl [Hci]; · iexact Hci
    isplitl [Hwk]; · iexact Hwk
    iexact Hwi
  · iexists h2; iexists ck1; iexists ci1; iexists wk; iexists wi; isplitr [Hh Hck Hci Hwk Hwi]
    · ipureintro; exact hst0
    · isplitl [Hh]; · iexact Hh
      isplitl [Hck]; · iexact Hck
      isplitl [Hci]; · iexact Hci
      isplitl [Hwk]; · iexact Hwk
      iexact Hwi
  iintro %st ⟨%h3', %ck2, %ci2, %wk2, %wi2, %hst, Hh, Hck, Hci, Hwk, Hwi⟩
  have hst3 : RoundSt d L x 0 st ck2 ci2 wk2 wi2 := by
    have := hst; rw [show 24 - 8 * k0_t5_loop.trips = 0 by rw [trips_t5]] at this; exact this
  obtain ⟨n, kneed, ph, woff⟩ := st
  obtain ⟨C, Wl, q, hI, hn, hq, hwoff, hck, hci, hwk, hwi, hCp⟩ := hst3
  dsimp only at hI hn hq hwoff hCp
  subst hn; subst hq
  have hC := hI.len
  have hqC := hI.qle
  have hsum := hI.sum
  sl_exec_parts (disch := exact chk10_of _ (by omega))
  have htk0 : Wl ++ (C.take q).take (16 * 0) = Wl := by rw [Nat.mul_zero, List.take_zero, List.append_nil]
  have hwk0 : Pre (N := 256) wk2 ((Wl ++ (C.take q).take (16 * 0)).map (kw x)) := by rw [htk0]; exact hwk
  have hwi0 : Pre (N := 256) wi2 ((Wl ++ (C.take q).take (16 * 0)).map (BitVec.ofNat 32)) := by rw [htk0]; exact hwi
  sl_for (fun i _ => iprop(∃ wk' wi', ⌜Pre (N := 256) wk' ((Wl ++ (C.take q).take (16 * i)).map (kw x)) ∧ Pre (N := 256) wi' ((Wl ++ (C.take q).take (16 * i)).map (BitVec.ofNat 32))⌝
        ∗ pt d L bCk ck2 ∗ pt d L bCi ci2 ∗ pt d L bWk wk' ∗ pt d L bWi wi')) $$ [Hck Hci Hwk Hwi]
  case region =>
    intro t11 _
    iintro ⟨%wk', %wi', %hw, Hck, Hci, Hwk, Hwi⟩
    iapply (trip_tail d L C Wl q hqC hC (by omega) v2 woff hv2 hwoff t11 (kw x) ck2 ci2 wk' wi' _ _ _ _ _ _ hck hci hw.1 hw.2) $$ [Hck Hci Hwk Hwi]
    isplitl [Hck]; · iexact Hck
    isplitl [Hci]; · iexact Hci
    isplitl [Hwk]; · iexact Hwk
    iexact Hwi
  · iexists wk2; iexists wi2; isplitr [Hck Hci Hwk Hwi]
    · ipureintro; exact ⟨hwk0, hwi0⟩
    · isplitl [Hck]; · iexact Hck
      isplitl [Hci]; · iexact Hci
      isplitl [Hwk]; · iexact Hwk
      iexact Hwi
  iintro %u ⟨%wk3, %wi3, %hw, Hck, Hci, Hwk, Hwi⟩
  have hw3 : Pre (N := 256) wk3 ((Wl ++ C.take q).map (kw x)) ∧ Pre (N := 256) wi3 ((Wl ++ C.take q).map (BitVec.ofNat 32)) := by
    have h11 := t11_trips q (by omega)
    have hlen : (C.take q).length ≤ 16 * ((q + 15) / 16) := by rw [List.length_take]; omega
    have hw' : Pre (N := 256) wk3 ((Wl ++ (C.take q).take (16 * (k0_t11_loop (BitVec.ofNat 32 q)).trips)).map (kw x))
        ∧ Pre (N := 256) wi3 ((Wl ++ (C.take q).take (16 * (k0_t11_loop (BitVec.ofNat 32 q)).trips)).map (BitVec.ofNat 32)) := hw
    rw [h11, List.take_of_length_le hlen] at hw'
    exact hw'
  sl_exec_parts
  sl_for0 (t12_trips q (by omega))
  sl_exec_parts

  clear hst hst0 hw hwk0 hwi0 htk0 hI0 hp2 hp hC0 hd0 hd0i hsel hsel0 h3 h4 e1 e2 hSB0 hSB256 hb0 hz0 hz18 hh hh2 hz hck hci hwk hwi hwoff
  have hgv : ∃ M : View sig .scVector .vmem S256 .f32, ∃ f, trip_row.sl.dma96 d L ov v2 wk3 wi3
      = M.read (Elt F) (M.writes (Elt F) f (stores (F := F) (fun r => outV (F := F) ((net v2 (st0 (F := F) d L wk3 wi3)).get r).k) [15, 14, 13, 12, 11, 10, 9, 8, 7, 6, 5, 4, 3, 2, 1, 0])) := by
    refine ⟨(bOv).view, ov, ?_⟩
    sl_kernel_rfl
  have hgi : ∃ M : View sig .scVector .vmem S256 .i32, ∃ f, trip_row.sl.dma96_1 d L oi v2 wk3 wi3
      = M.read (Elt F) (M.writes (Elt F) f (stores (F := F) (e := .i32) (fun r => ((net v2 (st0 (F := F) d L wk3 wi3)).get r).i) [15, 14, 13, 12, 11, 10, 9, 8, 7, 6, 5, 4, 3, 2, 1, 0])) := by
    refine ⟨(bOi).view, oi, ?_⟩
    sl_kernel_rfl
  have hres : RowRes (F := F) x (trip_row.sl.dma96 d L ov v2 wk3 wi3) (trip_row.sl.dma96_1 d L oi v2 wk3 wi3) := RowRes.of_pre d L hv2 hI (hCp (by decide)) wk3 wi3 hw3.1 hw3.2 hgv hgi
  have hxw : View.write (Elt F) (bRow).view x (trip_row.sl.dma0 d L k0_t1 fx) Finset.univ = (xNext L k0_t1).view.read (Elt F) fx :=
    View.write_whole_univ cc0_scratch0 x _
  rw [wp_ret]; imodintro
  iexists h3'; iexists ck2; iexists ci2; iexists wk3; iexists wi3; iexists _; iexists _
  iexists (trip_row.sl.dma96 d L ov v2 wk3 wi3); iexists (trip_row.sl.dma96_1 d L oi v2 wk3 wi3); iexists _
  isplitr [Hx Hh Hck Hci Hwk Hwi Hov Hoi Hxn Hvo Hio Hs0 Hs1 Hs2 HO]
  · ipureintro; exact hres
  · isplitl [Hx]
    · have hxe : (View.loc (thr d L) (bRow).view ↦{fullShare} View.write (Elt F) (bRow).view x (trip_row.sl.dma0 d L k0_t1 fx) Finset.univ : sProp 𝕄) ⊢ pt d L bRow ((xNext L k0_t1).view.read (Elt F) fx) := Entails.of_eq (congrArg (fun z => pt d L bRow z) hxw)
      iapply hxe $$ Hx
    isplitl [Hh]; · iexact Hh
    isplitl [Hck]; · iexact Hck
    isplitl [Hci]; · iexact Hci
    isplitl [Hwk]; · iexact Hwk
    isplitl [Hwi]; · iexact Hwi
    isplitl [Hov]; · iexact Hov
    isplitl [Hoi]; · iexact Hoi
    isplitl [Hxn]; · iexact Hxn
    isplitl [Hvo]; · iexact Hvo
    isplitl [Hio]; · iexact Hio
    isplitl [Hs0]; · iexact Hs0
    isplitl [Hs1]; · iexact Hs1
    isplitl [Hs2]; · iexact Hs2
    iexact HO

end Cert.Proof.TopRow

end
-- ==== Proof.Tile.lean ====
module

public import proofs.«01_k».proof.Proof.Base
public import proofs.«01_k».proof.Proof.Rows
public import proofs.«01_k».proof.Proof.Row

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # The task of one vector subcore

The subcore holds its four rows of the logits and of the two results. It fetches its first row, and then works on its rows in turn, fetching
the next one meanwhile. -/

/-- Which of the 32 subcores has grid coordinates `L`. -/
abbrev wid (L : grid0.Coords) : ℕ := 2 * (L 1).val + (L 0).val

/-- The four rows of subcore `w`, of the logits and of the two results. -/
abbrev xT (d : Dev nD) (w : ℕ) (f : Buf (Elt F) (xLoc d)) : sProp 𝕄 := xLoc d ↦[tileSet rX w]{fullShare} f
abbrev vT (d : Dev nD) (w : ℕ) (f : Buf (Elt F) (vLoc d)) : sProp 𝕄 := vLoc d ↦[tileSet rO w]{fullShare} f
abbrev iT (d : Dev nD) (w : ℕ) (f : Buf (Elt F) (iLoc d)) : sProp 𝕄 := iLoc d ↦[tileSet rO w]{fullShare} f

/-- Rows `n` to `n'` of the results are those the kernel makes of the logits. -/
def RowsDone (X : Vec F S128x32768 .f32) (fv : Vec F S128x256 .f32) (fi : Vec F S128x256 .i32) (n n' : ℕ) : Prop :=
  ∀ r, n ≤ r → r < n' → RowRes (F := F) (xAt X r) (oAt fv r) (oAt fi r)

variable (d : Dev nD) (L : grid0.Coords)

theorem L0_lt : (L 0).val < 2 := (L 0).isLt
theorem L1_lt : (L 1).val < 16 := (L 1).isLt

theorem pts_eq {sp : Space} {S : Shape} {e : EltTy} (M : Memref sig .scVector sp S e) {I : Finset (Idx (M.view.loc (thr d L)))} (h : M.view.set = I) (f : Bf (F := F) d L M) :
    (pts d L M f : sProp 𝕄) = M.view.loc (thr d L) ↦[I]{fullShare} f := by subst h; rfl

/-- A row of the logits taken from the subcore's four, and put back. -/
theorem take_x (off : Fin 2 → ℕ) (n : ℕ) (h : off = ![n, 0]) (inb) (hw : n / 4 = wid L) (f : Buf (Elt F) (xLoc d)) :
    (xT d (wid L) f : sProp 𝕄) ⊣⊢ iprop(pts d L (xRow off inb) f ∗ xLoc d ↦[tileSet rX (wid L) \ rowSet rX n]{fullShare} f) := by
  rw [pts_eq d L (xRow off inb) (set_xRow off n h inb)]
  exact pointsTo_split_subset (rowSet_subset rX hw)
theorem take_v (off : Fin 2 → ℕ) (n : ℕ) (h : off = ![n, 0]) (inb) (hw : n / 4 = wid L) (f : Buf (Elt F) (vLoc d)) :
    (vT d (wid L) f : sProp 𝕄) ⊣⊢ iprop(pts d L (vRow off inb) f ∗ vLoc d ↦[tileSet rO (wid L) \ rowSet rO n]{fullShare} f) := by
  rw [pts_eq d L (vRow off inb) (set_vRow off n h inb)]
  exact pointsTo_split_subset (rowSet_subset rO hw)
theorem take_i (off : Fin 2 → ℕ) (n : ℕ) (h : off = ![n, 0]) (inb) (hw : n / 4 = wid L) (f : Buf (Elt F) (iLoc d)) :
    (iT d (wid L) f : sProp 𝕄) ⊣⊢ iprop(pts d L (iRow off inb) f ∗ iLoc d ↦[tileSet rO (wid L) \ rowSet rO n]{fullShare} f) := by
  rw [pts_eq d L (iRow off inb) (set_iRow off n h inb)]
  exact pointsTo_split_subset (rowSet_subset rO hw)
theorem give_v (off : Fin 2 → ℕ) (n : ℕ) (h : off = ![n, 0]) (inb) (hw : n / 4 = wid L) (g f : Buf (Elt F) (vLoc d)) :
    iprop(pts d L (vRow off inb) g ∗ vLoc d ↦[tileSet rO (wid L) \ rowSet rO n]{fullShare} f) ⊢ (vT d (wid L) ((rowSet rO n).piecewise g f) : sProp 𝕄) := by
  rw [pts_eq d L (vRow off inb) (set_vRow off n h inb)]
  exact pointsTo_join_subset (rowSet_subset rO hw)
theorem give_i (off : Fin 2 → ℕ) (n : ℕ) (h : off = ![n, 0]) (inb) (hw : n / 4 = wid L) (g f : Buf (Elt F) (iLoc d)) :
    iprop(pts d L (iRow off inb) g ∗ iLoc d ↦[tileSet rO (wid L) \ rowSet rO n]{fullShare} f) ⊢ (iT d (wid L) ((rowSet rO n).piecewise g f) : sProp 𝕄) := by
  rw [pts_eq d L (iRow off inb) (set_iRow off n h inb)]
  exact pointsTo_join_subset (rowSet_subset rO hw)

/-- What the subcore holds before its row `k`: the row is in the row buffer, and the rows before it are done. -/
def TileInv (X : Buf (Elt F) (xLoc d)) (O : CellTallies nD τ sig (HIx 1)) (k : ℕ) : sProp 𝕄 :=
  iprop(∃ h ck ci wk wi ov oi fv fi W, ⌜RowsDone (F := F) X fv fi (4 * wid L) (4 * wid L + k)⌝
    ∗ pt d L bRow (xAt (F := F) (e := .f32) X (4 * wid L + min k 3)) ∗ pt d L bH h ∗ pt d L bCk ck ∗ pt d L bCi ci ∗ pt d L bWk wk ∗ pt d L bWi wi ∗ pt d L bOv ov ∗ pt d L bOi oi
    ∗ xT d (wid L) X ∗ vT d (wid L) fv ∗ iT d (wid L) fi
    ∗ semVal (cell d L cc0_scratch8) 0 ∗ semVal (cell d L cc0_scoped1) 0 ∗ semVal (cell d L cc0_scoped2) 0 ∗ owes (thr d L) O W)

theorem iota_ix (k : Fin 16) : (iota .scVector S16 32 [0] iota_S16_d0_w32_scVector : IVec S16 32) (ix k) = BitVec.ofNat 32 k := by
  revert k; decide
theorem pay3_ix (k : Fin 16) : (k0_pay3 (ix k)).toNat = k * 273 := by revert k; decide
theorem pay4_ix (k : Fin 16) : (k0_pay4 (ix k)).toNat = k * 273 + 128 := by revert k; decide

theorem trips_t1 : k0_t1_loop.trips = 4 := by decide

/-- One row: from what the subcore holds before row `k` to what it holds before the next. -/
theorem trip_tile (X : Buf (Elt F) (xLoc d)) (O : CellTallies nD τ sig (HIx 1)) (k0_t1 : Fin k0_t1_loop.trips) (v1 arg15 : BitVec 32) (v2 : IVec S16 32)
    (hv2 : ∀ k : Fin 16, v2 (ix k) = BitVec.ofNat 32 k) :
    iprop(Transfers.MayWaits (thr d L) (default : HIx 1) O ∗ TileInv d L X O k0_t1)
      ⊢ wp frame (wpE (defs₀ (F := F)) 𝒱₀ (thr d L) none) Set.univ
      (k0_t1_body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2
         v1 v2 k0_t1 arg15)
      (fun _ => TileInv d L X O (k0_t1.val + 1)) := by
  have hk : k0_t1.val < 4 := lt_of_lt_of_eq k0_t1.isLt trips_t1
  have h0 := L0_lt L
  have h1 := L1_lt L
  have e5 : k0_off5 L k0_t1 = ![4 * wid L + min (k0_t1.val + 1) 3, 0] := by rw [k0_off5_eq]; congr 1; unfold wid; omega
  have e13 : k0_off13 L k0_t1 = ![4 * wid L + k0_t1, 0] := by rw [k0_off13_eq]; congr 1; unfold wid; omega
  have w5 : (4 * wid L + min (k0_t1.val + 1) 3) / 4 = wid L := by omega
  have w13 : (4 * wid L + k0_t1) / 4 = wid L := by omega
  have n5 : 4 * wid L + min (k0_t1.val + 1) 3 < 128 := by unfold wid; omega
  have n13 : 4 * wid L + k0_t1 < 128 := by unfold wid; omega
  unfold TileInv
  iintro ⟨#Hmw, ⟨%h, %ck, %ci, %wk, %wi, %ov, %oi, %fv, %fi, %W, %hdone, Hx, Hh, Hck, Hci, Hwk, Hwi, Hov, Hoi, HX, HV, HI, Hs0, Hs1, Hs2, HO⟩⟩
  ihave HX' := (take_x d L (k0_off5 L k0_t1) _ e5 (k0_off5_inb L k0_t1) w5 X).1 $$ HX
  icases HX' with ⟨HXr, HXo⟩
  ihave HV' := (take_v d L (k0_off13 L k0_t1) _ e13 (k0_off13_inb L k0_t1) w13 fv).1 $$ HV
  icases HV' with ⟨HVr, HVo⟩
  ihave HI' := (take_i d L (k0_off13 L k0_t1) _ e13 (k0_off13_inb L k0_t1) w13 fi).1 $$ HI
  icases HI' with ⟨HIr, HIo⟩
  iapply (wp_wand_r Idealize.ShloMosaic.frame (wpE (defs₀ (F := F)) 𝒱₀ (thr d L) none) Set.univ)
  isplitl [Hx Hh Hck Hci Hwk Hwi Hov Hoi HXr HVr HIr Hs0 Hs1 Hs2 HO]
  · iapply (trip_row d L k0_t1 O W _ X h ck ci wk wi ov oi fv fi v1 arg15 v2 hv2 (fun _ => rfl) (fun _ => rfl) pay3_ix pay4_ix)
    isplitr; · iexact Hmw
    isplitl [Hx]; · iexact Hx
    isplitl [Hh]; · iexact Hh
    isplitl [Hck]; · iexact Hck
    isplitl [Hci]; · iexact Hci
    isplitl [Hwk]; · iexact Hwk
    isplitl [Hwi]; · iexact Hwi
    isplitl [Hov]; · iexact Hov
    isplitl [Hoi]; · iexact Hoi
    isplitl [HXr]; · iexact HXr
    isplitl [HVr]; · iexact HVr
    isplitl [HIr]; · iexact HIr
    isplitl [Hs0]; · iexact Hs0
    isplitl [Hs1]; · iexact Hs1
    isplitl [Hs2]; · iexact Hs2
    iexact HO
  iintro %_ ⟨%h', %ck', %ci', %wk', %wi', %ov', %oi', %gv, %gi, %W', %hres, Hx, Hh, Hck, Hci, Hwk, Hwi, Hov, Hoi, HXr, HVr, HIr, Hs0, Hs1, Hs2, HO⟩
  have hx' : (xNext L k0_t1).view.read (Elt F) X = xAt (F := F) (e := .f32) X (4 * wid L + min (k0_t1.val + 1) 3) := read_xRow _ _ e5 n5 _ _
  rw [min_eq_left (by omega : k0_t1.val ≤ 3)] at hres
  ihave HX := (take_x d L (k0_off5 L k0_t1) _ e5 (k0_off5_inb L k0_t1) w5 X).2 $$ [HXr HXo]
  · isplitl [HXr]; · iexact HXr
    iexact HXo
  ihave HV := (give_v d L (k0_off13 L k0_t1) _ e13 (k0_off13_inb L k0_t1) w13 ((vOut L k0_t1).view.writes (Elt F) fv [⟨Rect.whole S256, gv⟩]) fv) $$ [HVr HVo]
  · isplitl [HVr]; · iexact HVr
    iexact HVo
  ihave HI := (give_i d L (k0_off13 L k0_t1) _ e13 (k0_off13_inb L k0_t1) w13 ((iOut L k0_t1).view.writes (Elt F) fi [⟨Rect.whole S256, gi⟩]) fi) $$ [HIr HIo]
  · isplitl [HIr]; · iexact HIr
    iexact HIo
  have hd : RowsDone (F := F) X ((rowSet rO (4 * wid L + k0_t1)).piecewise ((vOut L k0_t1).view.writes (Elt F) fv [⟨Rect.whole S256, gv⟩]) fv)
      ((rowSet rO (4 * wid L + k0_t1)).piecewise ((iOut L k0_t1).view.writes (Elt F) fi [⟨Rect.whole S256, gi⟩]) fi) (4 * wid L) (4 * wid L + (k0_t1.val + 1)) := by
    intro r hr hr'
    have hrl : r < 128 := by omega
    rw [oAt_piecewise _ _ _ _ hrl, oAt_piecewise _ _ _ _ hrl]
    by_cases hc : r = 4 * wid L + k0_t1
    · rw [if_pos hc, if_pos hc, hc, write_vRow _ _ e13 n13, write_iRow _ _ e13 n13]
      exact hres
    · rw [if_neg hc, if_neg hc]
      exact hdone r hr (by omega)
  iexists h'; iexists ck'; iexists ci'; iexists wk'; iexists wi'; iexists ov'; iexists oi'
  iexists ((rowSet rO (4 * wid L + k0_t1)).piecewise ((vOut L k0_t1).view.writes (Elt F) fv [⟨Rect.whole S256, gv⟩]) fv)
  iexists ((rowSet rO (4 * wid L + k0_t1)).piecewise ((iOut L k0_t1).view.writes (Elt F) fi [⟨Rect.whole S256, gi⟩]) fi)
  iexists W'
  isplitr; · ipureintro; exact hd
  isplitl [Hx]; · iapply (Entails.of_eq (congrArg (fun z => pt (F := F) d L bRow z) hx')); iexact Hx
  isplitl [Hh]; · iexact Hh
  isplitl [Hck]; · iexact Hck
  isplitl [Hci]; · iexact Hci
  isplitl [Hwk]; · iexact Hwk
  isplitl [Hwi]; · iexact Hwi
  isplitl [Hov]; · iexact Hov
  isplitl [Hoi]; · iexact Hoi
  isplitl [HX]; · iexact HX
  isplitl [HV]; · iexact HV
  isplitl [HI]; · iexact HI
  isplitl [Hs0]; · iexact Hs0
  isplitl [Hs1]; · iexact Hs1
  isplitl [Hs2]; · iexact Hs2
  iexact HO

end Cert.Proof.TopRow

end
-- ==== Proof.Body.lean ====
module

public import proofs.«01_k».proof.Proof.Base
public import proofs.«01_k».proof.Proof.Tile

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # The body of the kernel on one vector subcore -/

section
variable (d : Dev nD) (L : grid0.Coords)

theorem fetch_eq (x : Bf (F := F) d L bRow) (y : Vec F S32768 .f32) : View.write (Elt F) (bRow).view x y Finset.univ = y := View.write_whole_univ cc0_scratch0 x _

/-- The whole task, from the subcore's rows and its scratch buffers: its rows of the results are done. -/
theorem tile_run (X : Buf (Elt F) (xLoc d)) (fv : Buf (Elt F) (vLoc d)) (fi : Buf (Elt F) (iLoc d)) (O : CellTallies nD τ sig (HIx 1)) (W : Waits sig (HIx 1))
    (x : Bf (F := F) d L bRow) (h : Bf (F := F) d L bH) (ck : Bf (F := F) d L bCk) (ci : Bf (F := F) d L bCi)
    (wk : Bf (F := F) d L bWk) (wi : Bf (F := F) d L bWi) (ov : Bf (F := F) d L bOv) (oi : Bf (F := F) d L bOi) :
    iprop(Transfers.MayWaits (thr d L) (default : HIx 1) O ∗ pt d L bRow x ∗ pt d L bH h ∗ pt d L bCk ck ∗ pt d L bCi ci ∗ pt d L bWk wk ∗ pt d L bWi wi ∗ pt d L bOv ov ∗ pt d L bOi oi
      ∗ xT d (wid L) X ∗ vT d (wid L) fv ∗ iT d (wid L) fi
      ∗ semVal (cell d L cc0_scratch8) 0 ∗ semVal (cell d L cc0_scoped0) 0 ∗ semVal (cell d L cc0_scoped1) 0 ∗ semVal (cell d L cc0_scoped2) 0 ∗ owes (thr d L) O W)
      ⊢ wp frame (wpE (defs₀ (F := F)) 𝒱₀ (thr d L) none) Set.univ
      (cc0__body L xV (Memref.isWhole_whole _) vV (Memref.isWhole_whole _) iV (Memref.isWhole_whole _) bRow (Memref.isWhole_whole _)
         bCk (Memref.isWhole_whole _) bCi (Memref.isWhole_whole _) bH (Memref.isWhole_whole _) bWk (Memref.isWhole_whole _)
         bWi (Memref.isWhole_whole _) bOv (Memref.isWhole_whole _) bOi (Memref.isWhole_whole _) cc0_scratch8 cc0_scoped0 cc0_scoped1 cc0_scoped2)
      (fun _ => iprop(TileInv d L X O 4 ∗ semVal (cell d L cc0_scoped0) 0)) := by
  have h0 := L0_lt L
  have h1 := L1_lt L
  have e1 : k0_off1 L = ![4 * wid L, 0] := by rw [k0_off1_eq]; congr 1; unfold wid; omega
  have w1 : (4 * wid L) / 4 = wid L := by omega
  have n1 : 4 * wid L < 128 := by unfold wid; omega
  rw [cc0__body_eq_skeleton]
  unfold cc0__body_skel
  iintro ⟨#Hmw, Hx, Hh, Hck, Hci, Hwk, Hwi, Hov, Hoi, HX, HV, HI, Hs8, Hs0, Hs1, Hs2, HO⟩
  ihave HX' := (take_x d L (k0_off1 L) _ e1 (k0_off1_inb L) w1 X).1 $$ HX
  icases HX' with ⟨HXr, HXo⟩
  sl_exec_parts
  ihave HX := (take_x d L (k0_off1 L) _ e1 (k0_off1_inb L) w1 X).2 $$ [HXr HXo]
  · isplitl [HXr]; · iexact HXr
    iexact HXo
  have hx' : (xRow (k0_off1 L) (k0_off1_inb L)).view.read (Elt F) X = xAt (F := F) (e := .f32) X (4 * wid L + min 0 3) := read_xRow _ _ e1 n1 _ _
  sl_for (fun i _ => iprop(Transfers.MayWaits (thr d L) (default : HIx 1) O ∗ TileInv d L X O i)) $$ [Hx Hh Hck Hci Hwk Hwi Hov Hoi HX HV HI Hs8 Hs1 Hs2 HO]
  case region =>
    intro t st
    iintro ⟨#Hmw, HT⟩
    iapply (wp_wand_r Idealize.ShloMosaic.frame (wpE (defs₀ (F := F)) 𝒱₀ (thr d L) none) Set.univ)
    isplitl [HT]
    · iapply (trip_tile d L X O t _ _ _ iota_ix)
      isplitr; · iexact Hmw
      iexact HT
    iintro %_ HT
    isplitr; · iexact Hmw
    iexact HT
  · isplitr; · iexact Hmw
    unfold TileInv
    iexists h; iexists ck; iexists ci; iexists wk; iexists wi; iexists ov; iexists oi; iexists fv; iexists fi; iexists _
    isplitr; · ipureintro; exact fun r hr hr' => absurd hr' (by omega)
    isplitl [Hx]
    · have hxe : View.write (Elt F) (bRow).view x (tile_run.sl.dma0 d L X) Finset.univ = xAt (F := F) (e := .f32) X (4 * wid L + min 0 3) :=
        (fetch_eq d L x _).trans hx'
      iapply (Entails.of_eq (congrArg (fun z => pt (F := F) d L bRow z) hxe)); iexact Hx
    isplitl [Hh]; · iexact Hh
    isplitl [Hck]; · iexact Hck
    isplitl [Hci]; · iexact Hci
    isplitl [Hwk]; · iexact Hwk
    isplitl [Hwi]; · iexact Hwi
    isplitl [Hov]; · iexact Hov
    isplitl [Hoi]; · iexact Hoi
    isplitl [HX]; · iexact HX
    isplitl [HV]; · iexact HV
    isplitl [HI]; · iexact HI
    isplitl [Hs8]; · iexact Hs8
    isplitl [Hs1]; · iexact Hs1
    isplitl [Hs2]; · iexact Hs2
    iexact HO
  iintro %a ⟨-, HT⟩
  sl_exec_parts
  rw [wp_ret]; imodintro
  isplitl [HT]; · iapply (Entails.of_eq (congrArg (fun n => TileInv d L X O n) trips_t1)); iexact HT
  iexact Hs0

end

/-! ## A vector subcore's own buffers and semaphores -/

section
variable (d : Dev nD) (L : grid0.Coords)

theorem ownSems0_V :
    (ownSems0 (thr d L) : sProp 𝕄)
      = iprop(semVal (cell d L cc0_scratch8) 0 ∗ semVal (cell d L cc0_scoped0) 0 ∗ semVal (cell d L cc0_scoped1) 0 ∗ semVal (cell d L cc0_scoped2) 0
          ∗ bigSep (((((ownCells (thr d L)).erase (cell d L cc0_scratch8)).erase (cell d L cc0_scoped0)).erase (cell d L cc0_scoped1)).erase
              (cell d L cc0_scoped2)) fun g => semVal g 0) := by
  have m8 : cell d L cc0_scratch8 ∈ ownCells (thr d L) := mem_ownCells.mpr ⟨rfl, by show (SemLoc.dma cc0_scratch8.sem : SemLoc sig).isScoped .scVector = true; decide⟩
  have m0 : cell d L cc0_scoped0 ∈ ownCells (thr d L) := mem_ownCells.mpr ⟨rfl, by show (SemLoc.dma cc0_scoped0.sem : SemLoc sig).isScoped .scVector = true; decide⟩
  have m1 : cell d L cc0_scoped1 ∈ ownCells (thr d L) := mem_ownCells.mpr ⟨rfl, by show (SemLoc.dma cc0_scoped1.sem : SemLoc sig).isScoped .scVector = true; decide⟩
  have m2 : cell d L cc0_scoped2 ∈ ownCells (thr d L) := mem_ownCells.mpr ⟨rfl, by show (SemLoc.dma cc0_scoped2.sem : SemLoc sig).isScoped .scVector = true; decide⟩
  have ne : ∀ {s t : DmaSems sig S_}, (SemLoc.dma s.sem : SemLoc sig) ≠ SemLoc.dma t.sem → cell d L s ≠ cell d L t := fun h e => h (congrArg Prod.snd e)
  unfold SparseCore.Cfg.ownSems0
  rw [SparseCore.bigSep_erase' m8,
    SparseCore.bigSep_erase' (Finset.mem_erase.mpr ⟨ne (by decide), m0⟩),
    SparseCore.bigSep_erase' (Finset.mem_erase.mpr ⟨ne (by decide), Finset.mem_erase.mpr ⟨ne (by decide), m1⟩⟩),
    SparseCore.bigSep_erase' (Finset.mem_erase.mpr ⟨ne (by decide), Finset.mem_erase.mpr ⟨ne (by decide), Finset.mem_erase.mpr ⟨ne (by decide), m2⟩⟩⟩)]

/-- The scratch buffers of the kernel. -/
def scratch : Finset (Ref sig .scVector) :=
  {cc0_scratch0, cc0_scratch1, cc0_scratch2, cc0_scratch3, cc0_scratch4, cc0_scratch5, cc0_scratch6, cc0_scratch7}

abbrev devR (L : grid0.Coords) : Ref sig .scVector ↪ DevRef τ sig := ⟨(Proc.scVector (cV L) (jV L)).devRef, Proc.devRef_injective _⟩

/-- The subcore's own buffers are the eight scratch buffers, each at some contents, together with the rest. -/
theorem ownBufs_V :
    (ownBufs (thr d L) : sProp 𝕄)
      = iprop(((∃ f, pt d L bRow f) ∗ (∃ f, pt d L bCk f) ∗ (∃ f, pt d L bCi f) ∗ (∃ f, pt d L bH f) ∗ (∃ f, pt d L bWk f) ∗ (∃ f, pt d L bWi f)
            ∗ (∃ f, pt d L bOv f) ∗ (∃ f, pt d L bOi f))
          ∗ bigSep (ownRefs (τ := τ) (.scVector (cV L) (jV L)) \ scratch.map (devR L)) fun b => iprop(∃ f, ((d, b) : Loc nD τ sig) ↦{fullShare} f)) := by
  unfold SparseCore.Cfg.ownBufs
  have hs : scratch.map (devR L) ⊆ ownRefs (τ := τ) (.scVector (cV L) (jV L)) := by
    intro b hb
    obtain ⟨r, hr, rfl⟩ := Finset.mem_map.mp hb
    refine SparseCore.Cfg.mem_ownRefs_of_owner ?_
    simp only [scratch, Finset.mem_insert, Finset.mem_singleton] at hr
    rcases hr with rfl | rfl | rfl | rfl | rfl | rfl | rfl | rfl <;> rfl
  refine (SparseCore.bigSep_sdiff_split' hs).trans ?_
  congr 1
  rw [bigSep_map]
  unfold scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl
end

end Cert.Proof.TopRow

end
-- ==== Proof.Launch.lean ====
module

public import proofs.«01_k».proof.Proof.Base
public import proofs.«01_k».proof.Proof.Body

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

/-! # The launch of the kernel -/

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

/-- The rows that satisfy `p` are those the kernel makes of the logits. -/
def Done (X : Vec F S128x32768 .f32) (fv : Vec F S128x256 .f32) (fi : Vec F S128x256 .i32) (p : ℕ → Prop) : Prop :=
  ∀ r < 128, p r → RowRes (F := F) (xAt X r) (oAt fv r) (oAt fi r)

theorem oAt_congr {e : EltTy} {f g : Vec F S128x256 e} {r : ℕ} (hr : r < 128) (h : ∀ j, rO j = r → f j = g j) : oAt f r = oAt g r :=
  funext fun y => h _ (rO_oIdx r hr y)

/-- The places `I` of both results, with the rows that satisfy `p` done. -/
abbrev res (d : Dev nD) (X : Buf (Elt F) (xLoc d)) (p : ℕ → Prop) (I : Finset S128x256.Idx) : sProp 𝕄 :=
  iprop(∃ fv fi, ⌜Done (F := F) X fv fi p⌝ ∗ (vLoc d ↦[I]{fullShare} fv) ∗ iLoc d ↦[I]{fullShare} fi)

/-- Disjoint sets of rows, each done, are together done. -/
theorem res_join {T : Type} [DecidableEq T] (d : Dev nD) (X : Buf (Elt F) (xLoc d)) (v0 : Buf (Elt F) (vLoc d)) (i0 : Buf (Elt F) (iLoc d)) (S : Finset T) (p : T → ℕ → Prop) (I : T → Finset S128x256.Idx)
    (hI : ∀ t j, j ∈ I t ↔ p t (rO j)) (hd : ∀ t ∈ S, ∀ t' ∈ S, t ≠ t' → Disjoint (I t) (I t')) :
    bigSep S (fun t => res d X (p t) (I t)) ⊢ (res d X (fun r => ∃ t ∈ S, p t r) (S.biUnion I) : sProp 𝕄) := by
  induction S using Finset.induction_on with
  | empty =>
    iintro -
    iexists v0; iexists i0
    isplitr
    · ipureintro; rintro r _ ⟨t, ht, _⟩; exact absurd ht (Finset.notMem_empty _)
    · rw [Finset.biUnion_empty, pointsTo_empty, pointsTo_empty]
      isplitl []; · iempintro
      iempintro
  | insert t S ht ih =>
    rw [bigSep_insert ht, Finset.biUnion_insert]
    have hdt : Disjoint (I t) (S.biUnion I) :=
      (Finset.disjoint_biUnion_right _ _ _).mpr fun t' ht' =>
        hd t (Finset.mem_insert_self _ _) t' (Finset.mem_insert_of_mem ht') (fun e => ht (e ▸ ht'))
    refine (show iprop(res d X (p t) (I t) ∗ bigSep S (fun t => res d X (p t) (I t))) ⊢ _ from ?_)
    iintro ⟨⟨%fv, %fi, %hf, Hv, Hi⟩, HS⟩
    ihave H := (ih fun t₁ h₁ t₂ h₂ => hd t₁ (Finset.mem_insert_of_mem h₁) t₂ (Finset.mem_insert_of_mem h₂)) $$ HS
    icases H with ⟨%gv, %gi, %hg, HSv, HSi⟩
    have hdone : Done (F := F) X ((S.biUnion I).piecewise gv fv) ((S.biUnion I).piecewise gi fi) (fun r => ∃ t' ∈ insert t S, p t' r) := by
      rintro r hr ⟨t', ht', hp⟩
      by_cases hS : ∃ t' ∈ S, p t' r
      · have hm : ∀ j, rO j = r → j ∈ S.biUnion I := by
          obtain ⟨t₁, h₁, h₂⟩ := hS
          intro j hj
          exact Finset.mem_biUnion.mpr ⟨t₁, h₁, (hI t₁ j).mpr (by rw [hj]; exact h₂)⟩
        rw [oAt_congr (f := (S.biUnion I).piecewise gv fv) (g := gv) hr fun j hj => Finset.piecewise_eq_of_mem _ _ _ (hm j hj),
          oAt_congr (f := (S.biUnion I).piecewise gi fi) (g := gi) hr fun j hj => Finset.piecewise_eq_of_mem _ _ _ (hm j hj)]
        exact hg r hr hS
      · have hpt : p t r := by
          rcases Finset.mem_insert.mp ht' with rfl | h
          · exact hp
          · exact absurd ⟨t', h, hp⟩ hS
        have hm : ∀ j, rO j = r → j ∉ S.biUnion I := by
          intro j hj hjm
          obtain ⟨t₁, h₁, h₂⟩ := Finset.mem_biUnion.mp hjm
          exact hS ⟨t₁, h₁, by rw [← hj]; exact (hI t₁ j).mp h₂⟩
        rw [oAt_congr (f := (S.biUnion I).piecewise gv fv) (g := fv) hr fun j hj => Finset.piecewise_eq_of_notMem _ _ _ (hm j hj),
          oAt_congr (f := (S.biUnion I).piecewise gi fi) (g := fi) hr fun j hj => Finset.piecewise_eq_of_notMem _ _ _ (hm j hj)]
        exact hf r hr hpt
    iexists ((S.biUnion I).piecewise gv fv); iexists ((S.biUnion I).piecewise gi fi)
    isplitr; · ipureintro; exact hdone
    isplitl [Hv HSv]
    · iapply (pointsTo_join hdt)
      isplitl [Hv]; · iexact Hv
      iexact HSv
    · iapply (pointsTo_join hdt)
      isplitl [Hi]; · iexact Hi
      iexact HSi

theorem res_mono (d : Dev nD) (X : Buf (Elt F) (xLoc d)) {p p' : ℕ → Prop} {I I' : Finset S128x256.Idx} (hp : ∀ r < 128, p' r → p r) (hI : I = I') :
    (res d X p I : sProp 𝕄) ⊢ res d X p' I' := by
  subst hI
  iintro ⟨%fv, %fi, %hf, H⟩
  iexists fv; iexists fi
  isplitr; · ipureintro; exact fun r hr h => hf r hr (hp r hr h)
  iexact H

/-- The logits and the two results as they are at the launch, on the places of some rows. -/
abbrev ins (d : Dev nD) (J : Finset S128x32768.Idx) (I : Finset S128x256.Idx) : sProp 𝕄 :=
  iprop((xLoc d ↦[J]{fullShare} m (xLoc d)) ∗ (vLoc d ↦[I]{fullShare} m (vLoc d)) ∗ iLoc d ↦[I]{fullShare} m (iLoc d))
/-- The logits as they are at the launch, and the results done. -/
abbrev outs (d : Dev nD) (J : Finset S128x32768.Idx) (p : ℕ → Prop) (I : Finset S128x256.Idx) : sProp 𝕄 :=
  iprop((xLoc d ↦[J]{fullShare} m (xLoc d)) ∗ res d (m (xLoc d)) p I)

/-- The one call hands each core the rows of its subcores, and each subcore its four rows; they come back with the results done. -/
def P : (K (F := F)).Pay (nD := nD) (Val := Elt F) (Name := ℕ) (U := UU) where
  st := fun q d c => match q with | 0 => ins m d (coreSet rX c.val) (coreSet rO c.val)
  dn := fun q d c => match q with | 0 => outs m d (coreSet rX c.val) (fun r => r / 4 % 2 = c.val) (coreSet rO c.val)
  go := fun q d c i => match q with | 0 => ins m d (tileSet rX (2 * i.val + c.val)) (tileSet rO (2 * i.val + c.val))
  td := fun q d c i => match q with | 0 => outs m d (tileSet rX (2 * i.val + c.val)) (fun r => r / 4 = 2 * i.val + c.val) (tileSet rO (2 * i.val + c.val))
  x := fun _ _ => iprop(emp)

instance P_storable : (P (F := F) m).IsStorable where
  st q d c := match q with
    | 0 => (inferInstance : BI.Storable (upEmb : UEmb _ 𝕄) (ins m d (coreSet rX c.val) (coreSet rO c.val)))
  dn q d c := match q with
    | 0 => (inferInstance : BI.Storable (upEmb : UEmb _ 𝕄) (outs m d (coreSet rX c.val) (fun r => r / 4 % 2 = c.val) (coreSet rO c.val)))
  go q d c i := match q with
    | 0 => (inferInstance : BI.Storable (upEmb : UEmb _ 𝕄) (ins m d (tileSet rX (2 * i.val + c.val)) (tileSet rO (2 * i.val + c.val))))
  td q d c i := match q with
    | 0 => (inferInstance : BI.Storable (upEmb : UEmb _ 𝕄) (outs m d (tileSet rX (2 * i.val + c.val)) (fun r => r / 4 = 2 * i.val + c.val) (tileSet rO (2 * i.val + c.val))))

/-! ## The task -/

theorem tile_body (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ ins m d (tileSet rX (wid L)) (tileSet rO (wid L))
        ∗ scopedBufs (thr d L) ∗ scopedSems0 (thr d L) ∗ owes (thr d L) O W)
      ⊢ wp frame (wpE (defs₀ (F := F)) 𝒱₀ (thr d L) none) Set.univ
          (cc0__body L xV (Memref.isWhole_whole _) vV (Memref.isWhole_whole _) iV (Memref.isWhole_whole _) bRow (Memref.isWhole_whole _)
            bCk (Memref.isWhole_whole _) bCi (Memref.isWhole_whole _) bH (Memref.isWhole_whole _) bWk (Memref.isWhole_whole _)
            bWi (Memref.isWhole_whole _) bOv (Memref.isWhole_whole _) bOi (Memref.isWhole_whole _) cc0_scratch8 cc0_scoped0 cc0_scoped1 cc0_scoped2)
          fun _ => iprop(outs m d (tileSet rX (wid L)) (fun r => r / 4 = wid L) (tileSet rO (wid L))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨HX, HV, HI⟩, ⟨⟨⟨%x, Hx⟩, ⟨%ck, Hck⟩, ⟨%ci, Hci⟩, ⟨%h, Hh⟩, ⟨%wk, Hwk⟩, ⟨%wi, Hwi⟩, ⟨%ov, Hov⟩, ⟨%oi, Hoi⟩⟩, Hbufs⟩, ⟨Hs8, Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r Idealize.ShloMosaic.frame (wpE (defs₀ (F := F)) 𝒱₀ (thr d L) none) Set.univ)
  isplitl [Hmw HX HV HI Hx Hck Hci Hh Hwk Hwi Hov Hoi Hs8 Hs0 Hs1 Hs2 HO]
  · iapply (tile_run d L (m (xLoc d)) (m (vLoc d)) (m (iLoc d)) O W x h ck ci wk wi ov oi)
    isplitl [Hmw]; · iexact Hmw
    isplitl [Hx]; · iexact Hx
    isplitl [Hh]; · iexact Hh
    isplitl [Hck]; · iexact Hck
    isplitl [Hci]; · iexact Hci
    isplitl [Hwk]; · iexact Hwk
    isplitl [Hwi]; · iexact Hwi
    isplitl [Hov]; · iexact Hov
    isplitl [Hoi]; · iexact Hoi
    isplitl [HX]; · iexact HX
    isplitl [HV]; · iexact HV
    isplitl [HI]; · iexact HI
    isplitl [Hs8]; · iexact Hs8
    isplitl [Hs0]; · iexact Hs0
    isplitl [Hs1]; · iexact Hs1
    isplitl [Hs2]; · iexact Hs2
    iexact HO
  unfold TileInv
  iintro %_ ⟨⟨%h', %ck', %ci', %wk', %wi', %ov', %oi', %fv, %fi, %W', %hdone, Hx, Hh, Hck, Hci, Hwk, Hwi, Hov, Hoi, HX, HV, HI, Hs8, Hs1, Hs2, HO⟩, Hs0⟩
  isplitl [HX HV HI]
  · isplitl [HX]; · iexact HX
    iexists fv; iexists fi
    isplitr; · ipureintro; exact fun r _ hr => hdone r (by omega) (by omega)
    isplitl [HV]; · iexact HV
    iexact HI
  isplitl [Hx Hck Hci Hh Hwk Hwi Hov Hoi Hbufs]
  · isplitl [Hx Hck Hci Hh Hwk Hwi Hov Hoi]
    · isplitl [Hx]; · iexists _; iexact Hx
      isplitl [Hck]; · iexists _; iexact Hck
      isplitl [Hci]; · iexists _; iexact Hci
      isplitl [Hh]; · iexists _; iexact Hh
      isplitl [Hwk]; · iexists _; iexact Hwk
      isplitl [Hwi]; · iexists _; iexact Hwi
      isplitl [Hov]; · iexists _; iexact Hov
      iexists _; iexact Hoi
    iexact Hbufs
  isplitl [Hs8 Hs0 Hs1 Hs2 Hsems]
  · isplitl [Hs8]; · iexact Hs8
    isplitl [Hs0]; · iexact Hs0
    isplitl [Hs1]; · iexact Hs1
    isplitl [Hs2]; · iexact Hs2
    iexact Hsems
  iexists _; isplitr
  swap; · iexact HO
  ipureintro; intro p _
  rcases p.2 with _ | q
  · exact .inr (.inl rfl)
  · exact .inr (.inr (congrArg some (Subsingleton.elim q 0)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xV (Memref.isWhole_whole _) vV (Memref.isWhole_whole _) iV (Memref.isWhole_whole _) bRow (Memref.isWhole_whole _)
            bCk (Memref.isWhole_whole _) bCi (Memref.isWhole_whole _) bH (Memref.isWhole_whole _) bWk (Memref.isWhole_whole _)
            bWi (Memref.isWhole_whole _) bOv (Memref.isWhole_whole _) bOi (Memref.isWhole_whole _) cc0_scratch8 cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-! ## The rows split over the subcores and the cores, and join -/

theorem pts_tiles_x (d : Dev nD) (c : ℕ) (hc : c < 2) (f : Buf (Elt F) (xLoc d)) :
    (xLoc d ↦[coreSet rX c]{fullShare} f : sProp 𝕄) = bigSep Finset.univ fun i : Fin 16 => xLoc d ↦[tileSet rX (2 * i.val + c)]{fullShare} f := by
  rw [← tiles_cover rX rX_lt c hc]
  exact pointsTo_biUnion Finset.univ (ℓ := xLoc d) (fun i : Fin 16 => tileSet rX (2 * i.val + c)) (tiles_disjoint rX c)
theorem pts_tiles_v (d : Dev nD) (c : ℕ) (hc : c < 2) (f : Buf (Elt F) (vLoc d)) :
    (vLoc d ↦[coreSet rO c]{fullShare} f : sProp 𝕄) = bigSep Finset.univ fun i : Fin 16 => vLoc d ↦[tileSet rO (2 * i.val + c)]{fullShare} f := by
  rw [← tiles_cover rO rO_lt c hc]
  exact pointsTo_biUnion Finset.univ (ℓ := vLoc d) (fun i : Fin 16 => tileSet rO (2 * i.val + c)) (tiles_disjoint rO c)
theorem pts_tiles_i (d : Dev nD) (c : ℕ) (hc : c < 2) (f : Buf (Elt F) (iLoc d)) :
    (iLoc d ↦[coreSet rO c]{fullShare} f : sProp 𝕄) = bigSep Finset.univ fun i : Fin 16 => iLoc d ↦[tileSet rO (2 * i.val + c)]{fullShare} f := by
  rw [← tiles_cover rO rO_lt c hc]
  exact pointsTo_biUnion Finset.univ (ℓ := iLoc d) (fun i : Fin 16 => tileSet rO (2 * i.val + c)) (tiles_disjoint rO c)
theorem pts_cores_x (d : Dev nD) (f : Buf (Elt F) (xLoc d)) :
    (xLoc d ↦{fullShare} f : sProp 𝕄) = bigSep Finset.univ fun c : Fin 2 => xLoc d ↦[coreSet rX c.val]{fullShare} f := by
  refine Eq.trans ?_ (pointsTo_biUnion Finset.univ (ℓ := xLoc d) (fun c : Fin 2 => coreSet rX c.val) (cores_disjoint rX))
  rw [cores_cover rX]
theorem pts_cores_v (d : Dev nD) (f : Buf (Elt F) (vLoc d)) :
    (vLoc d ↦{fullShare} f : sProp 𝕄) = bigSep Finset.univ fun c : Fin 2 => vLoc d ↦[coreSet rO c.val]{fullShare} f := by
  refine Eq.trans ?_ (pointsTo_biUnion Finset.univ (ℓ := vLoc d) (fun c : Fin 2 => coreSet rO c.val) (cores_disjoint rO))
  rw [cores_cover rO]
theorem pts_cores_i (d : Dev nD) (f : Buf (Elt F) (iLoc d)) :
    (iLoc d ↦{fullShare} f : sProp 𝕄) = bigSep Finset.univ fun c : Fin 2 => iLoc d ↦[coreSet rO c.val]{fullShare} f := by
  refine Eq.trans ?_ (pointsTo_biUnion Finset.univ (ℓ := iLoc d) (fun c : Fin 2 => coreSet rO c.val) (cores_disjoint rO))
  rw [cores_cover rO]

theorem vecSplit : (K (F := F)).VecSplit' (P m) 0 := by
  intro d c
  have hc : c.val < 2 := c.isLt
  show ins m d (coreSet rX c.val) (coreSet rO c.val) ⊢ |={Set.univ}=> iprop(
      (bigSep Finset.univ fun i : Fin 16 => ins m d (tileSet rX (2 * i.val + c.val)) (tileSet rO (2 * i.val + c.val)))
      ∗ ((bigSep Finset.univ fun i : Fin 16 => outs m d (tileSet rX (2 * i.val + c.val)) (fun r => r / 4 = 2 * i.val + c.val) (tileSet rO (2 * i.val + c.val)))
          -∗ outs m d (coreSet rX c.val) (fun r => r / 4 % 2 = c.val) (coreSet rO c.val)))
  unfold ins outs
  rw [bigSep_sep', bigSep_sep', bigSep_sep', ← pts_tiles_x d c.val hc, ← pts_tiles_v d c.val hc, ← pts_tiles_i d c.val hc]
  iintro H; imodintro
  isplitl [H]; · iexact H
  iintro ⟨Hx, Hr⟩
  isplitl [Hx]; · iexact Hx
  ihave Hr' := (res_join d (m (xLoc d)) (m (vLoc d)) (m (iLoc d)) Finset.univ (fun (i : Fin 16) r => r / 4 = 2 * i.val + c.val) (fun i => tileSet rO (2 * i.val + c.val))
    (fun t j => mem_tileSet rO) (tiles_disjoint rO c.val)) $$ Hr
  have hp : ∀ r < 128, r / 4 % 2 = c.val → ∃ i ∈ (Finset.univ : Finset (Fin 16)), r / 4 = 2 * i.val + c.val :=
    fun r hr h => ⟨⟨r / 8, by omega⟩, Finset.mem_univ _, by show r / 4 = 2 * (r / 8) + c.val; omega⟩
  iapply (res_mono d (m (xLoc d)) hp (tiles_cover rO rO_lt c.val hc))
  iexact Hr'

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (vLoc d ↦{fullShare} W main_v0_0) ∗ iLoc d ↦{fullShare} W main_v0_1) := by
  unfold unscopedBufs
  rw [show (Finset.univ.filter fun b : Ref sig .tc => ¬ b.isScoped) = {main_arg0, main_v0_0, main_v0_1} by decide,
    SparseCore.bigSep_insert' (by decide), SparseCore.bigSep_insert' (by decide), bigSep_singleton]

theorem st0_eq (d : Dev nD) :
    (bigSep Finset.univ fun c : Fin ((K (F := F)).nCore 0) => (P m).st 0 d c)
      = iprop((xLoc d ↦{fullShare} m (xLoc d)) ∗ (vLoc d ↦{fullShare} m (vLoc d)) ∗ iLoc d ↦{fullShare} m (iLoc d)) := by
  show (bigSep Finset.univ fun c : Fin 2 => ins m d (coreSet rX c.val) (coreSet rO c.val)) = _
  unfold ins
  rw [bigSep_sep', bigSep_sep', ← pts_cores_x, ← pts_cores_v, ← pts_cores_i]

/-- What the run ends with: the logits unchanged, every row of the results done. -/
abbrev FIN (d : Dev nD) : sProp 𝕄 := outs m d Finset.univ (fun _ => True) Finset.univ

theorem dn0_eq (d : Dev nD) : (bigSep Finset.univ fun c : Fin ((K (F := F)).nCore 0) => (P m).dn 0 d c) ⊢ FIN m d := by
  show (bigSep Finset.univ fun c : Fin 2 => outs m d (coreSet rX c.val) (fun r => r / 4 % 2 = c.val) (coreSet rO c.val)) ⊢ _
  unfold FIN outs
  rw [bigSep_sep', ← pts_cores_x]
  iintro ⟨Hx, Hr⟩
  isplitl [Hx]; · iexact Hx
  ihave Hr' := (res_join d (m (xLoc d)) (m (vLoc d)) (m (iLoc d)) Finset.univ (fun (c : Fin 2) r => r / 4 % 2 = c.val) (fun c => coreSet rO c.val)
    (fun t j => mem_coreSet rO) (cores_disjoint rO)) $$ Hr
  have hp : ∀ r < 128, True → ∃ c ∈ (Finset.univ : Finset (Fin 2)), r / 4 % 2 = c.val :=
    fun r hr _ => ⟨⟨r / 4 % 2, by omega⟩, Finset.mem_univ _, rfl⟩
  iapply (res_mono d (m (xLoc d)) hp (cores_cover rO))
  iexact Hr'

/-- @main on device `d`'s TensorCore: the one call, from the three arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hv, Hi⟩, Hts, -⟩, -⟩
  iapply ((K (F := F)).wp_run (D (F := F)) 𝒱 (EH := EH) (P := P m) κ d 0) $$ [Hst Hx Hv Hi Hb Hts]
  isplitr; · iexact Hctx
  isplitl [Hst]; · iexact Hst
  isplitl [Hx Hv Hi]
  · rw [st0_eq]
    isplitl [Hx]; · iexact Hx
    isplitl [Hv]; · iexact Hv
    iexact Hi
  iintro ⟨Hst, Hdn⟩
  ihave Hdn' := (dn0_eq m d) $$ Hdn
  imodintro
  isplitl [Hst]; · iexact Hst
  isplitl [Hdn']; · iexact Hdn'
  isplitl [Hb] <;> iassumption

/-- What is said of the final memory. -/
def fq (d : Dev nD) (s' : Phys nD τ sig (Elt F)) : Prop :=
  s'.mem.mem (xLoc d) = m (xLoc d) ∧ Done (F := F) (m (xLoc d)) (s'.mem.mem (vLoc d)) (s'.mem.mem (iLoc d)) fun _ => True

theorem hfin (d : Dev nD) (s' : Phys nD τ sig (Elt F)) : iprop(FIN m d ∗ SI s') ⊢ (⌜fq m d s'⌝ : sProp 𝕄) := by
  iintro ⟨⟨Hx, ⟨%fv, %fi, %hf, Hv, Hi⟩⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := vLoc d) (I := Finset.univ) (q := fullShare) (f := fv))) $$ [HSI Hv]
  · isplitl [HSI] <;> iassumption
  icases H with ⟨%hv, HSI, -⟩
  ihave H := (SI_pointsTo_agree (st := s') (ℓ := iLoc d) (I := Finset.univ) (q := fullShare) (f := fi)) $$ [HSI Hi]
  · isplitl [HSI] <;> iassumption
  icases H with %hi
  ipureintro
  have ev : s'.mem.mem (vLoc d) = fv := funext fun i => hv i (Finset.mem_univ i)
  have ei : s'.mem.mem (iLoc d) = fi := funext fun i => hi i (Finset.mem_univ i)
  refine ⟨funext fun i => hx i (Finset.mem_univ i), ?_⟩
  rw [ev, ei]; exact hf

/-! ## The program's run -/

def QC : PUnit × MemSt nD τ sig (Elt F) → Prop := fun r =>
  (∀ c : Dev nD, r.2.mem (xLoc c) = m (xLoc c) ∧ Done (F := F) (m (xLoc c)) (r.2.mem (vLoc c)) (r.2.mem (iLoc c)) fun _ => True) ∧ r.2.sem = fun _ => 0

/-- The kernel runs, leaves the logits as they were, every row of the results done, and every semaphore at zero. -/
theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The kernel's frame. -/
theorem quiescent : Cert.quiescent_Kernel := fun m ρ _ =>
  (θ_run Cert.Kernel.defs _ _).mono (fun _ h => ⟨fun c => (h.1 c).1, h.2⟩) (run_main (F := Bits) m ρ)

end Cert.Proof.TopRow

end
-- ==== Proof.Sort.lean ====
module

public import proofs.«01_k».proof.Proof.Base
public import proofs.«01_k».proof.Proof.Net
public import Idealize.ShloMosaic.Lib.SortNet.Sorts
public import Idealize.ShloMosaic.Lib.SortPrefix
public import Idealize.ShloMosaic.Lib.SortNet.Positions
public import proofs.«01_k».proof.Proof.Vec

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

open Idealize.ShloMosaic.SortNet

/-! # The sort of 256 entries is the bitonic network

An entry is a key with a place. The kernel puts the greater key first and, of equal keys, the lesser place: one whole number for each
entry, `enc`, orders entries in the same way. Each of the thirty-six stages of the kernel's sort is a stage of the bitonic network on
these numbers. -/

/-- The number that orders an entry: by the key, then by the place, the lesser place being the greater entry. -/
def enc (k i : BitVec 32) : ℤ := k.toInt * 4294967296 - i.toInt

theorem enc_lt (k i k' i' : BitVec 32) : enc k i < enc k' i' ↔ k.toInt < k'.toInt ∨ (k.toInt = k'.toInt ∧ i'.toInt < i.toInt) := by
  have h1 := BitVec.le_toInt i
  have h2 := BitVec.toInt_lt (x := i)
  have h3 := BitVec.le_toInt i'
  have h4 := BitVec.toInt_lt (x := i')
  unfold enc
  omega

theorem enc_inj {k i k' i' : BitVec 32} (h : enc k i = enc k' i') : k = k' ∧ i = i' := by
  have h1 := BitVec.le_toInt i
  have h2 := BitVec.toInt_lt (x := i)
  have h3 := BitVec.le_toInt i'
  have h4 := BitVec.toInt_lt (x := i')
  unfold enc at h
  exact ⟨BitVec.eq_of_toInt_eq (by omega), BitVec.eq_of_toInt_eq (by omega)⟩

/-! ## A stage of the network, place by place -/

/-- The stage at distance `2 ^ s` in the merge of blocks of `2 ^ t`. -/
def step (s t : ℕ) (v : Fin (2 ^ 8) → ℤ) : Fin (2 ^ 8) → ℤ := Network.apply (stage 8 s fun i => decide (i.val &&& 2 ^ t = 0) == true) v

theorem two_and : ∀ t < 9, ∀ s < t, 2 ^ s &&& 2 ^ t = 0 := by decide

theorem step_apply {s t : ℕ} (hs : s < 8) (hst : s < t) (ht : t < 9) (v : Fin (2 ^ 8) → ℤ) (j : Fin (2 ^ 8)) :
    step s t v j = if decide (v (partner 8 s j) < v j) = Bool.xor (decide (j.val &&& 2 ^ s ≠ 0)) (decide (j.val &&& 2 ^ t = 0)) then v j else v (partner 8 s j) := by
  unfold step
  rw [stage_congr (w' := fun i => Bool.xor (decide (i.val &&& 2 ^ s ≠ 0)) (decide (i.val &&& 2 ^ t = 0)))]
  · refine apply_stage_select hs _ (fun j => ?_) v j
    have e : (partner 8 s j).val &&& 2 ^ t = j.val &&& 2 ^ t := by
      rw [partner_val hs, Nat.and_xor_distrib_right, two_and t ht s hst, Nat.xor_zero]
    have h2 : 2 ^ s ≠ 0 := (Nat.two_pow_pos s).ne'
    rw [e]
    by_cases h : j.val &&& 2 ^ s = 0
    · rw [partner_and hs j h, h]
      cases decide (j.val &&& 2 ^ t = 0) <;> simp [h2]
    · rw [partner_and_of_set hs j h]
      cases decide (j.val &&& 2 ^ t = 0) <;> simp [h]
  · intro i hi
    rw [hi]
    cases decide (i.val &&& 2 ^ t = 0) <;> simp

/-- The register pair and the lane of a position. -/
def reg (j : Fin (2 ^ 8)) : Fin 16 := ⟨j.val / 16, by have := j.isLt; omega⟩
def lan (j : Fin (2 ^ 8)) : Fin 16 := ⟨j.val % 16, by omega⟩

/-- Lane `l` of the register `r` with its number changed in one bit. -/
def flip (s : ℕ) (l : Fin 16) : Fin 16 := ⟨(l.val ^^^ 2 ^ s) % 16, by omega⟩

theorem partner_low : ∀ s < 4, ∀ j : Fin (2 ^ 8), reg (partner 8 s j) = reg j ∧ lan (partner 8 s j) = flip s (lan j) ∧ (lan j).val &&& 2 ^ s = j.val &&& 2 ^ s := by
  decide +kernel
theorem partner_high : ∀ s < 4, ∀ j : Fin (2 ^ 8), reg (partner 8 (s + 4) j) = flip s (reg j) ∧ lan (partner 8 (s + 4) j) = lan j ∧ ((reg j).val &&& 2 ^ s = 0 ↔ j.val &&& 2 ^ (s + 4) = 0) := by
  decide +kernel
theorem up_high : ∀ t < 9, ∀ s < 4, s + 4 < t → ∀ j : Fin (2 ^ 8), up (2 ^ t) (reg j).val = decide (j.val &&& 2 ^ t = 0) ∧ up (2 ^ t) (flip s (reg j)).val = decide (j.val &&& 2 ^ t = 0) := by
  decide +kernel

/-! ## The kernel's stages, lane by lane -/

/-- The number of the entry in lane `l`. -/
def en (a : KI) (l : Fin 16) : ℤ := enc (a.k (ix l)) (a.i (ix l))

/-- The numbers of the sort's entries, by position. -/
def E (s : St) (j : Fin (2 ^ 8)) : ℤ := en (s.get (reg j)) (lan j)

theorem before_ix (a b : KI) (l : Fin 16) : before a b (ix l) = BitVec.ofBool (decide (en b l < en a l)) := by
  have h : decide (en b l < en a l) = ((b.k (ix l)).slt (a.k (ix l)) || (a.k (ix l) == b.k (ix l) && (a.i (ix l)).slt (b.i (ix l)))) := by
    rw [Bool.eq_iff_iff]
    simp only [decide_eq_true_eq, Bool.or_eq_true, Bool.and_eq_true, BitVec.slt, beq_iff_eq]
    unfold en
    rw [enc_lt, ← BitVec.toInt_inj]
    omega
  rw [h]
  show BitVec.ofBool ((b.k (ix l)).slt (a.k (ix l))) ||| (BitVec.ofBool (a.k (ix l) == b.k (ix l)) &&& BitVec.ofBool ((a.i (ix l)).slt (b.i (ix l)))) = _
  generalize (b.k (ix l)).slt (a.k (ix l)) = x
  generalize (a.k (ix l) == b.k (ix l)) = y
  generalize (a.i (ix l)).slt (b.i (ix l)) = z
  cases x <;> cases y <;> cases z <;> rfl

theorem lanePair_en (v2 : IVec S16 32) (il : IVec S16 1) (kk off : BitVec 32) (a q : KI) (l : Fin 16) (bl ba : Bool) (hl : il (ix l) = BitVec.ofBool bl)
    (ha : IntOp.cmpi .eq (IntOp.andi (IntOp.addi (v2 (ix l)) off) kk) 0#32 = BitVec.ofBool ba) :
    en (lanePair v2 il kk off a q) l = if decide (en q l < en a l) = Bool.xor bl ba then en a l else en q l := by
  have hb := before_ix a q l
  show enc (if IntOp.xori (IntOp.xori (before a q (ix l)) (il (ix l))) (IntOp.xori (IntOp.cmpi .eq (IntOp.andi (IntOp.addi (v2 (ix l)) off) kk) 0#32) 1#1) = 1#1 then a.k (ix l) else q.k (ix l))
    (if IntOp.xori (IntOp.xori (before a q (ix l)) (il (ix l))) (IntOp.xori (IntOp.cmpi .eq (IntOp.andi (IntOp.addi (v2 (ix l)) off) kk) 0#32) 1#1) = 1#1 then a.i (ix l) else q.i (ix l)) = _
  rw [hb, hl, ha]
  unfold en
  generalize decide (enc (q.k (ix l)) (q.i (ix l)) < enc (a.k (ix l)) (a.i (ix l))) = c
  cases c <;> cases bl <;> cases ba <;> rfl

theorem exLo_en (asc : Bool) (a b : KI) (l : Fin 16) : en (exLo asc a b) l = if decide (en b l < en a l) = asc then en a l else en b l := by
  have hb := before_ix a b l
  cases asc
  · show enc (if before a b (ix l) = 1#1 then b.k (ix l) else a.k (ix l)) (if before a b (ix l) = 1#1 then b.i (ix l) else a.i (ix l)) = _
    rw [hb]
    unfold en
    generalize decide (enc (b.k (ix l)) (b.i (ix l)) < enc (a.k (ix l)) (a.i (ix l))) = c
    cases c <;> rfl
  · show enc (if IntOp.xori (before a b (ix l)) 1#1 = 1#1 then b.k (ix l) else a.k (ix l)) (if IntOp.xori (before a b (ix l)) 1#1 = 1#1 then b.i (ix l) else a.i (ix l)) = _
    rw [hb]
    unfold en
    generalize decide (enc (b.k (ix l)) (b.i (ix l)) < enc (a.k (ix l)) (a.i (ix l))) = c
    cases c <;> rfl

theorem exHi_lo (asc : Bool) (a b : KI) (l : Fin 16) : en (exHi asc a b) l = if decide (en b l < en a l) = asc then en b l else en a l := by
  have hb := before_ix a b l
  cases asc
  · show enc (if before a b (ix l) = 1#1 then a.k (ix l) else b.k (ix l)) (if before a b (ix l) = 1#1 then a.i (ix l) else b.i (ix l)) = _
    rw [hb]
    unfold en
    generalize decide (enc (b.k (ix l)) (b.i (ix l)) < enc (a.k (ix l)) (a.i (ix l))) = c
    cases c <;> rfl
  · show enc (if IntOp.xori (before a b (ix l)) 1#1 = 1#1 then a.k (ix l) else b.k (ix l)) (if IntOp.xori (before a b (ix l)) 1#1 = 1#1 then a.i (ix l) else b.i (ix l)) = _
    rw [hb]
    unfold en
    generalize decide (enc (b.k (ix l)) (b.i (ix l)) < enc (a.k (ix l)) (a.i (ix l))) = c
    cases c <;> rfl

theorem exHi_en (asc : Bool) (a b : KI) (l : Fin 16) : en (exHi asc a b) l = if decide (en a l < en b l) = !asc then en b l else en a l := by
  rw [exHi_lo]
  rcases lt_trichotomy (en a l) (en b l) with h | h | h
  · rw [decide_eq_false (not_lt.mpr h.le), decide_eq_true h]; cases asc <;> rfl
  · rw [h]; simp
  · rw [decide_eq_true h, decide_eq_false (not_lt.mpr h.le)]; cases asc <;> rfl

theorem cmp_eq0 (m : ℕ) (hm : m < 2 ^ 32) : IntOp.cmpi .eq (BitVec.ofNat 32 m) 0#32 = BitVec.ofBool (decide (m = 0)) := by
  show BitVec.ofBool (BitVec.ofNat 32 m == 0#32) = _
  congr 1
  rw [Bool.eq_iff_iff, beq_iff_eq, decide_eq_true_eq, ← BitVec.toNat_inj, BitVec.toNat_ofNat, Nat.mod_eq_of_lt hm]
  rfl

theorem cmp_ne0 (m : ℕ) (hm : m < 2 ^ 32) : IntOp.cmpi .ne (BitVec.ofNat 32 m) 0#32 = BitVec.ofBool (decide (m ≠ 0)) := by
  show BitVec.ofBool (BitVec.ofNat 32 m != 0#32) = _
  congr 1
  rw [Bool.eq_iff_iff, bne_iff_ne, decide_eq_true_eq, ne_eq, ← BitVec.toNat_inj, BitVec.toNat_ofNat, Nat.mod_eq_of_lt hm]
  rfl

variable {v2 : IVec S16 32} (hv : ∀ k : Fin 16, v2 (ix k) = BitVec.ofNat 32 k)
include hv

theorem isL_ix (s : ℕ) (l : Fin 16) : isL v2 (BitVec.ofNat 32 (2 ^ s)) (ix l) = BitVec.ofBool (decide (l.val &&& 2 ^ s ≠ 0)) := by
  show IntOp.cmpi .ne (v2 (ix l) &&& BitVec.ofNat 32 (2 ^ s)) 0#32 = _
  rw [hv, ← BitVec.ofNat_and]
  have : l.val &&& 2 ^ s ≤ l.val := Nat.and_le_left
  exact cmp_ne0 _ (by omega)

theorem asc_ix (t : ℕ) (j : Fin (2 ^ 8)) : IntOp.cmpi .eq (IntOp.andi (IntOp.addi (v2 (ix (lan j))) (BitVec.ofNat 32 (16 * (reg j).val))) (BitVec.ofNat 32 (2 ^ t))) 0#32 = BitVec.ofBool (decide (j.val &&& 2 ^ t = 0)) := by
  show IntOp.cmpi .eq ((v2 (ix (lan j)) + BitVec.ofNat 32 (16 * (reg j).val)) &&& BitVec.ofNat 32 (2 ^ t)) 0#32 = _
  have e : (lan j).val + 16 * (reg j).val = j.val := by show j.val % 16 + 16 * (j.val / 16) = j.val; omega
  rw [hv, ← BitVec.ofNat_add, e, ← BitVec.ofNat_and]
  have : j.val &&& 2 ^ t ≤ j.val := Nat.and_le_left
  have := j.isLt
  exact cmp_eq0 _ (by omega)

/-- A stage inside the registers is a stage of the network. -/
theorem E_of_lanePair {s t : ℕ} (hs : s < 4) (hst : s < t) (ht : t < 9) (st st' : St) (P : IVec S16 32 → IVec S16 32) (hP : ∀ x l, P x (ix l) = x (ix (flip s l)))
    (h : ∀ r : Fin 16, st'.get r = lanePair v2 (isL v2 (BitVec.ofNat 32 (2 ^ s))) (BitVec.ofNat 32 (2 ^ t)) (BitVec.ofNat 32 (16 * r.val)) (st.get r) ⟨P (st.get r).k, P (st.get r).i⟩) :
    E st' = step s t (E st) := by
  funext j
  obtain ⟨h1, h2, h3⟩ := partner_low s hs j
  have e : en ⟨P (st.get (reg j)).k, P (st.get (reg j)).i⟩ (lan j) = E st (partner 8 s j) := by
    unfold E en
    rw [h1, h2]
    show enc (P _ (ix _)) (P _ (ix _)) = _
    rw [hP, hP]
  rw [step_apply (by omega) hst ht, ← e]
  unfold E
  rw [h (reg j), lanePair_en v2 _ _ _ _ _ (lan j) (decide (j.val &&& 2 ^ s ≠ 0)) (decide (j.val &&& 2 ^ t = 0)) (by rw [isL_ix hv, h3]) (asc_ix hv t j)]

omit hv in
/-- A stage that exchanges whole registers is a stage of the network. -/
theorem E_of_cross {s t : ℕ} (hs : s < 4) (hst : s + 4 < t) (ht : t < 9) (st st' : St)
    (h : ∀ r : Fin 16, st'.get r = if r.val &&& 2 ^ s = 0 then exLo (up (2 ^ t) r.val) (st.get r) (st.get (flip s r)) else exHi (up (2 ^ t) (flip s r).val) (st.get (flip s r)) (st.get r)) :
    E st' = step (s + 4) t (E st) := by
  funext j
  obtain ⟨h1, h2, h3⟩ := partner_high s hs j
  obtain ⟨h4, h5⟩ := up_high t ht s hs hst j
  have e : en (st.get (flip s (reg j))) (lan j) = E st (partner 8 (s + 4) j) := by
    unfold E
    rw [h1, h2]
  rw [step_apply (by omega) hst ht, ← e]
  unfold E
  rw [h (reg j)]
  by_cases hj : j.val &&& 2 ^ (s + 4) = 0
  · rw [if_pos (h3.mpr hj), exLo_en, h4, decide_eq_false (p := j.val &&& 2 ^ (s + 4) ≠ 0) (not_not.mpr hj), Bool.false_xor]
  · rw [if_neg (fun hc => hj (h3.mp hc)), exHi_en, h5, decide_eq_true (p := j.val &&& 2 ^ (s + 4) ≠ 0) hj, Bool.true_xor]

/-! ## The four exchanges of lanes and the four exchanges of registers -/

theorem xp1_ix (x : IVec S16 32) (l : Fin 16) : xp1 (isL v2 1#32) x (ix l) = x (ix (flip 0 l)) := by
  show (if isL v2 (BitVec.ofNat 32 (2 ^ 0)) (ix l) = 1#1 then _ else _) = _
  rw [isL_ix hv]
  fin_cases l <;> exact congrArg x (by funext a; obtain rfl : a = 0 := Subsingleton.elim _ _; rfl)

theorem xp2_ix (x : IVec S16 32) (l : Fin 16) : xp2 (isL v2 2#32) x (ix l) = x (ix (flip 1 l)) := by
  show (if isL v2 (BitVec.ofNat 32 (2 ^ 1)) (ix l) = 1#1 then _ else _) = _
  rw [isL_ix hv]
  fin_cases l <;> exact congrArg x (by funext a; obtain rfl : a = 0 := Subsingleton.elim _ _; rfl)

theorem xp4_ix (x : IVec S16 32) (l : Fin 16) : xp4 (isL v2 4#32) x (ix l) = x (ix (flip 2 l)) := by
  show (if isL v2 (BitVec.ofNat 32 (2 ^ 2)) (ix l) = 1#1 then _ else _) = _
  rw [isL_ix hv]
  fin_cases l <;> exact congrArg x (by funext a; obtain rfl : a = 0 := Subsingleton.elim _ _; rfl)

theorem xp8_ix (x : IVec S16 32) (l : Fin 16) : xp8 (isL v2 8#32) x (ix l) = x (ix (flip 3 l)) := by
  show (if isL v2 (BitVec.ofNat 32 (2 ^ 3)) (ix l) = 1#1 then _ else _) = _
  rw [isL_ix hv]
  fin_cases l <;> exact congrArg x (by funext a; obtain rfl : a = 0 := Subsingleton.elim _ _; rfl)

theorem E_lane1 {t : ℕ} (hst : 0 < t) (ht : t < 9) (s : St) : E (lane1 v2 (BitVec.ofNat 32 (2 ^ t)) s) = step 0 t (E s) :=
  E_of_lanePair hv (by decide) hst ht s _ (fun x => xp1 (isL v2 1#32) x) (xp1_ix hv) fun r => by fin_cases r <;> rfl
theorem E_lane2 {t : ℕ} (hst : 1 < t) (ht : t < 9) (s : St) : E (lane2 v2 (BitVec.ofNat 32 (2 ^ t)) s) = step 1 t (E s) :=
  E_of_lanePair hv (by decide) hst ht s _ (fun x => xp2 (isL v2 2#32) x) (xp2_ix hv) fun r => by fin_cases r <;> rfl
theorem E_lane4 {t : ℕ} (hst : 2 < t) (ht : t < 9) (s : St) : E (lane4 v2 (BitVec.ofNat 32 (2 ^ t)) s) = step 2 t (E s) :=
  E_of_lanePair hv (by decide) hst ht s _ (fun x => xp4 (isL v2 4#32) x) (xp4_ix hv) fun r => by fin_cases r <;> rfl
theorem E_lane8 {t : ℕ} (hst : 3 < t) (ht : t < 9) (s : St) : E (lane8 v2 (BitVec.ofNat 32 (2 ^ t)) s) = step 3 t (E s) :=
  E_of_lanePair hv (by decide) hst ht s _ (fun x => xp8 (isL v2 8#32) x) (xp8_ix hv) fun r => by fin_cases r <;> rfl

/-- The four stages inside the registers that end a merge. -/
theorem E_lanes {t : ℕ} (hst : 3 < t) (ht : t < 9) (s : St) : E (lanes v2 (BitVec.ofNat 32 (2 ^ t)) s) = step 0 t (step 1 t (step 2 t (step 3 t (E s)))) :=
  (E_lane1 hv (by omega) ht _).trans (congrArg (step 0 t) ((E_lane2 hv (by omega) ht _).trans (congrArg (step 1 t) ((E_lane4 hv (by omega) ht _).trans (congrArg (step 2 t) (E_lane8 hv hst ht s))))))

omit hv in
theorem E_cross1 {t : ℕ} (hst : 4 < t) (ht : t < 9) (s : St) : E (cross1 (2 ^ t) s) = step 4 t (E s) :=
  E_of_cross (s := 0) (by decide) hst ht s _ fun r => by fin_cases r <;> rfl
omit hv in
theorem E_cross2 {t : ℕ} (hst : 5 < t) (ht : t < 9) (s : St) : E (cross2 (2 ^ t) s) = step 5 t (E s) :=
  E_of_cross (s := 1) (by decide) hst ht s _ fun r => by fin_cases r <;> rfl
omit hv in
theorem E_cross4 {t : ℕ} (hst : 6 < t) (ht : t < 9) (s : St) : E (cross4 (2 ^ t) s) = step 6 t (E s) :=
  E_of_cross (s := 2) (by decide) hst ht s _ fun r => by fin_cases r <;> rfl
omit hv in
theorem E_cross8 {t : ℕ} (hst : 7 < t) (ht : t < 9) (s : St) : E (cross8 (2 ^ t) s) = step 7 t (E s) :=
  E_of_cross (s := 3) (by decide) hst ht s _ fun r => by fin_cases r <;> rfl

/-! ## The whole sort -/

/-- The merge into blocks of `2 ^ (l + 1)`. -/
def merge (l : ℕ) (v : Fin (2 ^ 8) → ℤ) : Fin (2 ^ 8) → ℤ := (List.range (l + 1)).reverse.foldl (fun v s => step s (l + 1) v) v

omit hv in
theorem apply_flatMap {α : Type} (L : List α) (f : α → Network (2 ^ 8)) (v : Fin (2 ^ 8) → ℤ) : Network.apply (L.flatMap f) v = L.foldl (fun v a => Network.apply (f a) v) v := by
  induction L generalizing v with
  | nil => rfl
  | cons a L ih => rw [List.flatMap_cons, Network.apply_append, ih]; rfl

omit hv in
theorem sortNet_merges (v : Fin (2 ^ 8) → ℤ) : Network.apply (sortNet 8 true) v = merge 7 (merge 6 (merge 5 (merge 4 (merge 3 (merge 2 (merge 1 (merge 0 v))))))) := by
  have h : ∀ l v, Network.apply ((List.range (l + 1)).reverse.flatMap fun s => stage 8 s fun i => (decide (i.val &&& 2 ^ (l + 1) = 0)) == true) v = merge l v :=
    fun l v => apply_flatMap _ _ v
  unfold sortNet
  rw [apply_flatMap]
  simp only [h]
  rfl

theorem E_m16 (s : St) : E (m16 v2 s) = merge 3 (merge 2 (merge 1 (merge 0 (E s)))) :=
  (E_lanes hv (t := 4) (by decide) (by decide) _).trans (congrArg (merge 3)
    ((E_lane1 hv (t := 3) (by decide) (by decide) _).trans (congrArg (step 0 3) ((E_lane2 hv (t := 3) (by decide) (by decide) _).trans (congrArg (step 1 3) ((E_lane4 hv (t := 3) (by decide) (by decide) _).trans (congrArg (step 2 3)
    ((E_lane1 hv (t := 2) (by decide) (by decide) _).trans (congrArg (step 0 2) ((E_lane2 hv (t := 2) (by decide) (by decide) _).trans (congrArg (step 1 2) (E_lane1 hv (t := 1) (by decide) (by decide) s))))))))))))

theorem E_m32 (s : St) : E (m32 v2 s) = merge 4 (E s) :=
  (E_lanes hv (t := 5) (by decide) (by decide) _).trans (congrArg (fun v => step 0 5 (step 1 5 (step 2 5 (step 3 5 v)))) (E_cross1 (t := 5) (by decide) (by decide) s))
theorem E_m64 (s : St) : E (m64 v2 s) = merge 5 (E s) :=
  (E_lanes hv (t := 6) (by decide) (by decide) _).trans (congrArg (fun v => step 0 6 (step 1 6 (step 2 6 (step 3 6 v)))) ((E_cross1 (t := 6) (by decide) (by decide) _).trans (congrArg (step 4 6) (E_cross2 (t := 6) (by decide) (by decide) s))))
theorem E_m128 (s : St) : E (m128 v2 s) = merge 6 (E s) :=
  (E_lanes hv (t := 7) (by decide) (by decide) _).trans (congrArg (fun v => step 0 7 (step 1 7 (step 2 7 (step 3 7 v)))) ((E_cross1 (t := 7) (by decide) (by decide) _).trans (congrArg (step 4 7) ((E_cross2 (t := 7) (by decide) (by decide) _).trans (congrArg (step 5 7)
    (E_cross4 (t := 7) (by decide) (by decide) s))))))
theorem E_m256 (s : St) : E (m256 v2 s) = merge 7 (E s) :=
  (E_lanes hv (t := 8) (by decide) (by decide) _).trans (congrArg (fun v => step 0 8 (step 1 8 (step 2 8 (step 3 8 v)))) ((E_cross1 (t := 8) (by decide) (by decide) _).trans (congrArg (step 4 8) ((E_cross2 (t := 8) (by decide) (by decide) _).trans (congrArg (step 5 8)
    ((E_cross4 (t := 8) (by decide) (by decide) _).trans (congrArg (step 6 8) (E_cross8 (t := 8) (by decide) (by decide) s))))))))

/-- The kernel's sort is the bitonic network. -/
theorem E_net (s : St) : E (net v2 s) = Network.apply (sortNet 8 true) (E s) := by
  rw [sortNet_merges]
  exact (E_m256 hv _).trans (congrArg (merge 7) ((E_m128 hv _).trans (congrArg (merge 6) ((E_m64 hv _).trans (congrArg (merge 5) ((E_m32 hv _).trans (congrArg (merge 4) (E_m16 hv s))))))))

/-- The sort rearranges its entries and puts the greater number first. -/
theorem net_sorts (s : St) : ∃ σ : Equiv.Perm (Fin (2 ^ 8)), (∀ j, E (net v2 s) j = E s (σ j)) ∧ Antitone (E (net v2 s)) := by
  obtain ⟨σ, hσ⟩ := Network.exists_perm (sortNet 8 true) (E s)
  rw [E_net hv]
  exact ⟨σ, fun j => by rw [hσ]; rfl, sortNet_apply_antitone 8 (E s)⟩

end Cert.Proof.TopRow

end
-- ==== Proof.Final.lean ====
module

public import proofs.«01_k».proof.Proof.Base
public import proofs.«01_k».proof.Proof.Sort
public import proofs.«01_k».proof.Proof.RowDefs

@[expose] public section

noncomputable section

namespace Cert.Proof.TopRow

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

local notation "xV" => (Memref.whole Cert.Kernel.main_arg0_scv : Memref Cert.Kernel.sig Kind.scVector Space.hbm Cert.Kernel.S128x32768 EltTy.f32)
local notation "vV" => (Memref.whole Cert.Kernel.main_v0_0_scv : Memref Cert.Kernel.sig Kind.scVector Space.hbm Cert.Kernel.S128x256 EltTy.f32)
local notation "iV" => (Memref.whole Cert.Kernel.main_v0_1_scv : Memref Cert.Kernel.sig Kind.scVector Space.hbm Cert.Kernel.S128x256 EltTy.i32)
local notation "bRow" => (Memref.whole Cert.Kernel.cc0_scratch0 : Memref Cert.Kernel.sig Kind.scVector Space.vmem Cert.Kernel.S32768 EltTy.f32)
local notation "bCk" => (Memref.whole Cert.Kernel.cc0_scratch1 : Memref Cert.Kernel.sig Kind.scVector Space.vmem Cert.Kernel.S32768 EltTy.i32)
local notation "bCi" => (Memref.whole Cert.Kernel.cc0_scratch2 : Memref Cert.Kernel.sig Kind.scVector Space.vmem Cert.Kernel.S32768 EltTy.i32)
local notation "bH" => (Memref.whole Cert.Kernel.cc0_scratch3 : Memref Cert.Kernel.sig Kind.scVector Space.vmem Cert.Kernel.S4384 EltTy.i32)
local notation "bWk" => (Memref.whole Cert.Kernel.cc0_scratch4 : Memref Cert.Kernel.sig Kind.scVector Space.vmem Cert.Kernel.S256 EltTy.i32)
local notation "bWi" => (Memref.whole Cert.Kernel.cc0_scratch5 : Memref Cert.Kernel.sig Kind.scVector Space.vmem Cert.Kernel.S256 EltTy.i32)
local notation "bOv" => (Memref.whole Cert.Kernel.cc0_scratch6 : Memref Cert.Kernel.sig Kind.scVector Space.vmem Cert.Kernel.S256 EltTy.f32)
local notation "bOi" => (Memref.whole Cert.Kernel.cc0_scratch7 : Memref Cert.Kernel.sig Kind.scVector Space.vmem Cert.Kernel.S256 EltTy.i32)

open Idealize.ShloMosaic.SortNet

/-! # A row's results are the stable sort's first 256 entries -/

/-- Two orders that agree wherever the later position is asked about first give the same stable sort. -/
theorem sortedFrom_congr_lt {n : ℕ} (R R' : Fin n → Fin n → Bool) (h : ∀ a b, a < b → R b a = R' b a) : sortedFrom R = sortedFrom R' := by
  have key : ∀ l : List (Fin n), l.Pairwise (· < ·) → stableSort R l = stableSort R' l := by
    intro l
    induction l with
    | nil => intro _; rfl
    | cons a l ih =>
      intro hl
      rw [List.pairwise_cons] at hl
      unfold stableSort
      rw [ih hl.2]
      exact insertBefore_congr R R' a _ fun b hb => h a b (hl.1 b ((perm_stableSort R' l).mem_iff.mp hb))
  funext k
  unfold sortedFrom
  rw [List.get_of_eq (show sortPositions n R = sortPositions n R' from key _ (List.pairwise_lt_finRange n))]
  rfl

/-- The number that orders place `n` of the row `x`. -/
def eAt (x : Vec Bits S32768 .f32) (n : ℕ) : ℤ := enc (kw x n) (BitVec.ofNat 32 n)

theorem toInt_place {n : ℕ} (h : n < 32768) : (BitVec.ofNat 32 n).toInt = n := by
  rw [BitVec.toInt_eq_toNat_of_lt (by rw [BitVec.toNat_ofNat]; omega), BitVec.toNat_ofNat]; omega

theorem eAt_lt (x : Vec Bits S32768 .f32) {n m : ℕ} (hn : n < 32768) (hm : m < 32768) :
    eAt x n < eAt x m ↔ (kw x n).toInt < (kw x m).toInt ∨ ((kw x n).toInt = (kw x m).toInt ∧ m < n) := by
  unfold eAt
  rw [enc_lt, toInt_place hn, toInt_place hm]
  omega

theorem eAt_inj (x : Vec Bits S32768 .f32) : Function.Injective fun n : Fin 32768 => eAt x n := by
  intro a b h
  have := congrArg BitVec.toInt (enc_inj h).2
  rw [toInt_place a.isLt, toInt_place b.isLt] at this
  exact Fin.ext (by omega)

/-- The reference's order of the places of a row. -/
def refBefore (x : Vec Bits S32768 .f32) (k k' : Fin 32768) : Bool :=
  FloatOps.cmpfTotal (F := Bits) .gt (x (Shape.ofLane (d := ![32768]) k)) (x (Shape.ofLane (d := ![32768]) k')) == 1#1

theorem kw_bits (x : Vec Bits S32768 .f32) (n : Fin 32768) : kw x n = sortableKey (x (Shape.ofLane (d := ![32768]) n)) := by
  unfold kw xb
  rw [dif_pos n.isLt]
  rfl

theorem sortedFrom_refBefore (x : Vec Bits S32768 .f32) : sortedFrom (refBefore x) = sortedFrom (greaterFirst fun n : Fin 32768 => eAt x n) := by
  refine sortedFrom_congr_lt _ _ fun a b hab => ?_
  unfold refBefore greaterFirst
  rw [cmpfTotal_f32_eq_cmpi_sortableKey, ← kw_bits, ← kw_bits]
  have h := eAt_lt x a.isLt b.isLt
  show (BitVec.ofBool ((kw x a).slt (kw x b)) == 1#1) = _
  rw [Bool.eq_iff_iff, decide_eq_true_eq, h]
  have : ¬ b.val < a.val := by have : a.val < b.val := hab; omega
  rw [show (BitVec.ofBool ((kw x a).slt (kw x b)) == 1#1) = (kw x a).slt (kw x b) by cases (kw x a).slt (kw x b) <;> rfl]
  simp only [BitVec.slt, decide_eq_true_eq]
  omega

/-- What a key's lane turns back into is the float the key came from. -/
theorem outV_bits (k : IVec S16 32) (l : Fin 16) (w : BitVec 32) (h : k (ix l) = sortableKey w) : outV (F := Bits) k (ix l) = w := by
  have e := xori_andi_shrsi_eq_sortableKey .vector (k (ix l))
  rw [h, sortableKey_sortableKey, ← h] at e
  exact e

/-- The places that survive the selection, and that no place left out is ahead of one of them. -/
theorem kept {g : ℕ → BitVec 32} {p : ℤ} {C W : List ℕ} {q : ℕ} (hI : RInv g 32768 0 p C W q) (hC : ∀ n ∈ C, Hi g 0 n = p) :
    (W ++ C.take q).Nodup ∧ (W ++ C.take q).length = 256 ∧ (∀ n ∈ W ++ C.take q, n < 32768)
      ∧ ∀ n ∈ W ++ C.take q, ∀ m < 32768, m ∉ W ++ C.take q → (g m).toInt < (g n).toInt ∨ ((g m).toInt = (g n).toInt ∧ n < m) := by
  have hH : ∀ n, Hi g 0 n = (g n).toInt := fun n => by unfold Hi; simp
  have hf : (C.filter fun n => decide (p < Hi g 0 n)) = [] := List.filter_eq_nil_iff.mpr fun n hn => by rw [hC n hn]; simp
  have hp := hI.perm
  rw [hf, List.append_nil] at hp
  have hCe : C = (List.range 32768).filter fun n => decide (Hi g 0 n = p) := by
    rw [← hI.eqp]
    exact (List.filter_eq_self.mpr fun n hn => decide_eq_true (hC n hn)).symm
  have hWm : ∀ n, n ∈ W ↔ n < 32768 ∧ p < Hi g 0 n := fun n => by
    rw [hp.mem_iff, List.mem_filter, List.mem_range, decide_eq_true_eq]
  have hCm : ∀ n, n ∈ C ↔ n < 32768 ∧ Hi g 0 n = p := fun n => by
    rw [hCe, List.mem_filter, List.mem_range, decide_eq_true_eq]
  have hCs : C.Pairwise (· < ·) := List.Pairwise.sublist hI.sub List.pairwise_lt_range
  refine ⟨List.nodup_append.mpr ⟨hp.nodup_iff.mpr (List.nodup_range.filter _), (hI.sub.nodup List.nodup_range).sublist (List.take_sublist _ _), ?_⟩, ?_, ?_, ?_⟩
  · rintro a ha b hb rfl
    have h1 := ((hWm a).mp ha).2
    have h2 := hC a (List.mem_of_mem_take hb)
    omega
  · have := hI.sum; have := hI.qle
    rw [List.length_append, List.length_take]; omega
  · intro n hn
    rcases List.mem_append.mp hn with h | h
    · exact ((hWm n).mp h).1
    · exact ((hCm n).mp (List.mem_of_mem_take h)).1
  · intro n hn m hm hmL
    rw [List.mem_append, not_or] at hmL
    have h1 : ¬ p < Hi g 0 m := fun hc => hmL.1 ((hWm m).mpr ⟨hm, hc⟩)
    rw [hH] at h1
    rcases List.mem_append.mp hn with h | h
    · have h2 := ((hWm n).mp h).2
      rw [hH] at h2
      exact Or.inl (by omega)
    · have h2 := hC n (List.mem_of_mem_take h)
      rw [hH] at h2
      by_cases he : (g m).toInt = p
      · right
        refine ⟨by omega, ?_⟩
        have hmC : m ∈ C := (hCm m).mpr ⟨hm, by rw [hH]; exact he⟩
        rw [← List.take_append_drop q C] at hmC hCs
        rcases List.mem_append.mp hmC with h3 | h3
        · exact absurd h3 hmL.2
        · exact (List.pairwise_append.mp hCs).2.2 n h m h3
      · exact Or.inl (by omega)

/-- The place that the stable sort of the row puts at position `j`. -/
def src (x : Vec Bits S32768 .f32) (j : Fin 256) : Fin 32768 := sortedFrom (refBefore x) (j.castLE (by omega))

/-- A row's results are the first 256 entries of the stable sort of the row: their values and their places. -/
theorem RowRes.eq_sorted {x : Vec Bits S32768 .f32} {gv : Vec Bits S256 .f32} {gi : Vec Bits S256 .i32} (h : RowRes (F := Bits) x gv gi) (j : Fin 256) :
    gv (Shape.ofLane (d := ![256]) j) = x (Shape.ofLane (d := ![32768]) (src x j))
      ∧ gi (Shape.ofLane (d := ![256]) j) = BitVec.ofNat 32 (src x j).val := by
  obtain ⟨v2, s, p, C, W, q, hv, hI, hC, hk, hi, hgv, hgi⟩ := h
  obtain ⟨hnd, hlen, hlt, hdom⟩ := kept hI hC
  obtain ⟨σ, hσ, hanti⟩ := net_sorts hv s
  obtain ⟨L, hL⟩ : ∃ L, L = W ++ C.take q := ⟨_, rfl⟩
  rw [← hL] at hnd hlen hlt hdom
  simp only [← hL] at hk hi
  have hget : ∀ i : Fin (2 ^ 8), ∃ h : i.val < L.length, L.getD i.val 0 = L[i.val]'h := fun i => by
    have hi := i.isLt
    have h : i.val < L.length := by omega
    exact ⟨h, by rw [List.getD_eq_getElem?_getD, List.getElem?_eq_getElem h]; rfl⟩
  have hmem : ∀ i : Fin (2 ^ 8), L.getD i.val 0 ∈ L := fun i => by
    obtain ⟨h, e⟩ := hget i
    rw [e]; exact List.getElem_mem h
  have hEs : ∀ i : Fin (2 ^ 8), E s i = eAt x (L.getD i.val 0) := fun i => by
    unfold E en eAt
    have e : 16 * (reg i).val + (lan i).val = i.val := by show 16 * (i.val / 16) + i.val % 16 = i.val; omega
    rw [hk, hi, e]
  have hET : ∀ i : Fin (2 ^ 8), E (net v2 s) i = eAt x (L.getD (σ i).val 0) := fun i => (hσ i).trans (hEs (σ i))
  have hsrc := (strictTotalBefore_greaterFirst (fun n : Fin 32768 => eAt x n) (eAt_inj x)).sortedFrom_eq_of_prefix (k := 256) (by omega)
    (fun i : Fin 256 => (⟨L.getD (σ i).val 0, hlt _ (hmem _)⟩ : Fin 32768)) ?_ ?_ ?_ j
  · have hs : src x j = ⟨L.getD (σ j).val 0, hlt _ (hmem _)⟩ := by unfold src; rw [sortedFrom_refBefore]; exact hsrc
    rw [hs]
    have he := hET j
    unfold E en eAt at he
    obtain ⟨e1, e2⟩ := enc_inj he
    constructor
    · rw [hgv]
      exact outV_bits _ _ _ (e1.trans (kw_bits x ⟨L.getD (σ j).val 0, hlt _ (hmem _)⟩))
    · rw [hgi]
      exact e2
  · intro a b hab
    have e := Fin.mk.inj hab
    obtain ⟨h1, e1⟩ := hget (σ a)
    obtain ⟨h2, e2⟩ := hget (σ b)
    rw [e1, e2] at e
    exact σ.injective (Fin.ext ((List.Nodup.getElem_inj_iff hnd).mp e))
  · intro a b hab
    have := hanti (le_of_lt hab : (a : Fin (2 ^ 8)) ≤ b)
    rw [hET, hET] at this
    exact decide_eq_false (not_lt.mpr this)
  · intro a m hm
    refine decide_eq_false (not_lt.mpr (le_of_lt ?_))
    refine (eAt_lt x m.isLt (hlt _ (hmem _))).mpr (hdom _ (hmem _) m.val m.isLt fun hc => ?_)
    obtain ⟨i, hi', e⟩ := List.getElem_of_mem hc
    refine hm (σ.symm ⟨i, by omega⟩) (Fin.ext ?_)
    show L.getD (σ (σ.symm ⟨i, _⟩)).val 0 = m.val
    rw [Equiv.apply_symm_apply, ← e, List.getD_eq_getElem?_getD, List.getElem?_eq_getElem hi']
    rfl

end Cert.Proof.TopRow

end
-- ==== Proof.Ref.lean ====
module

public import proofs.«01_k».proof.Defs
public import proofs.«01_k».proof.Proof.Final
public import proofs.«01_k».proof.Proof.Rows
public import Idealize.ShloMosaic.Lib.StableHlo.Run
public import Idealize.ShloMosaic.Lib.Quiescent

@[expose] public section

noncomputable section

/-!
  The reference: its run, two operations on the TensorCore, and its two results row by row: position `j` of a row holds the value and the
  place that the stable sort of the row puts there.
-/

namespace Cert.Proof.TopRow

open Idealize.ShloMosaic Idealize.ShloMosaic.TcCoe Idealize.ShloMosaic.StableHlo Idealize.SL.Sem

namespace Ref

open Cert.Reference

/-- The reference's side condition: the results' shape fits inside the logits'. -/
theorem sliceFits : S128x32768.Slices (fun _ => 0) S128x256 := ⟨rfl, by decide⟩

instance facts : Facts where
  sliceFits_S128x32768_S128x256 := sliceFits

/-- The two results, as functions of the logits. -/
abbrev top (x : Vec Bits S128x32768 .f32) : Vec Bits S128x256 .f32 × IVec S128x256 32 := Host.topK S128x256 1 (FloatOps.cmpfTotal (F := Bits) .gt) x sliceFits

abbrev ops : List (HloOp τ sig (Elt Bits)) :=
  [ unary main_arg0 main_values ((fun x => (top x).1) : (⟨S128x32768, .f32⟩ : BufTy).Contents (Elt Bits) → (⟨S128x256, .f32⟩ : BufTy).Contents (Elt Bits)),
    unary main_arg0 main_indices ((fun x => (top x).2) : (⟨S128x32768, .f32⟩ : BufTy).Contents (Elt Bits) → (⟨S128x256, .i32⟩ : BufTy).Contents (Elt Bits)) ]

theorem main_eq (c : Dev nD) : main (F := Bits) c = seq ops := by
  simp only [main, seq]

theorem values_eq (V : Valuation τ sig (Elt Bits)) : after ops V (main_values : DevRef τ sig) = (top (V (main_arg0 : DevRef τ sig))).1 := by
  simp only [after_cons, after_nil]
  rfl

theorem indices_eq (V : Valuation τ sig (Elt Bits)) : after ops V (main_indices : DevRef τ sig) = (top (V (main_arg0 : DevRef τ sig))).2 := by
  simp only [after_cons, after_nil]
  rfl

theorem arg0_eq (V : Valuation τ sig (Elt Bits)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Bits))).Forall fun op => op.bufs ⊆ tcRefs τ sig := ⟨unary_bufs_sub .., unary_bufs_sub ..⟩

/-- The reference runs to its end, every buffer at what the two operations leave in it. -/
theorem run_main (m : (ℓ : Loc nD τ sig) → Buf (Elt Bits) ℓ) (ρ : Dev nD → PrngReg) :
    θ_run (defs (F := Bits)) (onTc (τ := τ) (main (F := Bits))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's frame. -/
theorem quiescent : Cert.quiescent_Reference := by
  intro m ρ _
  exact (θ_run Cert.Reference.defs _ _).mono (fun r h => ⟨fun c => (h c main_arg0).trans (arg0_eq _), Idealize.ShloMosaic.sem_eq_zero_of_no_sems (by decide) r.2⟩)
    (run_main m ρ)

end Ref

/-! ## The results row by row -/

theorem along_ne {s : Shape} (j : s.Idx) (d a : Fin s.rank) (k : Fin (s.size d)) (h : a ≠ d) : j.along d k a = j a := Function.update_of_ne (β := fun a => s.Coord a) h k j
theorem along_self {s : Shape} (j : s.Idx) (d : Fin s.rank) (k : Fin (s.size d)) : j.along d k d = k := Function.update_self (β := fun a => s.Coord a) d k j

/-- The place of a row of the logits that the sort reads, as a place of the whole array. -/
theorem along_eq (y : Cert.Kernel.S128x256.Idx) (k : Fin 32768) (z : Cert.Kernel.S128x32768.Idx) (hz : (z 0).val = (y 0).val) :
    z.along 1 k = xIdx (y 0).val (Shape.ofLane (d := ![32768]) k) := by
  have e0 : (z.along 1 k) 0 = z 0 := along_ne z 1 0 k (by decide)
  have e1 : (z.along 1 k) 1 = k := along_self z 1 k
  funext a
  refine Fin.cases ?_ (fun b => ?_) a
  · refine Fin.ext ?_
    refine (congrArg Fin.val e0).trans (hz.trans ?_)
    exact (Nat.mod_eq_of_lt (y 0).isLt).symm
  · obtain rfl : b = 0 := Subsingleton.elim _ _
    exact e1

theorem xIdx_one (n : ℕ) (k : Fin 32768) : (xIdx n (Shape.ofLane (d := ![32768]) k) 1).val = k.val := rfl

theorem pos_eq (X : Vec Bits Cert.Kernel.S128x32768 .f32) (y : Cert.Kernel.S128x256.Idx) (z : Cert.Kernel.S128x32768.Idx) (h0 : (z 0).val = (y 0).val) (h1 : (z 1).val = (y 1).val) :
    sortedFrom (n := 32768) (fun k k' => FloatOps.cmpfTotal (F := Bits) .gt (X (z.along 1 k)) (X (z.along 1 k')) == 1#1) (z 1) = src (xAt X (y 0).val) (y 1) := by
  have hf : (fun k k' : Fin 32768 => FloatOps.cmpfTotal (F := Bits) .gt (X (z.along 1 k)) (X (z.along 1 k')) == 1#1) = refBefore (xAt X (y 0).val) := by
    funext k k'
    rw [along_eq y k z h0, along_eq y k' z h0]
    rfl
  rw [hf]
  unfold src
  exact congrArg (sortedFrom (refBefore (xAt X (y 0).val))) (Fin.ext h1)

/-- The place of the sorted logits from which the cut to 256 columns takes the place `y` of a result. -/
def cutIdx (y : Cert.Kernel.S128x256.Idx) : Cert.Kernel.S128x32768.Idx :=
  fun a => ⟨0 + (y (a.cast Ref.sliceFits.1.symm)).val, Nat.lt_of_lt_of_le (Nat.add_lt_add_left (y _).isLt _) (Ref.sliceFits.2 a)⟩

theorem top_fst (X : Vec Bits Cert.Kernel.S128x32768 .f32) (y : Cert.Kernel.S128x256.Idx) :
    (Ref.top X).1 y = xAt X (y 0).val (Shape.ofLane (d := ![32768]) (src (xAt X (y 0).val) (y 1))) := by
  have h := pos_eq X y (cutIdx y) (Nat.zero_add _) (Nat.zero_add _)
  show X ((cutIdx y).along 1 (sortedFrom (n := 32768) (fun k k' => FloatOps.cmpfTotal (F := Bits) .gt (X ((cutIdx y).along 1 k)) (X ((cutIdx y).along 1 k')) == 1#1) (cutIdx y 1))) = _
  rw [h, along_eq y _ (cutIdx y) (Nat.zero_add _)]
  rfl

theorem top_snd (X : Vec Bits Cert.Kernel.S128x32768 .f32) (y : Cert.Kernel.S128x256.Idx) :
    (Ref.top X).2 y = BitVec.ofNat 32 (src (xAt X (y 0).val) (y 1)).val := by
  have h := pos_eq X y (cutIdx y) (Nat.zero_add _) (Nat.zero_add _)
  show (if hd : 1 < Cert.Reference.S128x32768.rank then iotaInDim Cert.Reference.S128x32768 32 ⟨1, hd⟩ ((cutIdx y).along 1 (sortedFrom (n := 32768) (fun k k' => FloatOps.cmpfTotal (F := Bits) .gt (X ((cutIdx y).along 1 k)) (X ((cutIdx y).along 1 k')) == 1#1) (cutIdx y 1))) else 0#32) = _
  rw [dif_pos (show 1 < Cert.Reference.S128x32768.rank by decide)]
  have e := (congrArg (fun k : Fin 32768 => (cutIdx y).along 1 k) h).trans (along_eq y _ (cutIdx y) (Nat.zero_add _))
  refine (congrArg (iotaInDim Cert.Reference.S128x32768 32 1) e).trans ?_
  exact congrArg (BitVec.ofNat 32) (xIdx_one _ _)

/-- An array of the results' shape at a place is its row there. -/
theorem eq_oAt {e : EltTy} (f : Vec Bits Cert.Kernel.S128x256 e) (y : Cert.Kernel.S128x256.Idx) : f y = oAt f (y 0).val (Shape.ofLane (d := ![256]) (y 1)) := by
  refine congrArg f (funext fun a => ?_)
  refine Fin.cases ?_ (fun b => ?_) a
  · exact Fin.ext (Nat.mod_eq_of_lt (y 0).isLt).symm
  · obtain rfl : b = 0 := Subsingleton.elim _ _
    rfl

/-- Results whose every row is one the kernel makes are the reference's. -/
theorem eq_top (X : Vec Bits Cert.Kernel.S128x32768 .f32) (fv : Vec Bits Cert.Kernel.S128x256 .f32) (fi : Vec Bits Cert.Kernel.S128x256 .i32)
    (h : ∀ r < 128, RowRes (F := Bits) (xAt X r) (oAt fv r) (oAt fi r)) : fv = (Ref.top X).1 ∧ fi = (Ref.top X).2 :=
  ⟨funext fun y => by rw [top_fst, eq_oAt fv y]; exact ((h _ (y 0).isLt).eq_sorted (y 1)).1,
    funext fun y => by rw [top_snd, eq_oAt fi y]; exact ((h _ (y 0).isLt).eq_sorted (y 1)).2⟩

end Cert.Proof.TopRow

end
-- ==== Proof.lean ====
module

public import proofs.«01_k».proof.Defs
public import proofs.«01_k».proof.Proof.Launch
public import proofs.«01_k».proof.Proof.Ref

@[expose] public section

noncomputable section

namespace Cert.Proof

open Idealize.ShloMosaic Idealize.ShloMosaic.StableHlo Idealize.SL.Sem

/-- The kernel's two results are the reference's, bit for bit, whatever the logits. -/
theorem bitexact : Cert.bitexact_Kernel_Reference (hKernel := Cert.Kernel.Gen.facts) (hReference := TopRow.Ref.facts) := by
  intro m ρ m' ρ' _ hagree
  refine ⟨fun c => (TopRow.Ref.top (m (TopRow.xLoc c))).1, fun c => (TopRow.Ref.top (m (TopRow.xLoc c))).2,
    (θ_run Cert.Kernel.defs _ _).mono (fun r h c => ?_) (TopRow.run_main (F := Bits) m ρ), ?_⟩
  · obtain ⟨hx, hd⟩ := h.1 c
    obtain ⟨h0, h1⟩ := TopRow.eq_top (m (TopRow.xLoc c)) (r.2.mem (TopRow.vLoc c)) (r.2.mem (TopRow.iLoc c)) fun n hn => hd n hn trivial
    exact ⟨h0, h1, hx⟩
  · refine (θ_run Cert.Reference.defs _ _).mono (fun r h c => ⟨?_, ?_, (h c Cert.Reference.main_arg0).trans (TopRow.Ref.arg0_eq _)⟩) (TopRow.Ref.run_main m' ρ')
    · exact ((h c Cert.Reference.main_values).trans (TopRow.Ref.values_eq _)).trans (congrArg (fun x => (TopRow.Ref.top x).1) (hagree c))
    · exact ((h c Cert.Reference.main_indices).trans (TopRow.Ref.indices_eq _)).trans (congrArg (fun x => (TopRow.Ref.top x).2) (hagree c))

/-- The kernel's frame, the reference's frame and the equality of the results. -/
theorem claim : Cert.Claim := ⟨Cert.Kernel.Gen.facts, TopRow.Ref.facts, TopRow.quiescent, TopRow.Ref.quiescent, bitexact⟩

end Cert.Proof

end
